-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_attends [hPre_attends : Cert.Pre_attends.Facts] (m : (ℓ : Loc Cert.KernelIdeal.nD Cert.KernelIdeal.τ Cert.KernelIdeal.sig) → Buf (Elt Ideal) ℓ) : Prop :=
  ∀ c : Dev Cert.KernelIdeal.nD,
    (Cert.Pre_attends.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends [hPre_attends : Cert.Pre_attends.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables2 : Cert.Pre_tables2.Facts] (m : (ℓ : Loc Cert.Kernel2.nD Cert.Kernel2.τ Cert.Kernel2.sig) → Buf (Elt Bits) ℓ) : Prop :=
  ∀ c : Dev Cert.Kernel2.nD,
    (Cert.Pre_tables2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables2 : Cert.Pre_tables2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Kernel2Ideal_attends2 [hPre_attends2 : Cert.Pre_attends2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attends2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attends2 [hPre_attends2 : Cert.Pre_attends2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attends2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attends [hKernelIdeal : Cert.KernelIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attends [hReferenceIdeal : Cert.ReferenceIdeal.Facts] [hPre_attends : Cert.Pre_attends.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables2 : Cert.Pre_tables2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables2 : Cert.Pre_tables2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_attends2 [hKernel2Ideal : Cert.Kernel2Ideal.Facts] [hPre_attends2 : Cert.Pre_attends2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attends2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_attends2 [hReference2Ideal : Cert.Reference2Ideal.Facts] [hPre_attends2 : Cert.Pre_attends2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attends2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_attends [hKernelIdeal : Cert.KernelIdeal.Facts] [hReferenceIdeal : Cert.ReferenceIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "neg" .f32 0xF149F2CA#32 ⊥

def algebraic_Kernel2Ideal_Reference2Ideal_pre_attends2 [hKernel2Ideal : Cert.Kernel2Ideal.Facts] [hReference2Ideal : Cert.Reference2Ideal.Facts] [hPre_attends2 : Cert.Pre_attends2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attends2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables : Cert.Pre_tables.Facts) (hPre_attends : Cert.Pre_attends.Facts) (hPre_tables2 : Cert.Pre_tables2.Facts) (hPre_attends2 : Cert.Pre_attends2.Facts),
    quiescent_Kernel (hKernel := hKernel) (hPre_tables := hPre_tables)
    ∧ quiescent_KernelIdeal (hKernelIdeal := hKernelIdeal) (hPre_tables := hPre_tables)
    ∧ quiescent_KernelIdeal_pre_attends (hKernelIdeal := hKernelIdeal) (hPre_attends := hPre_attends)
    ∧ quiescent_ReferenceIdeal (hReferenceIdeal := hReferenceIdeal)
    ∧ quiescent_ReferenceIdeal_pre_attends (hReferenceIdeal := hReferenceIdeal) (hPre_attends := hPre_attends)
    ∧ quiescent_Kernel2 (hKernel2 := hKernel2) (hPre_tables2 := hPre_tables2)
    ∧ quiescent_Kernel2Ideal (hKernel2Ideal := hKernel2Ideal) (hPre_tables2 := hPre_tables2)
    ∧ quiescent_Kernel2Ideal_pre_attends2 (hKernel2Ideal := hKernel2Ideal) (hPre_attends2 := hPre_attends2)
    ∧ quiescent_Reference2Ideal (hReference2Ideal := hReference2Ideal)
    ∧ quiescent_Reference2Ideal_pre_attends2 (hReference2Ideal := hReference2Ideal) (hPre_attends2 := hPre_attends2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_attends (hKernelIdeal := hKernelIdeal) (hReferenceIdeal := hReferenceIdeal) (hPre_attends := hPre_attends)
    ∧ preserves_Kernel2_Kernel2Ideal
    ∧ algebraic_Kernel2Ideal_Reference2Ideal_pre_attends2 (hKernel2Ideal := hKernel2Ideal) (hReference2Ideal := hReference2Ideal) (hPre_attends2 := hPre_attends2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_attends.lean ====
abbrev S528 : Shape := ⟨1, ![528]⟩
abbrev S2x16384x1024 : Shape := ⟨3, ![2, 16384, 1024]⟩
abbrev S2x32x640x512 : Shape := ⟨4, ![2, 32, 640, 512]⟩
abbrev S2x32x8x80x512 : Shape := ⟨5, ![2, 32, 8, 80, 512]⟩
abbrev S2x32x8x1x512 : Shape := ⟨5, ![2, 32, 8, 1, 512]⟩
abbrev S2x32x8x512 : Shape := ⟨4, ![2, 32, 8, 512]⟩
abbrev S1 : Shape := ⟨1, ![1]⟩
abbrev S_ : Shape := ⟨0, ![]⟩
abbrev S527 : Shape := ⟨1, ![527]⟩

class Facts : Prop where
  bitsLt_bf16_f32 : FTy.bits .bf16 < FTy.bits .f32
  shapeCasts_S2x32x640x512_S2x32x8x80x512 : S2x32x640x512.ShapeCasts S2x32x8x80x512
  slices_S2x32x8x80x512_S2x32x8x1x512_0_0_0_64_0 : S2x32x8x80x512.Slices ![0, 0, 0, 64, 0] S2x32x8x1x512
  shapeCasts_S2x32x8x1x512_S2x32x8x512 : S2x32x8x1x512.ShapeCasts S2x32x8x512
  slices_S528_S1_0 : S528.Slices ![0] S1
  shapeCasts_S1_S_ : S1.ShapeCasts S_
  slices_S528_S527_0 : S528.Slices ![0] S527
  slices_S528_S527_1 : S528.Slices ![1] S527
  bcast_S_S527 : S_.BroadcastsInDim S527 (![] : Fin 0 → Fin S527.rank)
  reducesTo_S527_S_d0 : S527.ReducesTo [0] S_
  h_S_ : 0 < S_.numel
  bcast_S_S2x16384x1024 : S_.BroadcastsInDim S2x16384x1024 (![] : Fin 0 → Fin S2x16384x1024.rank)
  reducesTo_S2x16384x1024_S_d0_1_2 : S2x16384x1024.ReducesTo [0, 1, 2] S_
  bcast_S_S2x32x8x512 : S_.BroadcastsInDim S2x32x8x512 (![] : Fin 0 → Fin S2x32x8x512.rank)
  reducesTo_S2x32x8x512_S_d0_1_2_3 : S2x32x8x512.ReducesTo [0, 1, 2, 3] S_

variable [Facts]

def fn_where {F : FTy → Type} [FloatOps F] (arg0 : IVec S527 1) (arg1 : IVec S527 32) (arg2 : IVec S527 32) : IVec S527 32 :=
  let v0 : IVec S527 32 := select arg0 arg1 arg2
  v0

def fn_where_0 {F : FTy → Type} [FloatOps F] (arg0 : IVec S527 1) (arg1 : IVec S_ 32) (arg2 : IVec S527 32) : IVec S527 32 :=
  let v0 : IVec S_ 32 := id arg1
  let v1 : IVec S527 32 := broadcastInDim S527 ![] bcast_S_S527 v0
  let v2 : IVec S527 32 := select arg0 v1 arg2
  v2

def fn_part2 {F : FTy → Type} [FloatOps F] (main_v3 : FVec F S2x32x8x512 .f32) (main_v34 : IVec S_ 1) (main_v36 : FVec F S2x16384x1024 .f32) (main_v37 : FVec F S2x16384x1024 .f32) : IVec S_ 1 :=
  let main_v38 : IVec S2x16384x1024 1 := cmpf .olt main_v36 main_v37
  let main_c_8 : IVec S_ 1 := constantI S_ 1 1#1
  let main_v39 : IVec S_ 1 := (fun x v => Host.reduce IntOp.andi x v reducesTo_S2x16384x1024_S_d0_1_2 h_S_) main_v38 main_c_8
  let main_v40 : IVec S_ 1 := andi main_v34 main_v39
  let main_cst_9 : FVec F S_ .f32 := constant S_ .f32 0x3F800000#32
  let main_v41 : FVec F S2x32x8x512 .f32 := broadcastInDim S2x32x8x512 ![] bcast_S_S2x32x8x512 main_cst_9
  let main_v42 : IVec S2x32x8x512 1 := cmpf .oeq main_v3 main_v41
  let main_c_10 : IVec S_ 1 := constantI S_ 1 1#1
  let main_v43 : IVec S_ 1 := (fun x v => Host.reduce IntOp.andi x v reducesTo_S2x32x8x512_S_d0_1_2_3 h_S_) main_v42 main_c_10
  let main_v44 : IVec S_ 1 := andi main_v40 main_v43
  main_v44

def fn_part1 {F : FTy → Type} [FloatOps F] (main_arg1 : IVec S528 32) (main_arg2 : FVec F S2x16384x1024 .bf16) (main_arg3 : FVec F S2x16384x1024 .bf16) (main_v3 : FVec F S2x32x8x512 .f32) (main_v10 : IVec S_ 1) (main_v11 : IVec S527 32) (main_v12 : IVec S527 32) (main_v19 : IVec S_ 1) : IVec S_ 1 :=
  let main_v20 : IVec S_ 1 := andi main_v10 main_v19
  let main_v21 : IVec S527 32 := (extractStridedSlice S527 ![1] · slices_S528_S527_1) main_arg1
  let main_v22 : IVec S527 1 := cmpi .eq main_v12 main_v11
  let main_c_3 : IVec S_ 32 := constantI S_ 32 1#32
  let main_v23 : IVec S527 32 := broadcastInDim S527 ![] bcast_S_S527 main_c_3
  let main_v24 : IVec S527 32 := addi main_v12 main_v23
  let main_c_4 : IVec S_ 32 := constantI S_ 32 0#32
  let main_v25 : IVec S527 32 := fn_where_0 (F := F) main_v22 main_c_4 main_v24
  let main_v26 : IVec S527 1 := cmpi .eq main_v21 main_v25
  let main_c_5 : IVec S_ 1 := constantI S_ 1 1#1
  let main_v27 : IVec S_ 1 := (fun x v => Host.reduce IntOp.andi x v reducesTo_S527_S_d0 h_S_) main_v26 main_c_5
  let main_v28 : IVec S_ 1 := andi main_v20 main_v27
  let main_v29 : FVec F S2x16384x1024 .f32 := (extf .f32 · bitsLt_bf16_f32) main_arg2
  let main_v30 : FVec F S2x16384x1024 .f32 := Host.absf main_v29
  let main_cst : FVec F S_ .f32 := constant S_ .f32 0x7F800000#32
  let main_v31 : FVec F S2x16384x1024 .f32 := broadcastInDim S2x16384x1024 ![] bcast_S_S2x16384x1024 main_cst
  let main_v32 : IVec S2x16384x1024 1 := cmpf .olt main_v30 main_v31
  let main_c_6 : IVec S_ 1 := constantI S_ 1 1#1
  let main_v33 : IVec S_ 1 := (fun x v => Host.reduce IntOp.andi x v reducesTo_S2x16384x1024_S_d0_1_2 h_S_) main_v32 main_c_6
  let main_v34 : IVec S_ 1 := andi main_v28 main_v33
  let main_v35 : FVec F S2x16384x1024 .f32 := (extf .f32 · bitsLt_bf16_f32) main_arg3
  let main_v36 : FVec F S2x16384x1024 .f32 := Host.absf main_v35
  let main_cst_7 : FVec F S_ .f32 := constant S_ .f32 0x7F800000#32
  let main_v37 : FVec F S2x16384x1024 .f32 := broadcastInDim S2x16384x1024 ![] bcast_S_S2x16384x1024 main_cst_7
  fn_part2 (F := F) main_v3 main_v34 main_v36 main_v37

def fn {F : FTy → Type} [FloatOps F] (main_arg0 : IVec S528 32) (main_arg1 : IVec S528 32) (main_arg2 : FVec F S2x16384x1024 .bf16) (main_arg3 : FVec F S2x16384x1024 .bf16) (main_arg4 : FVec F S2x32x640x512 .bf16) : IVec S_ 1 :=
  let main_v0 : FVec F S2x32x640x512 .f32 := (extf .f32 · bitsLt_bf16_f32) main_arg4
  let main_v1 : FVec F S2x32x8x80x512 .f32 := shapeCast S2x32x8x80x512 main_v0 shapeCasts_S2x32x640x512_S2x32x8x80x512
  let main_v2 : FVec F S2x32x8x1x512 .f32 := (extractStridedSlice S2x32x8x1x512 ![0, 0, 0, 64, 0] · slices_S2x32x8x80x512_S2x32x8x1x512_0_0_0_64_0) main_v1
  let main_v3 : FVec F S2x32x8x512 .f32 := shapeCast S2x32x8x512 main_v2 shapeCasts_S2x32x8x1x512_S2x32x8x512
  let main_v4 : IVec S1 32 := (extractStridedSlice S1 ![0] · slices_S528_S1_0) main_arg0
  let main_v5 : IVec S_ 32 := shapeCast S_ main_v4 shapeCasts_S1_S_
  let main_c : IVec S_ 32 := constantI S_ 32 0#32
  let main_v6 : IVec S_ 1 := cmpi .eq main_v5 main_c
  let main_v7 : IVec S1 32 := (extractStridedSlice S1 ![0] · slices_S528_S1_0) main_arg1
  let main_v8 : IVec S_ 32 := shapeCast S_ main_v7 shapeCasts_S1_S_
  let main_c_0 : IVec S_ 32 := constantI S_ 32 0#32
  let main_v9 : IVec S_ 1 := cmpi .eq main_v8 main_c_0
  let main_v10 : IVec S_ 1 := andi main_v6 main_v9
  let main_v11 : IVec S527 32 := (extractStridedSlice S527 ![0] · slices_S528_S527_0) main_arg0
  let main_v12 : IVec S527 32 := (extractStridedSlice S527 ![0] · slices_S528_S527_0) main_arg1
  let main_v13 : IVec S527 32 := (extractStridedSlice S527 ![1] · slices_S528_S527_1) main_arg0
  let main_v14 : IVec S527 1 := cmpi .eq main_v12 main_v11
  let main_c_1 : IVec S_ 32 := constantI S_ 32 1#32
  let main_v15 : IVec S527 32 := broadcastInDim S527 ![] bcast_S_S527 main_c_1
  let main_v16 : IVec S527 32 := addi main_v11 main_v15
  let main_v17 : IVec S527 32 := fn_where (F := F) main_v14 main_v16 main_v11
  let main_v18 : IVec S527 1 := cmpi .eq main_v13 main_v17
  let main_c_2 : IVec S_ 1 := constantI S_ 1 1#1
  let main_v19 : IVec S_ 1 := (fun x v => Host.reduce IntOp.andi x v reducesTo_S527_S_d0 h_S_) main_v18 main_c_2
  fn_part1 (F := F) main_arg1 main_arg2 main_arg3 main_v3 main_v10 main_v11 main_v12 main_v19
-- ==== Pre_attends2.lean ====
abbrev S528 : Shape := ⟨1, ![528]⟩
abbrev S2x16384x1024 : Shape := ⟨3, ![2, 16384, 1024]⟩
abbrev S2x32x640x512 : Shape := ⟨4, ![2, 32, 640, 512]⟩
abbrev S2x8x16384 : Shape := ⟨3, ![2, 8, 16384]⟩
abbrev S2x16384x8 : Shape := ⟨3, ![2, 16384, 8]⟩
abbrev S2x32x8x80x512 : Shape := ⟨5, ![2, 32, 8, 80, 512]⟩
abbrev S2x32x8x1x512 : Shape := ⟨5, ![2, 32, 8, 1, 512]⟩
abbrev S2x32x8x512 : Shape := ⟨4, ![2, 32, 8, 512]⟩
abbrev S1 : Shape := ⟨1, ![1]⟩
abbrev S_ : Shape := ⟨0, ![]⟩
abbrev S527 : Shape := ⟨1, ![527]⟩

class Facts : Prop where
  bitsLt_bf16_f32 : FTy.bits .bf16 < FTy.bits .f32
  shapeCasts_S2x32x640x512_S2x32x8x80x512 : S2x32x640x512.ShapeCasts S2x32x8x80x512
  slices_S2x32x8x80x512_S2x32x8x1x512_0_0_0_64_0 : S2x32x8x80x512.Slices ![0, 0, 0, 64, 0] S2x32x8x1x512
  shapeCasts_S2x32x8x1x512_S2x32x8x512 : S2x32x8x1x512.ShapeCasts S2x32x8x512
  slices_S528_S1_0 : S528.Slices ![0] S1
  shapeCasts_S1_S_ : S1.ShapeCasts S_
  slices_S528_S527_0 : S528.Slices ![0] S527
  slices_S528_S527_1 : S528.Slices ![1] S527
  bcast_S_S527 : S_.BroadcastsInDim S527 (![] : Fin 0 → Fin S527.rank)
  reducesTo_S527_S_d0 : S527.ReducesTo [0] S_
  h_S_ : 0 < S_.numel
  bcast_S_S2x16384x1024 : S_.BroadcastsInDim S2x16384x1024 (![] : Fin 0 → Fin S2x16384x1024.rank)
  reducesTo_S2x16384x1024_S_d0_1_2 : S2x16384x1024.ReducesTo [0, 1, 2] S_
  bcast_S_S2x32x8x512 : S_.BroadcastsInDim S2x32x8x512 (![] : Fin 0 → Fin S2x32x8x512.rank)
  reducesTo_S2x32x8x512_S_d0_1_2_3 : S2x32x8x512.ReducesTo [0, 1, 2, 3] S_
  bcast_S_S2x8x16384 : S_.BroadcastsInDim S2x8x16384 (![] : Fin 0 → Fin S2x8x16384.rank)
  reducesTo_S2x8x16384_S_d0_1_2 : S2x8x16384.ReducesTo [0, 1, 2] S_
  bcast_S_S2x16384x8 : S_.BroadcastsInDim S2x16384x8 (![] : Fin 0 → Fin S2x16384x8.rank)
  reducesTo_S2x16384x8_S_d0_1_2 : S2x16384x8.ReducesTo [0, 1, 2] S_

variable [Facts]

def fn_where {F : FTy → Type} [FloatOps F] (arg0 : IVec S527 1) (arg1 : IVec S527 32) (arg2 : IVec S527 32) : IVec S527 32 :=
  let v0 : IVec S527 32 := select arg0 arg1 arg2
  v0

def fn_where_0 {F : FTy → Type} [FloatOps F] (arg0 : IVec S527 1) (arg1 : IVec S_ 32) (arg2 : IVec S527 32) : IVec S527 32 :=
  let v0 : IVec S_ 32 := id arg1
  let v1 : IVec S527 32 := broadcastInDim S527 ![] bcast_S_S527 v0
  let v2 : IVec S527 32 := select arg0 v1 arg2
  v2

def fn_part2 {F : FTy → Type} [FloatOps F] (main_arg5 : FVec F S2x8x16384 .f32) (main_arg6 : FVec F S2x16384x8 .f32) (main_v3 : FVec F S2x32x8x512 .f32) (main_v34 : IVec S_ 1) (main_v36 : FVec F S2x16384x1024 .f32) (main_v37 : FVec F S2x16384x1024 .f32) : IVec S_ 1 :=
  let main_v38 : IVec S2x16384x1024 1 := cmpf .olt main_v36 main_v37
  let main_c_8 : IVec S_ 1 := constantI S_ 1 1#1
  let main_v39 : IVec S_ 1 := (fun x v => Host.reduce IntOp.andi x v reducesTo_S2x16384x1024_S_d0_1_2 h_S_) main_v38 main_c_8
  let main_v40 : IVec S_ 1 := andi main_v34 main_v39
  let main_cst_9 : FVec F S_ .f32 := constant S_ .f32 0x3F800000#32
  let main_v41 : FVec F S2x32x8x512 .f32 := broadcastInDim S2x32x8x512 ![] bcast_S_S2x32x8x512 main_cst_9
  let main_v42 : IVec S2x32x8x512 1 := cmpf .oeq main_v3 main_v41
  let main_c_10 : IVec S_ 1 := constantI S_ 1 1#1
  let main_v43 : IVec S_ 1 := (fun x v => Host.reduce IntOp.andi x v reducesTo_S2x32x8x512_S_d0_1_2_3 h_S_) main_v42 main_c_10
  let main_v44 : IVec S_ 1 := andi main_v40 main_v43
  let main_v45 : FVec F S2x8x16384 .f32 := Host.absf main_arg5
  let main_cst_11 : FVec F S_ .f32 := constant S_ .f32 0x7F800000#32
  let main_v46 : FVec F S2x8x16384 .f32 := broadcastInDim S2x8x16384 ![] bcast_S_S2x8x16384 main_cst_11
  let main_v47 : IVec S2x8x16384 1 := cmpf .olt main_v45 main_v46
  let main_c_12 : IVec S_ 1 := constantI S_ 1 1#1
  let main_v48 : IVec S_ 1 := (fun x v => Host.reduce IntOp.andi x v reducesTo_S2x8x16384_S_d0_1_2 h_S_) main_v47 main_c_12
  let main_v49 : IVec S_ 1 := andi main_v44 main_v48
  let main_v50 : FVec F S2x16384x8 .f32 := Host.absf main_arg6
  let main_cst_13 : FVec F S_ .f32 := constant S_ .f32 0x7F800000#32
  let main_v51 : FVec F S2x16384x8 .f32 := broadcastInDim S2x16384x8 ![] bcast_S_S2x16384x8 main_cst_13
  let main_v52 : IVec S2x16384x8 1 := cmpf .olt main_v50 main_v51
  let main_c_14 : IVec S_ 1 := constantI S_ 1 1#1
  let main_v53 : IVec S_ 1 := (fun x v => Host.reduce IntOp.andi x v reducesTo_S2x16384x8_S_d0_1_2 h_S_) main_v52 main_c_14
  let main_v54 : IVec S_ 1 := andi main_v49 main_v53
  main_v54

def fn_part1 {F : FTy → Type} [FloatOps F] (main_arg1 : IVec S528 32) (main_arg2 : FVec F S2x16384x1024 .bf16) (main_arg3 : FVec F S2x16384x1024 .bf16) (main_arg5 : FVec F S2x8x16384 .f32) (main_arg6 : FVec F S2x16384x8 .f32) (main_v3 : FVec F S2x32x8x512 .f32) (main_v10 : IVec S_ 1) (main_v11 : IVec S527 32) (main_v12 : IVec S527 32) (main_v19 : IVec S_ 1) : IVec S_ 1 :=
  let main_v20 : IVec S_ 1 := andi main_v10 main_v19
  let main_v21 : IVec S527 32 := (extractStridedSlice S527 ![1] · slices_S528_S527_1) main_arg1
  let main_v22 : IVec S527 1 := cmpi .eq main_v12 main_v11
  let main_c_3 : IVec S_ 32 := constantI S_ 32 1#32
  let main_v23 : IVec S527 32 := broadcastInDim S527 ![] bcast_S_S527 main_c_3
  let main_v24 : IVec S527 32 := addi main_v12 main_v23
  let main_c_4 : IVec S_ 32 := constantI S_ 32 0#32
  let main_v25 : IVec S527 32 := fn_where_0 (F := F) main_v22 main_c_4 main_v24
  let main_v26 : IVec S527 1 := cmpi .eq main_v21 main_v25
  let main_c_5 : IVec S_ 1 := constantI S_ 1 1#1
  let main_v27 : IVec S_ 1 := (fun x v => Host.reduce IntOp.andi x v reducesTo_S527_S_d0 h_S_) main_v26 main_c_5
  let main_v28 : IVec S_ 1 := andi main_v20 main_v27
  let main_v29 : FVec F S2x16384x1024 .f32 := (extf .f32 · bitsLt_bf16_f32) main_arg2
  let main_v30 : FVec F S2x16384x1024 .f32 := Host.absf main_v29
  let main_cst : FVec F S_ .f32 := constant S_ .f32 0x7F800000#32
  let main_v31 : FVec F S2x16384x1024 .f32 := broadcastInDim S2x16384x1024 ![] bcast_S_S2x16384x1024 main_cst
  let main_v32 : IVec S2x16384x1024 1 := cmpf .olt main_v30 main_v31
  let main_c_6 : IVec S_ 1 := constantI S_ 1 1#1
  let main_v33 : IVec S_ 1 := (fun x v => Host.reduce IntOp.andi x v reducesTo_S2x16384x1024_S_d0_1_2 h_S_) main_v32 main_c_6
  let main_v34 : IVec S_ 1 := andi main_v28 main_v33
  let main_v35 : FVec F S2x16384x1024 .f32 := (extf .f32 · bitsLt_bf16_f32) main_arg3
  let main_v36 : FVec F S2x16384x1024 .f32 := Host.absf main_v35
  let main_cst_7 : FVec F S_ .f32 := constant S_ .f32 0x7F800000#32
  let main_v37 : FVec F S2x16384x1024 .f32 := broadcastInDim S2x16384x1024 ![] bcast_S_S2x16384x1024 main_cst_7
  fn_part2 (F := F) main_arg5 main_arg6 main_v3 main_v34 main_v36 main_v37

def fn {F : FTy → Type} [FloatOps F] (main_arg0 : IVec S528 32) (main_arg1 : IVec S528 32) (main_arg2 : FVec F S2x16384x1024 .bf16) (main_arg3 : FVec F S2x16384x1024 .bf16) (main_arg4 : FVec F S2x32x640x512 .bf16) (main_arg5 : FVec F S2x8x16384 .f32) (main_arg6 : FVec F S2x16384x8 .f32) : IVec S_ 1 :=
  let main_v0 : FVec F S2x32x640x512 .f32 := (extf .f32 · bitsLt_bf16_f32) main_arg4
  let main_v1 : FVec F S2x32x8x80x512 .f32 := shapeCast S2x32x8x80x512 main_v0 shapeCasts_S2x32x640x512_S2x32x8x80x512
  let main_v2 : FVec F S2x32x8x1x512 .f32 := (extractStridedSlice S2x32x8x1x512 ![0, 0, 0, 64, 0] · slices_S2x32x8x80x512_S2x32x8x1x512_0_0_0_64_0) main_v1
  let main_v3 : FVec F S2x32x8x512 .f32 := shapeCast S2x32x8x512 main_v2 shapeCasts_S2x32x8x1x512_S2x32x8x512
  let main_v4 : IVec S1 32 := (extractStridedSlice S1 ![0] · slices_S528_S1_0) main_arg0
  let main_v5 : IVec S_ 32 := shapeCast S_ main_v4 shapeCasts_S1_S_
  let main_c : IVec S_ 32 := constantI S_ 32 0#32
  let main_v6 : IVec S_ 1 := cmpi .eq main_v5 main_c
  let main_v7 : IVec S1 32 := (extractStridedSlice S1 ![0] · slices_S528_S1_0) main_arg1
  let main_v8 : IVec S_ 32 := shapeCast S_ main_v7 shapeCasts_S1_S_
  let main_c_0 : IVec S_ 32 := constantI S_ 32 0#32
  let main_v9 : IVec S_ 1 := cmpi .eq main_v8 main_c_0
  let main_v10 : IVec S_ 1 := andi main_v6 main_v9
  let main_v11 : IVec S527 32 := (extractStridedSlice S527 ![0] · slices_S528_S527_0) main_arg0
  let main_v12 : IVec S527 32 := (extractStridedSlice S527 ![0] · slices_S528_S527_0) main_arg1
  let main_v13 : IVec S527 32 := (extractStridedSlice S527 ![1] · slices_S528_S527_1) main_arg0
  let main_v14 : IVec S527 1 := cmpi .eq main_v12 main_v11
  let main_c_1 : IVec S_ 32 := constantI S_ 32 1#32
  let main_v15 : IVec S527 32 := broadcastInDim S527 ![] bcast_S_S527 main_c_1
  let main_v16 : IVec S527 32 := addi main_v11 main_v15
  let main_v17 : IVec S527 32 := fn_where (F := F) main_v14 main_v16 main_v11
  let main_v18 : IVec S527 1 := cmpi .eq main_v13 main_v17
  let main_c_2 : IVec S_ 1 := constantI S_ 1 1#1
  let main_v19 : IVec S_ 1 := (fun x v => Host.reduce IntOp.andi x v reducesTo_S527_S_d0 h_S_) main_v18 main_c_2
  fn_part1 (F := F) main_arg1 main_arg2 main_arg3 main_arg5 main_arg6 main_v3 main_v10 main_v11 main_v12 main_v19
-- ==== Pre_tables.lean ====
abbrev S528 : Shape := ⟨1, ![528]⟩
abbrev S2x16384x1024 : Shape := ⟨3, ![2, 16384, 1024]⟩
abbrev S2x32x640x512 : Shape := ⟨4, ![2, 32, 640, 512]⟩
abbrev S1 : Shape := ⟨1, ![1]⟩
abbrev S_ : Shape := ⟨0, ![]⟩
abbrev S527 : Shape := ⟨1, ![527]⟩

class Facts : Prop where
  slices_S528_S1_0 : S528.Slices ![0] S1
  shapeCasts_S1_S_ : S1.ShapeCasts S_
  slices_S528_S527_0 : S528.Slices ![0] S527
  slices_S528_S527_1 : S528.Slices ![1] S527
  bcast_S_S527 : S_.BroadcastsInDim S527 (![] : Fin 0 → Fin S527.rank)
  reducesTo_S527_S_d0 : S527.ReducesTo [0] S_
  h_S_ : 0 < S_.numel

variable [Facts]

def fn_where {F : FTy → Type} [FloatOps F] (arg0 : IVec S527 1) (arg1 : IVec S527 32) (arg2 : IVec S527 32) : IVec S527 32 :=
  let v0 : IVec S527 32 := select arg0 arg1 arg2
  v0

def fn_where_0 {F : FTy → Type} [FloatOps F] (arg0 : IVec S527 1) (arg1 : IVec S_ 32) (arg2 : IVec S527 32) : IVec S527 32 :=
  let v0 : IVec S_ 32 := id arg1
  let v1 : IVec S527 32 := broadcastInDim S527 ![] bcast_S_S527 v0
  let v2 : IVec S527 32 := select arg0 v1 arg2
  v2

def fn_part1 {F : FTy → Type} [FloatOps F] (main_v8 : IVec S527 32) (main_v16 : IVec S_ 1) (main_v17 : IVec S527 32) (main_v18 : IVec S527 1) (main_c_3 : IVec S_ 32) : IVec S_ 1 :=
  let main_v19 : IVec S527 32 := broadcastInDim S527 ![] bcast_S_S527 main_c_3
  let main_v20 : IVec S527 32 := addi main_v8 main_v19
  let main_c_4 : IVec S_ 32 := constantI S_ 32 0#32
  let main_v21 : IVec S527 32 := fn_where_0 (F := F) main_v18 main_c_4 main_v20
  let main_v22 : IVec S527 1 := cmpi .eq main_v17 main_v21
  let main_c_5 : IVec S_ 1 := constantI S_ 1 1#1
  let main_v23 : IVec S_ 1 := (fun x v => Host.reduce IntOp.andi x v reducesTo_S527_S_d0 h_S_) main_v22 main_c_5
  let main_v24 : IVec S_ 1 := andi main_v16 main_v23
  main_v24

def fn {F : FTy → Type} [FloatOps F] (main_arg0 : IVec S528 32) (main_arg1 : IVec S528 32) (main_arg2 : FVec F S2x16384x1024 .bf16) (main_arg3 : FVec F S2x16384x1024 .bf16) (main_arg4 : FVec F S2x32x640x512 .bf16) : IVec S_ 1 :=
  let main_v0 : IVec S1 32 := (extractStridedSlice S1 ![0] · slices_S528_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S528_S1_0) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S527 32 := (extractStridedSlice S527 ![0] · slices_S528_S527_0) main_arg0
  let main_v8 : IVec S527 32 := (extractStridedSlice S527 ![0] · slices_S528_S527_0) main_arg1
  let main_v9 : IVec S527 32 := (extractStridedSlice S527 ![1] · slices_S528_S527_1) main_arg0
  let main_v10 : IVec S527 1 := cmpi .eq main_v8 main_v7
  let main_c_1 : IVec S_ 32 := constantI S_ 32 1#32
  let main_v11 : IVec S527 32 := broadcastInDim S527 ![] bcast_S_S527 main_c_1
  let main_v12 : IVec S527 32 := addi main_v7 main_v11
  let main_v13 : IVec S527 32 := fn_where (F := F) main_v10 main_v12 main_v7
  let main_v14 : IVec S527 1 := cmpi .eq main_v9 main_v13
  let main_c_2 : IVec S_ 1 := constantI S_ 1 1#1
  let main_v15 : IVec S_ 1 := (fun x v => Host.reduce IntOp.andi x v reducesTo_S527_S_d0 h_S_) main_v14 main_c_2
  let main_v16 : IVec S_ 1 := andi main_v6 main_v15
  let main_v17 : IVec S527 32 := (extractStridedSlice S527 ![1] · slices_S528_S527_1) main_arg1
  let main_v18 : IVec S527 1 := cmpi .eq main_v8 main_v7
  let main_c_3 : IVec S_ 32 := constantI S_ 32 1#32
  fn_part1 (F := F) main_v8 main_v16 main_v17 main_v18 main_c_3
-- ==== Pre_tables2.lean ====
abbrev S528 : Shape := ⟨1, ![528]⟩
abbrev S2x16384x1024 : Shape := ⟨3, ![2, 16384, 1024]⟩
abbrev S2x32x640x512 : Shape := ⟨4, ![2, 32, 640, 512]⟩
abbrev S2x8x16384 : Shape := ⟨3, ![2, 8, 16384]⟩
abbrev S2x16384x8 : Shape := ⟨3, ![2, 16384, 8]⟩
abbrev S1 : Shape := ⟨1, ![1]⟩
abbrev S_ : Shape := ⟨0, ![]⟩
abbrev S527 : Shape := ⟨1, ![527]⟩

class Facts : Prop where
  slices_S528_S1_0 : S528.Slices ![0] S1
  shapeCasts_S1_S_ : S1.ShapeCasts S_
  slices_S528_S527_0 : S528.Slices ![0] S527
  slices_S528_S527_1 : S528.Slices ![1] S527
  bcast_S_S527 : S_.BroadcastsInDim S527 (![] : Fin 0 → Fin S527.rank)
  reducesTo_S527_S_d0 : S527.ReducesTo [0] S_
  h_S_ : 0 < S_.numel

variable [Facts]

def fn_where {F : FTy → Type} [FloatOps F] (arg0 : IVec S527 1) (arg1 : IVec S527 32) (arg2 : IVec S527 32) : IVec S527 32 :=
  let v0 : IVec S527 32 := select arg0 arg1 arg2
  v0

def fn_where_0 {F : FTy → Type} [FloatOps F] (arg0 : IVec S527 1) (arg1 : IVec S_ 32) (arg2 : IVec S527 32) : IVec S527 32 :=
  let v0 : IVec S_ 32 := id arg1
  let v1 : IVec S527 32 := broadcastInDim S527 ![] bcast_S_S527 v0
  let v2 : IVec S527 32 := select arg0 v1 arg2
  v2

def fn_part1 {F : FTy → Type} [FloatOps F] (main_v8 : IVec S527 32) (main_v16 : IVec S_ 1) (main_v17 : IVec S527 32) (main_v18 : IVec S527 1) (main_c_3 : IVec S_ 32) : IVec S_ 1 :=
  let main_v19 : IVec S527 32 := broadcastInDim S527 ![] bcast_S_S527 main_c_3
  let main_v20 : IVec S527 32 := addi main_v8 main_v19
  let main_c_4 : IVec S_ 32 := constantI S_ 32 0#32
  let main_v21 : IVec S527 32 := fn_where_0 (F := F) main_v18 main_c_4 main_v20
  let main_v22 : IVec S527 1 := cmpi .eq main_v17 main_v21
  let main_c_5 : IVec S_ 1 := constantI S_ 1 1#1
  let main_v23 : IVec S_ 1 := (fun x v => Host.reduce IntOp.andi x v reducesTo_S527_S_d0 h_S_) main_v22 main_c_5
  let main_v24 : IVec S_ 1 := andi main_v16 main_v23
  main_v24

def fn {F : FTy → Type} [FloatOps F] (main_arg0 : IVec S528 32) (main_arg1 : IVec S528 32) (main_arg2 : FVec F S2x16384x1024 .bf16) (main_arg3 : FVec F S2x16384x1024 .bf16) (main_arg4 : FVec F S2x32x640x512 .bf16) (main_arg5 : FVec F S2x8x16384 .f32) (main_arg6 : FVec F S2x16384x8 .f32) : IVec S_ 1 :=
  let main_v0 : IVec S1 32 := (extractStridedSlice S1 ![0] · slices_S528_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S528_S1_0) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S527 32 := (extractStridedSlice S527 ![0] · slices_S528_S527_0) main_arg0
  let main_v8 : IVec S527 32 := (extractStridedSlice S527 ![0] · slices_S528_S527_0) main_arg1
  let main_v9 : IVec S527 32 := (extractStridedSlice S527 ![1] · slices_S528_S527_1) main_arg0
  let main_v10 : IVec S527 1 := cmpi .eq main_v8 main_v7
  let main_c_1 : IVec S_ 32 := constantI S_ 32 1#32
  let main_v11 : IVec S527 32 := broadcastInDim S527 ![] bcast_S_S527 main_c_1
  let main_v12 : IVec S527 32 := addi main_v7 main_v11
  let main_v13 : IVec S527 32 := fn_where (F := F) main_v10 main_v12 main_v7
  let main_v14 : IVec S527 1 := cmpi .eq main_v9 main_v13
  let main_c_2 : IVec S_ 1 := constantI S_ 1 1#1
  let main_v15 : IVec S_ 1 := (fun x v => Host.reduce IntOp.andi x v reducesTo_S527_S_d0 h_S_) main_v14 main_c_2
  let main_v16 : IVec S_ 1 := andi main_v6 main_v15
  let main_v17 : IVec S527 32 := (extractStridedSlice S527 ![1] · slices_S528_S527_1) main_arg1
  let main_v18 : IVec S527 1 := cmpi .eq main_v8 main_v7
  let main_c_3 : IVec S_ 32 := constantI S_ 32 1#32
  fn_part1 (F := F) main_v8 main_v16 main_v17 main_v18 main_c_3
-- ==== Kernel.lean ====
abbrev S528 : Shape := ⟨1, ![528]⟩
abbrev S2x16384x1024 : Shape := ⟨3, ![2, 16384, 1024]⟩
abbrev S2x32x640x512 : Shape := ⟨4, ![2, 32, 640, 512]⟩
abbrev S2x16384x512 : Shape := ⟨3, ![2, 16384, 512]⟩
abbrev S1x512x1024 : Shape := ⟨3, ![1, 512, 1024]⟩
abbrev S1 : Shape := ⟨1, ![1]⟩
abbrev S1x1x640x512 : Shape := ⟨4, ![1, 1, 640, 512]⟩
abbrev S1x512x512 : Shape := ⟨3, ![1, 512, 512]⟩
abbrev S1x4096 : Shape := ⟨2, ![1, 4096]⟩
abbrev S640x512 : Shape := ⟨2, ![640, 512]⟩
abbrev S512x4096 : Shape := ⟨2, ![512, 4096]⟩
abbrev S1x512x128 : Shape := ⟨3, ![1, 512, 128]⟩
abbrev S512x128 : Shape := ⟨2, ![512, 128]⟩
abbrev S512x512 : Shape := ⟨2, ![512, 512]⟩
abbrev S4096 : Shape := ⟨1, ![4096]⟩
abbrev S1x512 : Shape := ⟨2, ![1, 512]⟩
abbrev S80x512 : Shape := ⟨2, ![80, 512]⟩
abbrev S1x1x80x512 : Shape := ⟨4, ![1, 1, 80, 512]⟩
abbrev S64x512 : Shape := ⟨2, ![64, 512]⟩

abbrev nBuf : Space → Nat
  | .hbm => 4
  | .vmem => 11
  | .smem => 2
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x32x640x512, .bf16⟩
  | .hbm, ⟨3, _⟩ => ⟨S2x16384x512, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x640x512, .bf16⟩
  | .local _ .vmem, ⟨5, _⟩ => ⟨S1x1x640x512, .bf16⟩
  | .local _ .vmem, ⟨6, _⟩ => ⟨S1x512x512, .f32⟩
  | .local _ .vmem, ⟨7, _⟩ => ⟨S1x512x512, .f32⟩
  | .local _ .vmem, ⟨8, _⟩ => ⟨S1x4096, .f32⟩
  | .local _ .vmem, ⟨9, _⟩ => ⟨S640x512, .f32⟩
  | .local _ .vmem, ⟨10, _⟩ => ⟨S512x4096, .f32⟩
  | .local _ .smem, ⟨0, _⟩ => ⟨S528, .i32⟩
  | .local _ .smem, ⟨1, _⟩ => ⟨S528, .i32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 528], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c512_i32 : BitVec 32 := 512#32
  let v4 : BitVec 32 := Scalar.muli v1 c512_i32
  let c0_i32 : BitVec 32 := 0#32
  let v5 : BitVec 32 := Scalar.addi v4 c0_i32
  let c512_i32_6 : BitVec 32 := 512#32
  let v21 : BitVec 32 := Scalar.addi v5 c512_i32_6
  let c1_i32_7 : BitVec 32 := 1#32
  let v22 : BitVec 32 := Scalar.subi v21 c1_i32_7
  let c63_i32_8 : BitVec 32 := 63#32
  let v23 : BitVec 32 := Scalar.ori v22 c63_i32_8
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c512_i32_9 : BitVec 32 := 512#32
  let c0_i32_12 : BitVec 32 := 0#32
  let v30 : BitVec 1 := Scalar.cmpi .sgt c512_i32_9 c0_i32_12
  let v31 : BitVec 32 := Scalar.extui v30
  let c0_i32_13 : BitVec 32 := 0#32
  let v32 : BitVec 1 := Scalar.cmpi .slt c512_i32_9 c0_i32_13
  let v33 : BitVec 32 := Scalar.extui v32
  let v34 : BitVec 32 := Scalar.subi v31 v33
  let v35 : BitVec 1 := Scalar.cmpi .ne v29 v34
  let v36 : BitVec 32 := Scalar.remsi v23 c512_i32_9
  let c0_i32_14 : BitVec 32 := 0#32
  let v37 : BitVec 1 := Scalar.cmpi .ne v36 c0_i32_14
  let v38 : BitVec 1 := Scalar.andi v35 v37
  let v24 : BitVec 32 := Scalar.divsi v23 c512_i32_9
  let c1_i32_15 : BitVec 32 := 1#32
  let v39 : BitVec 32 := Scalar.subi v24 c1_i32_15
  let v40 : BitVec 32 := Scalar.select v38 v39 v24
  let c31_i32 : BitVec 32 := 31#32
  let v41 : BitVec 32 := Scalar.minsi v40 c31_i32
  let v42 : BitVec 1 := Scalar.cmpi .eq v3 v41
  let v43 : BitVec 32 := Scalar.extui v42
  let c0_i32_16 : BitVec 32 := 0#32
  let v44 : BitVec 1 := Scalar.cmpi .ne v43 c0_i32_16
  v44

def cc0_transform_0 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S528.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_3 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "neg" => some ⊥
  | _ => none
-- ==== ReferenceIdeal.lean ====
abbrev S528 : Shape := ⟨1, ![528]⟩
abbrev S2x16384x1024 : Shape := ⟨3, ![2, 16384, 1024]⟩
abbrev S2x32x640x512 : Shape := ⟨4, ![2, 32, 640, 512]⟩
abbrev S16384 : Shape := ⟨1, ![16384]⟩
abbrev S2x16384x8x128 : Shape := ⟨4, ![2, 16384, 8, 128]⟩
abbrev S2x32x8x80x512 : Shape := ⟨5, ![2, 32, 8, 80, 512]⟩
abbrev S2x32x8x64x512 : Shape := ⟨5, ![2, 32, 8, 64, 512]⟩
abbrev S2x32x512x8x64 : Shape := ⟨5, ![2, 32, 512, 8, 64]⟩
abbrev S2x16384x8x64 : Shape := ⟨4, ![2, 16384, 8, 64]⟩
abbrev S2x8x16384x16384 : Shape := ⟨4, ![2, 8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩

abbrev nBuf : Space → Nat
  | .hbm => 84
  | .vmem => 0
  | .smem => 0
  | _ => 0

abbrev bufTy : (tb : Table) → Fin (tcTables nBuf tb) → BufTy
  | .hbm, ⟨0, _⟩ => ⟨S528, .i32⟩
  | .hbm, ⟨1, _⟩ => ⟨S528, .i32⟩
  | .hbm, ⟨2, _⟩ => ⟨S2x16384x1024, .bf16⟩
  | .hbm, ⟨3, _⟩ => ⟨S2x16384x1024, .bf16⟩
  | .hbm, ⟨4, _⟩ => ⟨S2x32x640x512, .bf16⟩
  | .hbm, ⟨5, _⟩ => ⟨S16384, .i32⟩
  | .hbm, ⟨6, _⟩ => ⟨S2x16384x1024, .f32⟩
  | .hbm, ⟨7, _⟩ => ⟨S2x16384x8x128, .f32⟩
  | .hbm, ⟨8, _⟩ => ⟨S2x16384x1024, .f32⟩
  | .hbm, ⟨9, _⟩ => ⟨S2x16384x8x128, .f32⟩
  | .hbm, ⟨10, _⟩ => ⟨S2x32x640x512, .f32⟩
  | .hbm, ⟨11, _⟩ => ⟨S2x32x8x80x512, .f32⟩
  | .hbm, ⟨12, _⟩ => ⟨S2x32x8x64x512, .f32⟩
  | .hbm, ⟨13, _⟩ => ⟨S2x32x512x8x64, .f32⟩
  | .hbm, ⟨14, _⟩ => ⟨S2x16384x8x64, .f32⟩
  | .hbm, ⟨15, _⟩ => ⟨S2x8x16384x16384, .f32⟩
  | .hbm, ⟨16, _⟩ => ⟨S_, .f32⟩
  | .hbm, ⟨17, _⟩ => ⟨S_, .f32⟩
  | .hbm, ⟨18, _⟩ => ⟨S2x8x16384x16384, .f32⟩
  | .hbm, ⟨19, _⟩ => ⟨S2x8x16384x16384, .f32⟩
  | .hbm, ⟨20, _⟩ => ⟨S1x16384, .i32⟩
  | .hbm, ⟨21, _⟩ => ⟨S_, .i32⟩
  | .hbm, ⟨22, _⟩ => ⟨S_, .i32⟩
  | .hbm, ⟨23, _⟩ => ⟨S1x16384, .i32⟩
  | .hbm, ⟨24, _⟩ => ⟨S1x16384, .i32⟩
  | .hbm, ⟨25, _⟩ => ⟨S1x16384, .i32⟩
  | .hbm, ⟨26, _⟩ => ⟨S_, .i32⟩
  | .hbm, ⟨27, _⟩ => ⟨S1x16384, .i32⟩
  | .hbm, ⟨28, _⟩ => ⟨S1x16384, .i1⟩
  | .hbm, ⟨29, _⟩ => ⟨S1x16384, .i32⟩
  | .hbm, ⟨30, _⟩ => ⟨S1x16384, .i32⟩
  | .hbm, ⟨31, _⟩ => ⟨S_, .i32⟩
  | .hbm, ⟨32, _⟩ => ⟨S1x16384, .i32⟩
  | .hbm, ⟨33, _⟩ => ⟨S1x16384, .i1⟩
  | .hbm, ⟨34, _⟩ => ⟨S1x16384, .i1⟩
  | .hbm, ⟨35, _⟩ => ⟨S_, .i32⟩
  | .hbm, ⟨36, _⟩ => ⟨S1x16384, .i32⟩
  | .hbm, ⟨37, _⟩ => ⟨S1x16384, .i32⟩
  | .hbm, ⟨38, _⟩ => ⟨S1x16384, .i32⟩
  | .hbm, ⟨39, _⟩ => ⟨S16384x1, .i32⟩
  | .hbm, ⟨40, _⟩ => ⟨S_, .i32⟩
  | .hbm, ⟨41, _⟩ => ⟨S_, .i32⟩
  | .hbm, ⟨42, _⟩ => ⟨S16384x1, .i32⟩
  | .hbm, ⟨43, _⟩ => ⟨S16384x1, .i32⟩
  | .hbm, ⟨44, _⟩ => ⟨S16384x1, .i32⟩
  | .hbm, ⟨45, _⟩ => ⟨S_, .i32⟩
  | .hbm, ⟨46, _⟩ => ⟨S16384x1, .i32⟩
  | .hbm, ⟨47, _⟩ => ⟨S16384x1, .i1⟩
  | .hbm, ⟨48, _⟩ => ⟨S16384x1, .i32⟩
  | .hbm, ⟨49, _⟩ => ⟨S16384x1, .i32⟩
  | .hbm, ⟨50, _⟩ => ⟨S_, .i32⟩
  | .hbm, ⟨51, _⟩ => ⟨S16384x1, .i32⟩
  | .hbm, ⟨52, _⟩ => ⟨S16384x1, .i1⟩
  | .hbm, ⟨53, _⟩ => ⟨S16384x1, .i1⟩
  | .hbm, ⟨54, _⟩ => ⟨S_, .i32⟩
  | .hbm, ⟨55, _⟩ => ⟨S16384x1, .i32⟩
  | .hbm, ⟨56, _⟩ => ⟨S16384x1, .i32⟩
  | .hbm, ⟨57, _⟩ => ⟨S16384x1, .i32⟩
  | .hbm, ⟨58, _⟩ => ⟨S16384x16384, .i32⟩
  | .hbm, ⟨59, _⟩ => ⟨S16384x16384, .i32⟩
  | .hbm, ⟨60, _⟩ => ⟨S16384x16384, .i1⟩
  | .hbm, ⟨61, _⟩ => ⟨S1x1x16384x16384, .i1⟩
  | .hbm, ⟨62, _⟩ => ⟨S_, .f32⟩
  | .hbm, ⟨63, _⟩ => ⟨S_, .f32⟩
  | .hbm, ⟨64, _⟩ => ⟨S2x8x16384x16384, .i1⟩
  | .hbm, ⟨65, _⟩ => ⟨S2x8x16384x16384, .f32⟩
  | .hbm, ⟨66, _⟩ => ⟨S2x8x16384x16384, .f32⟩
  | .hbm, ⟨67, _⟩ => ⟨S_, .f32⟩
  | .hbm, ⟨68, _⟩ => ⟨S2x8x16384, .f32⟩
  | .hbm, ⟨69, _⟩ => ⟨S_, .f32⟩
  | .hbm, ⟨70, _⟩ => ⟨S2x8x16384, .f32⟩
  | .hbm, ⟨71, _⟩ => ⟨S2x8x16384, .f32⟩
  | .hbm, ⟨72, _⟩ => ⟨S2x8x16384x1, .f32⟩
  | .hbm, ⟨73, _⟩ => ⟨S2x8x16384x16384, .f32⟩
  | .hbm, ⟨74, _⟩ => ⟨S2x8x16384x16384, .f32⟩
  | .hbm, ⟨75, _⟩ => ⟨S2x8x16384x16384, .f32⟩
  | .hbm, ⟨76, _⟩ => ⟨S_, .f32⟩
  | .hbm, ⟨77, _⟩ => ⟨S2x8x16384, .f32⟩
  | .hbm, ⟨78, _⟩ => ⟨S2x8x16384x1, .f32⟩
  | .hbm, ⟨79, _⟩ => ⟨S2x8x16384x16384, .f32⟩
  | .hbm, ⟨80, _⟩ => ⟨S2x8x16384x16384, .f32⟩
  | .hbm, ⟨81, _⟩ => ⟨S2x8x64x16384, .f32⟩
  | .hbm, ⟨82, _⟩ => ⟨S2x16384x8x64, .f32⟩
  | .hbm, ⟨83, _⟩ => ⟨S2x16384x512, .f32⟩
  | _, _ => ⟨S528, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_v16 : Ref sig .tc := ⟨.hbm, 39, rfl⟩
abbrev main_c_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v22 : Ref sig .tc := ⟨.hbm, 66, rfl⟩
abbrev main_cst_2 : Ref sig .tc := ⟨.hbm, 67, rfl⟩
abbrev main_v23 : Ref sig .tc := ⟨.hbm, 68, rfl⟩
abbrev main_cst_3 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩

abbrev nD : Nat := 1
abbrev τ : Topo := Topo.v7x

variable {F : FTy → Type} [FloatOps F]
-- ==== Kernel2.lean ====
abbrev S528 : Shape := ⟨1, ![528]⟩
abbrev S2x16384x1024 : Shape := ⟨3, ![2, 16384, 1024]⟩
abbrev S2x32x640x512 : Shape := ⟨4, ![2, 32, 640, 512]⟩
abbrev S2x8x16384 : Shape := ⟨3, ![2, 8, 16384]⟩
abbrev S2x16384x8 : Shape := ⟨3, ![2, 16384, 8]⟩
abbrev S2x16384x512 : Shape := ⟨3, ![2, 16384, 512]⟩
abbrev S1x512x1024 : Shape := ⟨3, ![1, 512, 1024]⟩
abbrev S1 : Shape := ⟨1, ![1]⟩
abbrev S1x1x640x512 : Shape := ⟨4, ![1, 1, 640, 512]⟩
abbrev S1x8x512 : Shape := ⟨3, ![1, 8, 512]⟩
abbrev S1x512x8 : Shape := ⟨3, ![1, 512, 8]⟩
abbrev S1x512x512 : Shape := ⟨3, ![1, 512, 512]⟩
abbrev S1x4096 : Shape := ⟨2, ![1, 4096]⟩
abbrev S640x512 : Shape := ⟨2, ![640, 512]⟩
abbrev S512x4096 : Shape := ⟨2, ![512, 4096]⟩
abbrev S1x512x128 : Shape := ⟨3, ![1, 512, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S1x512x1 : Shape := ⟨3, ![1, 512, 1]⟩
abbrev S512x1 : Shape := ⟨2, ![512, 1]⟩
abbrev S4096 : Shape := ⟨1, ![4096]⟩
abbrev S80x512 : Shape := ⟨2, ![80, 512]⟩
abbrev S1x1x80x512 : Shape := ⟨4, ![1, 1, 80, 512]⟩
abbrev S64x512 : Shape := ⟨2, ![64, 512]⟩

abbrev nBuf : Space → Nat
  | .hbm => 6
  | .vmem => 15
  | .smem => 2
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x32x640x512, .bf16⟩
  | .hbm, ⟨3, _⟩ => ⟨S2x8x16384, .f32⟩
  | .hbm, ⟨4, _⟩ => ⟨S2x16384x8, .f32⟩
  | .hbm, ⟨5, _⟩ => ⟨S2x16384x512, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x640x512, .bf16⟩
  | .local _ .vmem, ⟨5, _⟩ => ⟨S1x1x640x512, .bf16⟩
  | .local _ .vmem, ⟨6, _⟩ => ⟨S1x8x512, .f32⟩
  | .local _ .vmem, ⟨7, _⟩ => ⟨S1x8x512, .f32⟩
  | .local _ .vmem, ⟨8, _⟩ => ⟨S1x512x8, .f32⟩
  | .local _ .vmem, ⟨9, _⟩ => ⟨S1x512x8, .f32⟩
  | .local _ .vmem, ⟨10, _⟩ => ⟨S1x512x512, .f32⟩
  | .local _ .vmem, ⟨11, _⟩ => ⟨S1x512x512, .f32⟩
  | .local _ .vmem, ⟨12, _⟩ => ⟨S1x4096, .f32⟩
  | .local _ .vmem, ⟨13, _⟩ => ⟨S640x512, .f32⟩
  | .local _ .vmem, ⟨14, _⟩ => ⟨S512x4096, .f32⟩
  | .local _ .smem, ⟨0, _⟩ => ⟨S528, .i32⟩
  | .local _ .smem, ⟨1, _⟩ => ⟨S528, .i32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 528], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c512_i32 : BitVec 32 := 512#32
  let v4 : BitVec 32 := Scalar.muli v1 c512_i32
  let c0_i32 : BitVec 32 := 0#32
  let v5 : BitVec 32 := Scalar.addi v4 c0_i32
  let c512_i32_6 : BitVec 32 := 512#32
  let v20 : BitVec 32 := Scalar.addi v5 c512_i32_6
  let c1_i32_7 : BitVec 32 := 1#32
  let v21 : BitVec 32 := Scalar.subi v20 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c31_i32 : BitVec 32 := 31#32
  let v39 : BitVec 32 := Scalar.minsi v38 c31_i32
  let v40 : BitVec 1 := Scalar.cmpi .eq v3 v39
  let v41 : BitVec 32 := Scalar.extui v40
  let c0_i32_15 : BitVec 32 := 0#32
  let v42 : BitVec 1 := Scalar.cmpi .ne v41 c0_i32_15
  v42

def cc0_transform_0 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S528.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_3 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![arg0.toNat, c0_i32.toNat, v1.toNat]

def cc0_transform_4 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "neg" => some ⊥
  | _ => none
-- ==== Reference2Ideal.lean ====
abbrev S528 : Shape := ⟨1, ![528]⟩
abbrev S2x16384x1024 : Shape := ⟨3, ![2, 16384, 1024]⟩
abbrev S2x32x640x512 : Shape := ⟨4, ![2, 32, 640, 512]⟩
abbrev S2x8x16384 : Shape := ⟨3, ![2, 8, 16384]⟩
abbrev S2x16384x8 : Shape := ⟨3, ![2, 16384, 8]⟩
abbrev S16384 : Shape := ⟨1, ![16384]⟩
abbrev S2x16384x8x128 : Shape := ⟨4, ![2, 16384, 8, 128]⟩
abbrev S2x32x8x80x512 : Shape := ⟨5, ![2, 32, 8, 80, 512]⟩
abbrev S2x32x8x64x512 : Shape := ⟨5, ![2, 32, 8, 64, 512]⟩
abbrev S2x32x512x8x64 : Shape := ⟨5, ![2, 32, 512, 8, 64]⟩
abbrev S2x16384x8x64 : Shape := ⟨4, ![2, 16384, 8, 64]⟩
abbrev S2x8x16384x16384 : Shape := ⟨4, ![2, 8, 16384, 16384]⟩
abbrev S2x8x16384x1 : Shape := ⟨4, ![2, 8, 16384, 1]⟩
abbrev S2x8x1x16384 : Shape := ⟨4, ![2, 8, 1, 16384]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S_ : Shape := ⟨0, ![]⟩
abbrev S2x8x64x16384 : Shape := ⟨4, ![2, 8, 64, 16384]⟩
abbrev S2x16384x512 : Shape := ⟨3, ![2, 16384, 512]⟩

abbrev nBuf : Space → Nat
  | .hbm => 57
  | .vmem => 0
  | .smem => 0
  | _ => 0

abbrev bufTy : (tb : Table) → Fin (tcTables nBuf tb) → BufTy
  | .hbm, ⟨0, _⟩ => ⟨S528, .i32⟩
  | .hbm, ⟨1, _⟩ => ⟨S528, .i32⟩
  | .hbm, ⟨2, _⟩ => ⟨S2x16384x1024, .bf16⟩
  | .hbm, ⟨3, _⟩ => ⟨S2x16384x1024, .bf16⟩
  | .hbm, ⟨4, _⟩ => ⟨S2x32x640x512, .bf16⟩
  | .hbm, ⟨5, _⟩ => ⟨S2x8x16384, .f32⟩
  | .hbm, ⟨6, _⟩ => ⟨S2x16384x8, .f32⟩
  | .hbm, ⟨7, _⟩ => ⟨S16384, .i32⟩
  | .hbm, ⟨8, _⟩ => ⟨S2x16384x1024, .f32⟩
  | .hbm, ⟨9, _⟩ => ⟨S2x16384x8x128, .f32⟩
  | .hbm, ⟨10, _⟩ => ⟨S2x16384x1024, .f32⟩
  | .hbm, ⟨11, _⟩ => ⟨S2x16384x8x128, .f32⟩
  | .hbm, ⟨12, _⟩ => ⟨S2x32x640x512, .f32⟩
  | .hbm, ⟨13, _⟩ => ⟨S2x32x8x80x512, .f32⟩
  | .hbm, ⟨14, _⟩ => ⟨S2x32x8x64x512, .f32⟩
  | .hbm, ⟨15, _⟩ => ⟨S2x32x512x8x64, .f32⟩
  | .hbm, ⟨16, _⟩ => ⟨S2x16384x8x64, .f32⟩
  | .hbm, ⟨17, _⟩ => ⟨S2x8x16384x16384, .f32⟩
  | .hbm, ⟨18, _⟩ => ⟨S2x8x16384x1, .f32⟩
  | .hbm, ⟨19, _⟩ => ⟨S2x8x16384x16384, .f32⟩
  | .hbm, ⟨20, _⟩ => ⟨S2x8x16384x16384, .f32⟩
  | .hbm, ⟨21, _⟩ => ⟨S2x8x16384, .f32⟩
  | .hbm, ⟨22, _⟩ => ⟨S2x8x1x16384, .f32⟩
  | .hbm, ⟨23, _⟩ => ⟨S2x8x16384x16384, .f32⟩
  | .hbm, ⟨24, _⟩ => ⟨S2x8x16384x16384, .f32⟩
  | .hbm, ⟨25, _⟩ => ⟨S1x16384, .i32⟩
  | .hbm, ⟨26, _⟩ => ⟨S16384x1, .i32⟩
  | .hbm, ⟨27, _⟩ => ⟨S16384x16384, .i32⟩
  | .hbm, ⟨28, _⟩ => ⟨S16384x16384, .i32⟩
  | .hbm, ⟨29, _⟩ => ⟨S16384x16384, .i1⟩
  | .hbm, ⟨30, _⟩ => ⟨S1x1x16384x16384, .i1⟩
  | .hbm, ⟨31, _⟩ => ⟨S_, .f32⟩
  | .hbm, ⟨32, _⟩ => ⟨S_, .f32⟩
  | .hbm, ⟨33, _⟩ => ⟨S2x8x16384x16384, .f32⟩
  | .hbm, ⟨34, _⟩ => ⟨S2x8x16384x16384, .f32⟩
  | .hbm, ⟨35, _⟩ => ⟨S_, .f32⟩
  | .hbm, ⟨36, _⟩ => ⟨S_, .f32⟩
  | .hbm, ⟨37, _⟩ => ⟨S2x8x16384x16384, .i1⟩
  | .hbm, ⟨38, _⟩ => ⟨S2x8x16384x16384, .f32⟩
  | .hbm, ⟨39, _⟩ => ⟨S2x8x16384x16384, .f32⟩
  | .hbm, ⟨40, _⟩ => ⟨S_, .f32⟩
  | .hbm, ⟨41, _⟩ => ⟨S2x8x16384, .f32⟩
  | .hbm, ⟨42, _⟩ => ⟨S_, .f32⟩
  | .hbm, ⟨43, _⟩ => ⟨S2x8x16384, .f32⟩
  | .hbm, ⟨44, _⟩ => ⟨S2x8x16384, .f32⟩
  | .hbm, ⟨45, _⟩ => ⟨S2x8x16384x1, .f32⟩
  | .hbm, ⟨46, _⟩ => ⟨S2x8x16384x16384, .f32⟩
  | .hbm, ⟨47, _⟩ => ⟨S2x8x16384x16384, .f32⟩
  | .hbm, ⟨48, _⟩ => ⟨S2x8x16384x16384, .f32⟩
  | .hbm, ⟨49, _⟩ => ⟨S_, .f32⟩
  | .hbm, ⟨50, _⟩ => ⟨S2x8x16384, .f32⟩
  | .hbm, ⟨51, _⟩ => ⟨S2x8x16384x1, .f32⟩
  | .hbm, ⟨52, _⟩ => ⟨S2x8x16384x16384, .f32⟩
  | .hbm, ⟨53, _⟩ => ⟨S2x8x16384x16384, .f32⟩
  | .hbm, ⟨54, _⟩ => ⟨S2x8x64x16384, .f32⟩
  | .hbm, ⟨55, _⟩ => ⟨S2x16384x8x64, .f32⟩
  | .hbm, ⟨56, _⟩ => ⟨S2x16384x512, .f32⟩
  | _, _ => ⟨S528, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 6
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1024x2816, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S1024x2816, .f32⟩
  | .hbm, ⟨32, _⟩ => ⟨S32768x2816, .f32⟩
  | .hbm, ⟨33, _⟩ => ⟨S32768x2816, .f32⟩
  | .hbm, ⟨34, _⟩ => ⟨S2816x1024, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel4.lean ====
abbrev S32768x1024 : Shape := ⟨2, ![32768, 1024]⟩
abbrev S1x1024 : Shape := ⟨2, ![1, 1024]⟩
abbrev S1024x8960 : Shape := ⟨2, ![1024, 8960]⟩
abbrev S32768x8960 : Shape := ⟨2, ![32768, 8960]⟩
abbrev S1024x1024 : Shape := ⟨2, ![1024, 1024]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x8960, .bf16⟩
  | .hbm, ⟨3, _⟩ => ⟨S32768x8960, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x1024 : Shape := ⟨2, ![32768, 1024]⟩
abbrev S1x1024 : Shape := ⟨2, ![1, 1024]⟩
abbrev S1024x8960 : Shape := ⟨2, ![1024, 8960]⟩
abbrev S_ : Shape := ⟨0, ![]⟩
abbrev S32768 : Shape := ⟨1, ![32768]⟩
abbrev S32768x1 : Shape := ⟨2, ![32768, 1]⟩
abbrev S32768x8960 : Shape := ⟨2, ![32768, 8960]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x8960, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024x8960, .f32⟩
  | .hbm, ⟨19, _⟩ => ⟨S32768x8960, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S32768x8960 : Shape := ⟨2, ![32768, 8960]⟩
abbrev S512x1024 : Shape := ⟨2, ![512, 1024]⟩
abbrev S1024x1024 : Shape := ⟨2, ![1024, 1024]⟩
abbrev S512x512 : Shape := ⟨2, ![512, 512]⟩
abbrev S512x3072 : Shape := ⟨2, ![512, 3072]⟩

abbrev nBuf : Space → Nat
  | .hbm => 10
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x8960, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32768x1024 : Shape := ⟨2, ![32768, 1024]⟩
abbrev S32768x512 : Shape := ⟨2, ![32768, 512]⟩
abbrev S32768x8960 : Shape := ⟨2, ![32768, 8960]⟩
abbrev S512x1024 : Shape := ⟨2, ![512, 1024]⟩
abbrev S1024x1024 : Shape := ⟨2, ![1024, 1024]⟩
abbrev S32768x3072 : Shape := ⟨2, ![32768, 3072]⟩
abbrev S_ : Shape := ⟨0, ![]⟩
abbrev S32768x3x1024 : Shape := ⟨3, ![32768, 3, 1024]⟩
abbrev S32768x1x1024 : Shape := ⟨3, ![32768, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x8960, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S32768x3072, .f32⟩
  | .hbm, ⟨10, _⟩ => ⟨S32768x3072, .f32⟩
  | .hbm, ⟨11, _⟩ => ⟨S32768x3072, .f32⟩
  | .hbm, ⟨12, _⟩ => ⟨S_, .f32⟩
  | .hbm, ⟨13, _⟩ => ⟨S32768x3072, .f32⟩
  | .hbm, ⟨14, _⟩ => ⟨S32768x3072, .f32⟩
  | .hbm, ⟨15, _⟩ => ⟨S_, .f32⟩
  | .hbm, ⟨16, _⟩ => ⟨S32768x3072, .f32⟩
  | .hbm, ⟨17, _⟩ => ⟨S32768x3072, .f32⟩
  | .hbm, ⟨18, _⟩ => ⟨S32768x3x1024, .f32⟩
  | .hbm, ⟨19, _⟩ => ⟨S32768x1x1024, .f32⟩
  | .hbm, ⟨20, _⟩ => ⟨S32768x1024, .f32⟩
  | .hbm, ⟨21, _⟩ => ⟨S512x1024, .f32⟩
  | .hbm, ⟨22, _⟩ => ⟨S32768x1024, .f32⟩
  | .hbm, ⟨23, _⟩ => ⟨S32768x1024, .f32⟩
  | .hbm, ⟨24, _⟩ => ⟨S32768x1x1024, .f32⟩
  | .hbm, ⟨25, _⟩ => ⟨S32768x1024, .f32⟩
  | .hbm, ⟨26, _⟩ => ⟨S512x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1x1024, .f32⟩
  | .hbm, ⟨31, _⟩ => ⟨S32768x1024, .f32⟩
  | .hbm, ⟨32, _⟩ => ⟨S512x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S1024x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Walk.lean ====
/- The causal triangle's walk over pairs (i, j): row by row, `j` from 0 to `i`. Two tables that start at (0, 0) and
   step by the walk's rule are equal word by word. -/
module

public import Idealize.ShloMosaic.Lib.ValueIdx

@[expose] public section

namespace Cert.Attn

open Idealize.ShloMosaic Idealize.ShloMosaic.ValueIdx

/-- The tables' shape: one word per pair of the triangle. -/
abbrev ST : Shape := ⟨1, ![528]⟩

/-- Table `A` (rows) and table `B` (columns) walk the triangle: from (0, 0), a row's last pair (i, i) is followed by
    (i + 1, 0) and any other (i, j) by (i, j + 1). -/
structure Walks (A B : ST.Idx → BitVec 32) : Prop where
  row0 : A (ix1 (0 : Fin 528)) = 0#32
  col0 : B (ix1 (0 : Fin 528)) = 0#32
  row : ∀ n : Fin 527, A (ix1 n.succ)
    = if B (ix1 n.castSucc) = A (ix1 n.castSucc) then A (ix1 n.castSucc) + 1#32 else A (ix1 n.castSucc)
  col : ∀ n : Fin 527, B (ix1 n.succ)
    = if B (ix1 n.castSucc) = A (ix1 n.castSucc) then 0#32 else B (ix1 n.castSucc) + 1#32

/-- The walk determines both tables. -/
theorem Walks.unique {A B A' B' : ST.Idx → BitVec 32} (h : Walks A B) (h' : Walks A' B') : A = A' ∧ B = B' := by
  have key : ∀ n : Fin 528, A (ix1 n) = A' (ix1 n) ∧ B (ix1 n) = B' (ix1 n) := by
    intro n
    induction n using Fin.induction with
    | zero => exact ⟨h.row0.trans h'.row0.symm, h.col0.trans h'.col0.symm⟩
    | succ n ih =>
      rw [h.row n, h.col n, h'.row n, h'.col n, ih.1, ih.2]
      exact ⟨rfl, rfl⟩
  constructor
  · funext x; rw [eq_ix1 x]; exact (key _).1
  · funext x; rw [eq_ix1 x]; exact (key _).2

end Cert.Attn

end
-- ==== Proof.Tables.lean ====
/- The precondition `tables` decoded: the two prefetched tables walk the causal triangle, so they hold the words the
   frames of both programs are stated at. -/
module

public import proofs.«01_k».proof.Defs
public import proofs.«01_k».proof.Proof.Walk
public import proofs.«01_k».proof.Proof.Gen.Pre_tables
public import proofs.«01_k».proof.Proof.Gen.Pre_attends
public import Idealize.ShloMosaic.Lib.ReduceAll
public import Idealize.ShloMosaic.Lib.Pipeline.Value

@[expose] public section

namespace Cert.Attn

open Idealize.ShloMosaic Idealize.ShloMosaic.ValueIdx

/-- The two halves of an `and` of bits that is 1. -/
theorem andi_one {a b : BitVec 1} (h : IntOp.andi a b = 1#1) : a = 1#1 ∧ b = 1#1 := by
  revert a b; decide

/-- A comparison for equality that is 1 says the words are equal. -/
theorem cmpi_eq_one {w : Nat} {a b : BitVec w} (h : IntOp.cmpi .eq a b = 1#1) : a = b := by
  by_contra hne
  have hb : (a == b) = false := by simpa using hne
  have : IntOp.cmpi .eq a b = 0#1 := by simp only [IntOp.cmpi, hb]; rfl
  rw [this] at h; exact absurd h (by decide)

/-- What `jnp.where(j == i, x, y)` reads. -/
theorem select_eq {w : Nat} (a b : BitVec w) (x y : BitVec 32) :
    (if IntOp.cmpi .eq a b = 1#1 then x else y) = if a = b then x else y := by
  by_cases h : a = b
  · subst h; simp [IntOp.cmpi]
  · rw [if_neg h, if_neg (fun h' => h (cmpi_eq_one h'))]

/-- The tables' first 527 words, read at `n`. -/
theorem slice_init (A : ST.Idx → BitVec 32) (h : ST.Slices ![0] (⟨1, ![527]⟩ : Shape)) (n : Fin 527) :
    extractStridedSlice (⟨1, ![527]⟩ : Shape) ![0] A h (ix1 n) = A (ix1 n.castSucc) :=
  extractStridedSlice_apply ![0] A h (ix1 n) _ (by intro a; fin_cases a; simp [ix1])

/-- The tables' last 527 words, read at `n`. -/
theorem slice_tail (A : ST.Idx → BitVec 32) (h : ST.Slices ![1] (⟨1, ![527]⟩ : Shape)) (n : Fin 527) :
    extractStridedSlice (⟨1, ![527]⟩ : Shape) ![1] A h (ix1 n) = A (ix1 n.succ) :=
  extractStridedSlice_apply ![1] A h (ix1 n) _ (by intro a; fin_cases a; simp [ix1, Nat.add_comm])

/-- A table's word 0, as the predicate reads it. -/
theorem slice_zero (A : ST.Idx → BitVec 32) (h : ST.Slices ![0] (⟨1, ![1]⟩ : Shape))
    (h' : (⟨1, ![1]⟩ : Shape).ShapeCasts (⟨0, ![]⟩ : Shape)) (y : (⟨0, ![]⟩ : Shape).Idx) :
    shapeCast (⟨0, ![]⟩ : Shape) (extractStridedSlice (⟨1, ![1]⟩ : Shape) ![0] A h) h' y = A (ix1 (0 : Fin 528)) := by
  unfold shapeCast
  refine extractStridedSlice_apply ![0] A h _ _ ?_
  intro a; fin_cases a
  have : ∀ z : Fin 1, (0 : Nat) = 0 + z.val := fun z => by omega
  exact this _

/-- `tables` holds: the tables walk the triangle. -/
theorem walks_of_tables {F : FTy → Type} [FloatOps F] (A B : ST.Idx → BitVec 32) (q k v)
    (h : Cert.Pre_tables.fn (F := F) A B q k v = fun _ => 1#1) : Walks A B := by
  have e := congrFun h ix0
  unfold Cert.Pre_tables.fn Cert.Pre_tables.fn_part1 at e
  obtain ⟨e1, eB⟩ := andi_one e
  obtain ⟨e0, eA⟩ := andi_one e1
  obtain ⟨ea, eb⟩ := andi_one e0
  refine ⟨?_, ?_, fun n => ?_, fun n => ?_⟩
  · exact (slice_zero A _ _ ix0).symm.trans (cmpi_eq_one ea)
  · exact (slice_zero B _ _ ix0).symm.trans (cmpi_eq_one eb)
  · have w := cmpi_eq_one (Host.reduce_andi_all _ _ _ _ ix0 eA (ix1 n))
    refine (slice_tail A _ n).symm.trans (w.trans ?_)
    refine (select_eq _ _ _ _).trans ?_
    show (if extractStridedSlice (⟨1, ![527]⟩ : Shape) ![0] B _ (ix1 n) = extractStridedSlice (⟨1, ![527]⟩ : Shape) ![0] A _ (ix1 n)
      then extractStridedSlice (⟨1, ![527]⟩ : Shape) ![0] A _ (ix1 n) + 1#32 else extractStridedSlice (⟨1, ![527]⟩ : Shape) ![0] A _ (ix1 n)) = _
    rw [slice_init A, slice_init B]
  · have w := cmpi_eq_one (Host.reduce_andi_all _ _ _ _ ix0 eB (ix1 n))
    refine (slice_tail B _ n).symm.trans (w.trans ?_)
    refine (select_eq _ _ _ _).trans ?_
    show (if extractStridedSlice (⟨1, ![527]⟩ : Shape) ![0] B _ (ix1 n) = extractStridedSlice (⟨1, ![527]⟩ : Shape) ![0] A _ (ix1 n)
      then 0#32 else extractStridedSlice (⟨1, ![527]⟩ : Shape) ![0] B _ (ix1 n) + 1#32) = _
    rw [slice_init A, slice_init B]

end Cert.Attn

end
-- ==== Proof.Pinned.lean ====
/- From the precondition `tables` of either program to the words its frame is stated at. -/
module

public import proofs.«01_k».proof.Proof.Tables
public import proofs.«01_k».proof.Proof.Gen.Kernel.Flash.Pins
public import proofs.«01_k».proof.Proof.Gen.KernelIdeal.Flash.Pins

@[expose] public section

noncomputable section

namespace Cert.Attn

open Idealize.ShloMosaic Idealize.ShloMosaic.ValueIdx

/-- The words the kernel's frame is stated at walk the triangle. -/
theorem walks_kernel : Walks (Cert.Kernel.Gen.pinT_0 0) (Cert.Kernel.Gen.pinT_1 0) :=
  ⟨by decide +kernel, by decide +kernel, by decide +kernel, by decide +kernel⟩

/-- The words the ideal kernel's frame is stated at walk the triangle. -/
theorem walks_ideal : Walks (Cert.KernelIdeal.Gen.pinT_0 0) (Cert.KernelIdeal.Gen.pinT_1 0) :=
  ⟨by decide +kernel, by decide +kernel, by decide +kernel, by decide +kernel⟩

/-- `tables` on the kernel's memory pins its tables. -/
theorem pinned_kernel (m : (ℓ : Loc Cert.Kernel.nD Cert.Kernel.τ Cert.Kernel.sig) → Buf (Elt Bits) ℓ)
    (h : Cert.Pre_Kernel m) : Cert.Kernel.Gen.Pinned 0 m := by
  refine ⟨fun c => ?_, fun c => ?_⟩
  · exact ((walks_of_tables _ _ _ _ _ (h c)).unique walks_kernel).1
  · exact ((walks_of_tables _ _ _ _ _ (h c)).unique walks_kernel).2

/-- `tables` on the ideal kernel's memory pins its tables. -/
theorem pinned_ideal (m : (ℓ : Loc Cert.KernelIdeal.nD Cert.KernelIdeal.τ Cert.KernelIdeal.sig) → Buf (Elt Ideal) ℓ)
    (h : Cert.Pre_KernelIdeal m) : Cert.KernelIdeal.Gen.Pinned 0 m := by
  refine ⟨fun c => ?_, fun c => ?_⟩
  · exact ((walks_of_tables _ _ _ _ _ (h c)).unique walks_ideal).1
  · exact ((walks_of_tables _ _ _ _ _ (h c)).unique walks_ideal).2

end Cert.Attn

end
-- ==== Proof.Attends.lean ====
/- The precondition `attends` decoded: the tables walk the triangle, every query and key element is a real number, and
   row 64 of every head's value block is the row of ones. -/
module

public import proofs.«01_k».proof.Proof.Tables
public import proofs.«01_k».proof.Proof.Gen.KernelIdeal.Flash.Pins
public import Idealize.ShloMosaic.PureOps.Ideal.Laws

@[expose] public section

noncomputable section

namespace Cert.Attn

open Idealize.ShloMosaic Idealize.ShloMosaic.ValueIdx

/-- What `|x| < ∞` says of an extended real: it is a real number. -/
theorem real_of_abs_lt {a : EReal} (h : Ideal.cmp .olt (max a (-a)) ⊤ = 1#1) : a ≠ ⊤ ∧ a ≠ ⊥ := by
  have h' : max a (-a) < ⊤ := by
    by_contra hn
    have : Ideal.cmp .olt (max a (-a)) ⊤ = 0#1 := by simp [Ideal.cmp, hn]
    rw [this] at h; exact absurd h (by decide)
  constructor
  · rintro rfl; simp at h'
  · rintro rfl; simp at h'

/-- A row of 80 per head, read as the flat row. -/
theorem ones_row (v : (⟨4, ![2, 32, 640, 512]⟩ : Shape).Idx → EReal) (h1 h2 h3)
    (b : Fin 2) (j : Fin 32) (h : Fin 8) (x : Fin 512) (r : Fin 640) (hr : r.val = 80 * h.val + 64) :
    shapeCast (⟨4, ![2, 32, 8, 512]⟩ : Shape) (extractStridedSlice (⟨5, ![2, 32, 8, 1, 512]⟩ : Shape) ![0, 0, 0, 64, 0]
      (shapeCast (⟨5, ![2, 32, 8, 80, 512]⟩ : Shape) v h1) h2) h3 (ix4 b j h x) = v (ix4 b j r x) := by
  rw [shapeCast_apply _ h3 _ (ix5 b j h (0 : Fin 1) x) (by
    rw [Shape.rowMajor_val_five, Shape.rowMajor_val_four]
    show (((b.val * 32 + j.val) * 8 + h.val) * 1 + 0) * 512 + x.val = ((b.val * 32 + j.val) * 8 + h.val) * 512 + x.val
    omega)]
  rw [extractStridedSlice_apply ![0, 0, 0, 64, 0] _ h2 _ (ix5 b j h (64 : Fin 80) x) (by
    intro a; fin_cases a <;> simp [ix5])]
  exact shapeCast_apply _ h1 _ _ (by
    rw [Shape.rowMajor_val_five, Shape.rowMajor_val_four]
    show ((b.val * 32 + j.val) * 640 + r.val) * 512 + x.val
      = (((b.val * 32 + j.val) * 8 + h.val) * 80 + 64) * 512 + x.val
    omega)

/-- What `x == 1` says of an extended real. -/
theorem one_of_eq {a : EReal} (h : Ideal.cmp .oeq a (Ideal.ofBits .f32 0x3F800000#32) = 1#1) : a = 1 := by
  have h1 : (Ideal.ofBits .f32 0x3F800000#32 : EReal) = 1 := by
    simp [Ideal.ofBits, Ideal.ieee, -EReal.coe_mul]; norm_num
  rw [h1] at h
  by_contra hn
  have : Ideal.cmp .oeq a 1 = 0#1 := by simp [Ideal.cmp, hn]
  rw [this] at h; exact absurd h (by decide)

/-- `attends` holds: walking tables, real queries and keys, and the ones rows. -/
theorem attends_decoded (A B : ST.Idx → BitVec 32) (q k : (⟨3, ![2, 16384, 1024]⟩ : Shape).Idx → EReal)
    (v : (⟨4, ![2, 32, 640, 512]⟩ : Shape).Idx → EReal)
    (h : Cert.Pre_attends.fn (F := Ideal) A B q k v = fun _ => 1#1) :
    Walks A B ∧ (∀ i, q i ≠ ⊤ ∧ q i ≠ ⊥) ∧ (∀ i, k i ≠ ⊤ ∧ k i ≠ ⊥)
      ∧ ∀ (b : Fin 2) (j : Fin 32) (h : Fin 8) (x : Fin 512) (r : Fin 640), r.val = 80 * h.val + 64 → v (ix4 b j r x) = 1 := by
  have e := congrFun h ix0
  unfold Cert.Pre_attends.fn Cert.Pre_attends.fn_part1 Cert.Pre_attends.fn_part2 at e
  obtain ⟨e3, eV⟩ := andi_one e
  obtain ⟨e2, eK⟩ := andi_one e3
  obtain ⟨e2', eQ⟩ := andi_one e2
  obtain ⟨e1, eB⟩ := andi_one e2'
  obtain ⟨e0, eA⟩ := andi_one e1
  obtain ⟨ea, eb⟩ := andi_one e0
  refine ⟨⟨?_, ?_, fun n => ?_, fun n => ?_⟩, fun i => ?_, fun i => ?_, fun b j h x r hr => ?_⟩
  · exact (slice_zero A _ _ ix0).symm.trans (cmpi_eq_one ea)
  · exact (slice_zero B _ _ ix0).symm.trans (cmpi_eq_one eb)
  · have w := cmpi_eq_one (Host.reduce_andi_all _ _ _ _ ix0 eA (ix1 n))
    refine (slice_tail A _ n).symm.trans (w.trans ?_)
    refine (select_eq _ _ _ _).trans ?_
    show (if extractStridedSlice (⟨1, ![527]⟩ : Shape) ![0] B _ (ix1 n) = extractStridedSlice (⟨1, ![527]⟩ : Shape) ![0] A _ (ix1 n)
      then extractStridedSlice (⟨1, ![527]⟩ : Shape) ![0] A _ (ix1 n) + 1#32 else extractStridedSlice (⟨1, ![527]⟩ : Shape) ![0] A _ (ix1 n)) = _
    rw [slice_init A, slice_init B]
  · have w := cmpi_eq_one (Host.reduce_andi_all _ _ _ _ ix0 eB (ix1 n))
    refine (slice_tail B _ n).symm.trans (w.trans ?_)
    refine (select_eq _ _ _ _).trans ?_
    show (if extractStridedSlice (⟨1, ![527]⟩ : Shape) ![0] B _ (ix1 n) = extractStridedSlice (⟨1, ![527]⟩ : Shape) ![0] A _ (ix1 n)
      then 0#32 else extractStridedSlice (⟨1, ![527]⟩ : Shape) ![0] B _ (ix1 n) + 1#32) = _
    rw [slice_init A, slice_init B]
  · have w := Host.reduce_andi_all _ _ _ _ ix0 eQ i
    have ht : (Ideal.ofBits .f32 0x7F800000#32 : EReal) = ⊤ := by simp [Ideal.ofBits, Ideal.ieee]
    change Ideal.cmp .olt (max (q i) (-(q i))) (Ideal.ofBits .f32 0x7F800000#32) = 1#1 at w
    rw [ht] at w
    exact real_of_abs_lt w
  · have w := Host.reduce_andi_all _ _ _ _ ix0 eK i
    have ht : (Ideal.ofBits .f32 0x7F800000#32 : EReal) = ⊤ := by simp [Ideal.ofBits, Ideal.ieee]
    change Ideal.cmp .olt (max (k i) (-(k i))) (Ideal.ofBits .f32 0x7F800000#32) = 1#1 at w
    rw [ht] at w
    exact real_of_abs_lt w
  · have w := Host.reduce_andi_all _ _ _ _ ix0 eV (ix4 b j h x)
    rw [← ones_row v Cert.Pre_attends.Facts.shapeCasts_S2x32x640x512_S2x32x8x80x512
      Cert.Pre_attends.Facts.slices_S2x32x8x80x512_S2x32x8x1x512_0_0_0_64_0
      Cert.Pre_attends.Facts.shapeCasts_S2x32x8x1x512_S2x32x8x512 b j h x r hr]
    exact one_of_eq w

end Cert.Attn

end
-- ==== Proof.Points.lean ====
/- Where each grid point stands: its batch, its block of queries and its block of keys. -/
module

public import proofs.«01_k».proof.Proof.Gen.KernelIdeal.Flash.Facts
public import Idealize.ShloMosaic.Lib.Pipeline.ValueKit.Geometry

@[expose] public section

set_option maxRecDepth 16384
-- one declaration at a time: each slice's evaluation is released before the next begins
set_option Elab.async false

noncomputable section

namespace Cert.Attn

open Idealize.ShloMosaic Idealize.ShloMosaic.TcCoe Idealize.SL.Sem Cert.KernelIdeal Cert.KernelIdeal.Gen

/-- The one member of the launch. -/
abbrev c0 : Fin 1 := ⟨0, by omega⟩

/-- The words the two tables hold for a grid point: its block of queries, its block of keys. -/
abbrev qWord (t : Fin (cfgA c0).N) : BitVec 32 :=
  View.readAt (Elt Ideal) (tbM0_0).view (Rect.unit (s := S528) (k0_off1 (crd c0 t)) S1.size (k0_off1_inb (crd c0 t))).toLoadRect (pinT_0 c0) (Shape.Idx.first (numel1_S1.symm ▸ Nat.one_pos))
abbrev kWord (t : Fin (cfgA c0).N) : BitVec 32 :=
  View.readAt (Elt Ideal) (tbM0_1).view (Rect.unit (s := S528) (k0_off1 (crd c0 t)) S1.size (k0_off1_inb (crd c0 t))).toLoadRect (pinT_1 c0) (Shape.Idx.first (numel1_S1.symm ▸ Nat.one_pos))

/-- The point before `t` (itself at the first). -/
abbrev before (t : Fin (cfgA c0).N) : Fin (cfgA c0).N := ⟨t.val - 1, lt_of_le_of_lt (Nat.sub_le _ _) t.isLt⟩

/-- What is decided of a grid point. -/
abbrev At (t : Fin (cfgA c0).N) : Prop :=
  (kWord t).toNat ≤ (qWord t).toNat ∧ (qWord t).toNat < 32
  ∧ (P0_0 c0 t ↔ (kWord t).toNat = 0) ∧ (P0_1 c0 t ↔ (kWord t).toNat < (qWord t).toNat)
  ∧ (∀ a : Fin 3, ((cfgA c0).win (0 : Fin 4)).index t a = (![t.val / 528, (qWord t).toNat, 0] : Fin 3 → Nat) a)
  ∧ (∀ a : Fin 3, ((cfgA c0).win (1 : Fin 4)).index t a = (![t.val / 528, (kWord t).toNat, 0] : Fin 3 → Nat) a)
  ∧ (∀ a : Fin 4, ((cfgA c0).win (2 : Fin 4)).index t a = (![t.val / 528, (kWord t).toNat, 0, 0] : Fin 4 → Nat) a)
  ∧ (∀ a : Fin 3, ((cfgA c0).win (3 : Fin 4)).index t a = (![t.val / 528, (qWord t).toNat, 0] : Fin 3 → Nat) a)
  ∧ ((kWord t).toNat ≠ 0 → t.val ≠ 0 ∧ (t.val - 1) / 528 = t.val / 528 ∧ (qWord (before t)).toNat = (qWord t).toNat ∧ (kWord (before t)).toNat + 1 = (kWord t).toNat)

set_option synthInstance.maxSize 65536 in
instance At.dec (t : Fin (cfgA c0).N) : Decidable (At t) := @instDecidableAnd _ _ inferInstance inferInstance

theorem at_first : ∀ t : Fin (cfgA c0).N, 0 ≤ t.val → t.val < 264 → At t := by decide +kernel
theorem at_second : ∀ t : Fin (cfgA c0).N, 264 ≤ t.val → t.val < 528 → At t := by decide +kernel
theorem at_third : ∀ t : Fin (cfgA c0).N, 528 ≤ t.val → t.val < 792 → At t := by decide +kernel
theorem at_fourth : ∀ t : Fin (cfgA c0).N, 792 ≤ t.val → t.val < 1056 → At t := by decide +kernel

/-- Every grid point is where it should be. -/
theorem at_point (t : Fin (cfgA c0).N) : At t := by
  rcases Nat.lt_or_ge t.val 264 with h | h; · exact at_first t (Nat.zero_le _) h
  rcases Nat.lt_or_ge t.val 528 with h' | h'; · exact at_second t h h'
  rcases Nat.lt_or_ge t.val 792 with h'' | h''; · exact at_third t h' h''
  exact at_fourth t h'' t.isLt

/-- The blocks written back cover the output. -/
theorem covers_out : ((cfgA c0).win (3 : Fin 4)).Covers := by decide +kernel

end Cert.Attn

end
-- ==== Proof.Softmax.lean ====
/- The softmax computed block by block: the running maximum and the running weighted sum of a row, over scores that may
   be −∞ (the masked ones). -/
module

public import Idealize.ShloMosaic.PureOps.Ideal
public import Mathlib.Algebra.BigOperators.Fin
public import Mathlib.Data.EReal.Operations

@[expose] public section

noncomputable section

namespace Cert.Attn

open Idealize.ShloMosaic

/-- Position `r` of block `n`, of the sequence's 32 blocks of 512. -/
def pos (n : Fin 32) (r : Fin 512) : Fin 16384 := ⟨512 * n.val + r.val, by omega⟩

/-- The keys of the first `n` blocks. -/
def keys (n : Nat) : Finset (Fin 16384) := Finset.univ.filter fun k => k.val < 512 * n

theorem mem_keys (n : Nat) (k : Fin 16384) : k ∈ keys n ↔ k.val < 512 * n := by simp [keys]

theorem keys_zero : keys 0 = ∅ := by
  ext k; simp [mem_keys]

theorem pos_injective (n : Fin 32) : Function.Injective (pos n) := by
  intro a b h
  have := congrArg Fin.val h
  simp only [pos] at this
  exact Fin.ext (by omega)

theorem keys_succ (n : Fin 32) : keys (n.val + 1) = keys n.val ∪ Finset.univ.image (pos n) := by
  ext k
  rw [Finset.mem_union, mem_keys, mem_keys, Finset.mem_image]
  constructor
  · intro h
    by_cases h' : k.val < 512 * n.val
    · exact Or.inl h'
    · exact Or.inr ⟨⟨k.val - 512 * n.val, by omega⟩, Finset.mem_univ _, Fin.ext (by simp only [pos]; omega)⟩
  · rintro (h | ⟨r, _, rfl⟩)
    · omega
    · simp only [pos]; omega

theorem keys_disjoint (n : Fin 32) : Disjoint (keys n.val) (Finset.univ.image (pos n)) := by
  rw [Finset.disjoint_left]
  intro k hk hk'
  rw [mem_keys] at hk
  obtain ⟨r, _, rfl⟩ := Finset.mem_image.mp hk'
  simp only [pos] at hk
  omega

/-- The running maximum after `n` blocks of keys with scores `f`. -/
def topOf (f : Fin 16384 → EReal) (n : Nat) : EReal := (keys n).sup f

/-- The running weighted sum after `n` blocks of keys. -/
def sumOf (f w : Fin 16384 → EReal) (n : Nat) : EReal := ∑ k ∈ keys n, w k * Ideal.exp2 (f k - topOf f n)

theorem topOf_zero (f : Fin 16384 → EReal) : topOf f 0 = ⊥ := by
  rw [topOf, keys_zero, Finset.sup_empty]

theorem sumOf_zero (f w : Fin 16384 → EReal) : sumOf f w 0 = 0 := by
  rw [sumOf, keys_zero, Finset.sum_empty]

theorem topOf_succ (f : Fin 16384 → EReal) (n : Fin 32) :
    topOf f (n.val + 1) = max (topOf f n.val) (Finset.univ.sup fun k : Fin 512 => f (pos n k)) := by
  rw [topOf, keys_succ, Finset.sup_union, Finset.sup_image]
  rfl

theorem topOf_mono (f : Fin 16384 → EReal) (n : Fin 32) : topOf f n.val ≤ topOf f (n.val + 1) := by
  rw [topOf_succ]; exact le_max_left _ _

theorem topOf_ne_top (f : Fin 16384 → EReal) (hf : ∀ k, f k ≠ ⊤) (n : Nat) : topOf f n ≠ ⊤ := by
  refine ne_of_lt ?_
  rw [topOf, Finset.sup_lt_iff (by exact bot_lt_top)]
  exact fun k _ => lt_of_le_of_ne le_top (hf k)

/-- Moving a weight from one maximum to a larger one. -/
theorem exp2_rescale (a m m' : EReal) (ham : a ≤ m) (hmm : m ≤ m') (ht : m' ≠ ⊤) :
    Ideal.exp2 (m - m') * Ideal.exp2 (a - m) = Ideal.exp2 (a - m') := by
  induction a with
  | bot => simp [EReal.bot_sub]
  | top => exact absurd (top_le_iff.mp (ham.trans hmm)) ht
  | coe a =>
    induction m with
    | bot => simp at ham
    | top => exact absurd (top_le_iff.mp hmm) ht
    | coe m =>
      induction m' with
      | bot => simp at hmm
      | top => exact absurd rfl ht
      | coe m' =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (a - m) = (2 : ℝ) ^ (a - m')
        rw [← Real.rpow_add (by norm_num)]
        congr 1; ring

theorem exp2_nonneg (a : EReal) : 0 ≤ Ideal.exp2 a := by
  induction a with
  | bot => simp
  | top => simp
  | coe a => rw [Ideal.exp2_coe]; exact EReal.coe_nonneg.mpr (Real.rpow_nonneg (by norm_num) _)

theorem exp2_ne_top (a : EReal) (h : a ≠ ⊤) : Ideal.exp2 a ≠ ⊤ := by
  induction a with
  | bot => simp
  | top => exact absurd rfl h
  | coe a => rw [Ideal.exp2_coe]; exact EReal.coe_ne_top _

theorem sub_ne_top (m m' : EReal) (hmm : m ≤ m') (ht : m' ≠ ⊤) : m - m' ≠ ⊤ := by
  induction m with
  | bot => simp [EReal.bot_sub]
  | top => exact absurd (top_le_iff.mp hmm) ht
  | coe m =>
    induction m' with
    | bot => simp at hmm
    | top => exact absurd rfl ht
    | coe m' => rw [← EReal.coe_sub]; exact EReal.coe_ne_top _

/-- A finite factor that is not negative goes through a sum. -/
theorem mul_sum_of_nonneg {ι : Type} (s : Finset ι) (c : EReal) (h0 : 0 ≤ c) (ht : c ≠ ⊤) (g : ι → EReal) :
    c * ∑ k ∈ s, g k = ∑ k ∈ s, c * g k := by
  classical
  induction s using Finset.induction_on with
  | empty => simp
  | insert a s ha ih => rw [Finset.sum_insert ha, Finset.sum_insert ha, EReal.left_distrib_of_nonneg_of_ne_top h0 ht, ih]

theorem sum_keys_succ (n : Fin 32) (g : Fin 16384 → EReal) :
    ∑ k ∈ keys (n.val + 1), g k = ∑ k ∈ keys n.val, g k + ∑ k : Fin 512, g (pos n k) := by
  rw [keys_succ, Finset.sum_union (keys_disjoint n), Finset.sum_image fun a _ b _ h => pos_injective n h]

theorem sum_rescale (f w : Fin 16384 → EReal) (s : Finset (Fin 16384)) (m m' : EReal) (hs : ∀ k ∈ s, f k ≤ m) (hm : m ≤ m') (ht : m' ≠ ⊤) :
    Ideal.exp2 (m - m') * ∑ k ∈ s, w k * Ideal.exp2 (f k - m) = ∑ k ∈ s, w k * Ideal.exp2 (f k - m') := by
  rw [mul_sum_of_nonneg _ _ (exp2_nonneg _) (exp2_ne_top _ (sub_ne_top _ _ hm ht))]
  refine Finset.sum_congr rfl fun k hk => ?_
  rw [← exp2_rescale (f k) m m' (hs k hk) hm ht, ← mul_assoc, ← mul_assoc, mul_comm (w k)]

theorem sumOf_succ (f w : Fin 16384 → EReal) (hf : ∀ k, f k ≠ ⊤) (n : Fin 32) :
    sumOf f w (n.val + 1) = Ideal.exp2 (topOf f n.val - topOf f (n.val + 1)) * sumOf f w n.val
      + ∑ k : Fin 512, w (pos n k) * Ideal.exp2 (f (pos n k) - topOf f (n.val + 1)) := by
  have e := sum_rescale f w (keys n.val) (topOf f n.val) (topOf f (n.val + 1)) (fun k hk => Finset.le_sup hk) (topOf_mono f n) (topOf_ne_top f hf _)
  unfold sumOf
  rw [e]
  exact sum_keys_succ n fun k => w k * Ideal.exp2 (f k - topOf f (n.val + 1))

/-- Once the remaining keys are masked, the maximum is the maximum over all keys … -/
theorem topOf_all (f : Fin 16384 → EReal) (n : Nat) (h : ∀ k : Fin 16384, 512 * n ≤ k.val → f k = ⊥) : topOf f n = Finset.univ.sup f := by
  apply le_antisymm
  · exact Finset.sup_mono (Finset.subset_univ _)
  · refine Finset.sup_le fun k _ => ?_
    by_cases hk : k.val < 512 * n
    · exact Finset.le_sup (f := f) ((mem_keys n k).mpr hk)
    · rw [h k (by omega)]; exact bot_le

/-- … and the sum is the sum over all keys. -/
theorem sumOf_all (f w : Fin 16384 → EReal) (n : Nat) (h : ∀ k : Fin 16384, 512 * n ≤ k.val → f k = ⊥) :
    sumOf f w n = ∑ k, w k * Ideal.exp2 (f k - Finset.univ.sup f) := by
  unfold sumOf
  rw [topOf_all f n h]
  refine Finset.sum_subset (Finset.subset_univ _) fun k _ hk => ?_
  rw [mem_keys] at hk
  rw [h k (by omega), EReal.bot_sub]
  simp

/-- The exponential of a score scaled by ln 2 is the power of two. -/
theorem exp_scaled (a : EReal) (ha : a ≠ ⊤) (M : ℝ) :
    Ideal.exp (a * ((Real.log 2 : ℝ) : EReal) - (M : EReal) * ((Real.log 2 : ℝ) : EReal)) = Ideal.exp2 (a - M) := by
  have hl : 0 < Real.log 2 := Real.log_pos (by norm_num)
  induction a with
  | bot =>
    rw [EReal.bot_mul_coe_of_pos hl, EReal.bot_sub, EReal.bot_sub]; rfl
  | top => exact absurd rfl ha
  | coe a =>
    rw [← EReal.coe_mul, ← EReal.coe_mul, ← EReal.coe_sub, ← EReal.coe_sub, Ideal.exp_coe, Ideal.exp2_coe]
    congr 1
    show Real.exp _ = (2 : ℝ) ^ (a - M)
    rw [Real.rpow_def_of_pos (by norm_num)]
    congr 1; ring

/-- The maximum of the scores scaled by ln 2. -/
theorem sup_scaled (f : Fin 16384 → EReal) :
    (Finset.univ.sup fun k => f k * ((Real.log 2 : ℝ) : EReal)) = Finset.univ.sup f * ((Real.log 2 : ℝ) : EReal) := by
  have hl : (0 : EReal) ≤ ((Real.log 2 : ℝ) : EReal) := EReal.coe_nonneg.mpr (Real.log_pos (by norm_num)).le
  apply le_antisymm
  · exact Finset.sup_le fun k _ => mul_le_mul_of_nonneg_right (Finset.le_sup (Finset.mem_univ k)) hl
  · obtain ⟨k, _, hk⟩ := Finset.exists_mem_eq_sup Finset.univ ⟨(0 : Fin 16384), Finset.mem_univ _⟩ f
    rw [hk]
    exact Finset.le_sup (f := fun k => f k * ((Real.log 2 : ℝ) : EReal)) (Finset.mem_univ k)

/-- The denominator: real, and positive, once some key is seen. -/
theorem denom_real (f : Fin 16384 → EReal) (hf : ∀ k, f k ≠ ⊤) (M : ℝ) : ∃ l : ℝ, ∑ k, Ideal.exp2 (f k - M) = (l : EReal) := by
  have h : ∀ k, ∃ r : ℝ, Ideal.exp2 (f k - M) = (r : EReal) := by
    intro k
    have hk := hf k
    induction hfk : f k with
    | bot => exact ⟨0, by rw [EReal.bot_sub]; rfl⟩
    | top => exact absurd hfk hk
    | coe a => exact ⟨Real.rpow 2 (a - M), by rw [← EReal.coe_sub]; rfl⟩
  choose r hr using h
  refine ⟨∑ k, r k, ?_⟩
  rw [Finset.sum_congr rfl fun k _ => hr k]
  have : ∀ s : Finset (Fin 16384), ∑ k ∈ s, ((r k : ℝ) : EReal) = ((∑ k ∈ s, r k : ℝ) : EReal) := by
    classical
    intro s
    induction s using Finset.induction_on with
    | empty => simp
    | insert a s ha ih => rw [Finset.sum_insert ha, Finset.sum_insert ha, ih, EReal.coe_add]
  exact this _

/-- The softmax's weights may be normalised before or after the weighted sum. -/
theorem normalise (f w : Fin 16384 → EReal) (hf : ∀ k, f k ≠ ⊤) (k0 : Fin 16384) (hk0 : f k0 ≠ ⊥) :
    Ideal.div (∑ k, w k * Ideal.exp2 (f k - Finset.univ.sup f)) (∑ k, Ideal.exp2 (f k - Finset.univ.sup f))
      = ∑ k, w k * Ideal.div (Ideal.exp (f k * ((Real.log 2 : ℝ) : EReal) - Finset.univ.sup (fun k => f k * ((Real.log 2 : ℝ) : EReal))))
          (∑ k, Ideal.exp (f k * ((Real.log 2 : ℝ) : EReal) - Finset.univ.sup (fun k => f k * ((Real.log 2 : ℝ) : EReal)))) := by
  rw [sup_scaled]
  obtain ⟨M, hM⟩ : ∃ M : ℝ, Finset.univ.sup f = (M : EReal) := by
    have ht : Finset.univ.sup f ≠ ⊤ := by
      refine ne_of_lt ?_
      rw [Finset.sup_lt_iff (by exact bot_lt_top)]
      exact fun k _ => lt_of_le_of_ne le_top (hf k)
    have hb : Finset.univ.sup f ≠ ⊥ := fun h => hk0 (le_bot_iff.mp (h ▸ Finset.le_sup (f := f) (Finset.mem_univ k0)))
    exact ⟨_, (EReal.coe_toReal ht hb).symm⟩
  rw [hM]
  simp only [exp_scaled _ (hf _)]
  obtain ⟨l, hl⟩ := denom_real f hf M
  have hpos : 0 < l := by
    obtain ⟨k, _, hk⟩ := Finset.exists_mem_eq_sup Finset.univ ⟨(0 : Fin 16384), Finset.mem_univ _⟩ f
    have h1 : Ideal.exp2 (f k - M) = 1 := by
      rw [← hk, hM, ← EReal.coe_sub, sub_self, Ideal.exp2_coe]
      show (((2 : ℝ) ^ (0 : ℝ) : ℝ) : EReal) = 1
      rw [Real.rpow_zero]; rfl
    have h2 : Ideal.exp2 (f k - M) ≤ ∑ k, Ideal.exp2 (f k - M) :=
      Finset.single_le_sum (f := fun k => Ideal.exp2 (f k - M)) (fun k _ => exp2_nonneg _) (Finset.mem_univ k)
    rw [h1, hl] at h2
    have h3 : (1 : ℝ) ≤ l := by exact_mod_cast h2
    linarith
  rw [hl]
  simp only [Ideal.div_coe hpos.ne']
  have hc : (0 : EReal) ≤ ((1 / l : ℝ) : EReal) := EReal.coe_nonneg.mpr (by positivity)
  rw [mul_comm, mul_sum_of_nonneg _ _ hc (EReal.coe_ne_top _)]
  refine Finset.sum_congr rfl fun k _ => ?_
  rw [mul_comm, mul_assoc]

end Cert.Attn

end
-- ==== Proof.Pieces.lean ====
/- What a scratch buffer holds after the body's stores: the score tile as its eight heads' column blocks, the
   accumulator as its eight heads' row blocks, each block the tile of one function of the whole index. -/
module

public import proofs.«01_k».proof.KernelIdeal
public import Idealize.ShloMosaic.Lib.Pipeline.Value
public import Idealize.ShloMosaic.Lib.Pipeline.FrameBody
public import Idealize.ShloMosaic.Lib.ValueIdx

@[expose] public section

noncomputable section

namespace Cert.Attn

open Idealize.ShloMosaic Idealize.ShloMosaic.ValueIdx Idealize.SL.Sem Cert.KernelIdeal

/-- Contents left by writes of which the LAST ones, `L`, agree with one function `G` where they cover the index: `G`
    there, whatever the earlier writes `L'` were. -/
theorem canon_prefix {Val : EltTy → Type} {e : EltTy} {S : Shape} [∀ e, Nonempty (Val e)] (G : S.Idx → Val e)
    (L' : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ L') y = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_prefix G L' L (fun q hq => hL q (by simp [hq])) y ?_
      obtain ⟨q, hq, hyq⟩ := hy
      rcases List.mem_cons.mp hq with rfl | hq'
      · exact absurd hyq hm
      · exact ⟨q, hq', hyq⟩

variable {Val : EltTy → Type} {e : EltTy} [∀ e, Nonempty (Val e)]

/-- Index (r, c) of a two-axis shape lies in the unit-stride box at (a, b) of sizes (h, w) when its coordinates do. -/
theorem mem_box {m n h w : ℕ} (a b : ℕ) (inb : ∀ x, (![a, b] : Fin 2 → ℕ) x + (⟨2, ![h, w]⟩ : Shape).size x ≤ (⟨2, ![m, n]⟩ : Shape).size x)
    (r : Fin m) (c : Fin n) (hr : a ≤ r.val) (hr' : r.val < a + h) (hc : b ≤ c.val) (hc' : c.val < b + w) :
    ix2 r c ∈ (Rect.unit (s := ⟨2, ![m, n]⟩) ![a, b] (⟨2, ![h, w]⟩ : Shape).size inb).set := by
  have hx : (Rect.unit (s := ⟨2, ![m, n]⟩) ![a, b] (⟨2, ![h, w]⟩ : Shape).size inb).emb
      (ix2 (⟨r.val - a, by omega⟩ : Fin h) (⟨c.val - b, by omega⟩ : Fin w)) = ix2 r c := by
    funext x; apply Fin.ext
    match x with
    | ⟨0, _⟩ => show a + 1 * (r.val - a) = r.val; omega
    | ⟨1, _⟩ => show b + 1 * (c.val - b) = c.val; omega
  rw [← hx, ← Rect.map_emb_univ]
  exact Finset.mem_map_of_mem _ (Finset.mem_univ _)

/-- An index whose row is not among the box's rows is not in the box. -/
theorem not_mem_box {m n h w : ℕ} (a b : ℕ) (inb : ∀ x, (![a, b] : Fin 2 → ℕ) x + (⟨2, ![h, w]⟩ : Shape).size x ≤ (⟨2, ![m, n]⟩ : Shape).size x)
    (r : Fin m) (c : Fin n) (hr : r.val < a ∨ a + h ≤ r.val) :
    ix2 r c ∉ (Rect.unit (s := ⟨2, ![m, n]⟩) ![a, b] (⟨2, ![h, w]⟩ : Shape).size inb).set := by
  intro hm
  obtain ⟨x, hx⟩ := (Rect.unit (s := ⟨2, ![m, n]⟩) ![a, b] (⟨2, ![h, w]⟩ : Shape).size inb).exists_idx_of_mem hm
  have h0 := congrArg Fin.val (congrFun hx 0)
  have hx0 : a + 1 * (x 0).val = r.val := h0
  have : (x 0).val < h := (x 0).isLt
  omega

/-- Where a box's index sits in the whole. -/
theorem emb_box {m n h w : ℕ} (a b : ℕ) (inb : ∀ x, (![a, b] : Fin 2 → ℕ) x + (⟨2, ![h, w]⟩ : Shape).size x ≤ (⟨2, ![m, n]⟩ : Shape).size x)
    (r : Fin h) (c : Fin w) (r' : Fin m) (c' : Fin n) (hr : r'.val = a + r.val) (hc : c'.val = b + c.val) :
    (Rect.unit (s := ⟨2, ![m, n]⟩) ![a, b] (⟨2, ![h, w]⟩ : Shape).size inb).emb (ix2 r c) = ix2 r' c' := by
  funext x; apply Fin.ext
  match x with
  | ⟨0, _⟩ => show a + 1 * r.val = r'.val; omega
  | ⟨1, _⟩ => show b + 1 * c.val = c'.val; omega

/-- A block whose element (r, c) is `G` at (a + r, b + c) agrees with `G` on its box. -/
theorem agree_box {m n h w : ℕ} (a b : ℕ) (inb : ∀ x, (![a, b] : Fin 2 → ℕ) x + (⟨2, ![h, w]⟩ : Shape).size x ≤ (⟨2, ![m, n]⟩ : Shape).size x)
    (f : (⟨2, ![h, w]⟩ : Shape).Idx → Val e) (G : (⟨2, ![m, n]⟩ : Shape).Idx → Val e)
    (hf : ∀ (r : Fin h) (c : Fin w) (r' : Fin m) (c' : Fin n), r'.val = a + r.val → c'.val = b + c.val → f (ix2 r c) = G (ix2 r' c'))
    (x : (⟨2, ![h, w]⟩ : Shape).Idx) :
    f x = G ((Rect.unit (s := ⟨2, ![m, n]⟩) ![a, b] (⟨2, ![h, w]⟩ : Shape).size inb).emb x) := by
  obtain ⟨r, c, rfl⟩ : ∃ (r : Fin h) (c : Fin w), x = ix2 r c := ⟨x 0, x 1, eq_ix2 x⟩
  have i0' : a + h ≤ m := inb 0
  have i1' : b + w ≤ n := inb 1
  have l0 := r.isLt
  have l1 := c.isLt
  rw [emb_box a b inb r c ⟨a + r.val, by omega⟩ ⟨b + c.val, by omega⟩ rfl rfl]
  exact hf _ _ _ _ rfl rfl

/-- The score tile after its eight stores, one per head. -/
theorem canon_cols (G : S512x4096.Idx → Val e) (f0 f1 f2 f3 f4 f5 f6 f7 : S512x512.Idx → Val e) (i0 i1 i2 i3 i4 i5 i6 i7)
    (h0 : ∀ (r : Fin 512) (c : Fin 512) (r' : Fin 512) (c' : Fin 4096), r'.val = 0 + r.val → c'.val = 0 + c.val → f0 (ix2 r c) = G (ix2 r' c'))
    (h1 : ∀ (r : Fin 512) (c : Fin 512) (r' : Fin 512) (c' : Fin 4096), r'.val = 0 + r.val → c'.val = 512 + c.val → f1 (ix2 r c) = G (ix2 r' c'))
    (h2 : ∀ (r : Fin 512) (c : Fin 512) (r' : Fin 512) (c' : Fin 4096), r'.val = 0 + r.val → c'.val = 1024 + c.val → f2 (ix2 r c) = G (ix2 r' c'))
    (h3 : ∀ (r : Fin 512) (c : Fin 512) (r' : Fin 512) (c' : Fin 4096), r'.val = 0 + r.val → c'.val = 1536 + c.val → f3 (ix2 r c) = G (ix2 r' c'))
    (h4 : ∀ (r : Fin 512) (c : Fin 512) (r' : Fin 512) (c' : Fin 4096), r'.val = 0 + r.val → c'.val = 2048 + c.val → f4 (ix2 r c) = G (ix2 r' c'))
    (h5 : ∀ (r : Fin 512) (c : Fin 512) (r' : Fin 512) (c' : Fin 4096), r'.val = 0 + r.val → c'.val = 2560 + c.val → f5 (ix2 r c) = G (ix2 r' c'))
    (h6 : ∀ (r : Fin 512) (c : Fin 512) (r' : Fin 512) (c' : Fin 4096), r'.val = 0 + r.val → c'.val = 3072 + c.val → f6 (ix2 r c) = G (ix2 r' c'))
    (h7 : ∀ (r : Fin 512) (c : Fin 512) (r' : Fin 512) (c' : Fin 4096), r'.val = 0 + r.val → c'.val = 3584 + c.val → f7 (ix2 r c) = G (ix2 r' c')) :
    View.canon (Val := Val) (s := S512x4096) (e := e)
      [⟨Rect.unit ![0, 3584] S512x512.size i7, f7⟩, ⟨Rect.unit ![0, 3072] S512x512.size i6, f6⟩, ⟨Rect.unit ![0, 2560] S512x512.size i5, f5⟩,
       ⟨Rect.unit ![0, 2048] S512x512.size i4, f4⟩, ⟨Rect.unit ![0, 1536] S512x512.size i3, f3⟩, ⟨Rect.unit ![0, 1024] S512x512.size i2, f2⟩,
       ⟨Rect.unit ![0, 512] S512x512.size i1, f1⟩, ⟨Rect.unit ![0, 0] S512x512.size i0, f0⟩] = G := by
  funext y
  refine View.canon_apply_of_pieces G _ ?_ y ?_
  · simp only [List.forall_mem_cons]
    exact ⟨agree_box _ _ i7 f7 G h7, agree_box _ _ i6 f6 G h6, agree_box _ _ i5 f5 G h5, agree_box _ _ i4 f4 G h4,
      agree_box _ _ i3 f3 G h3, agree_box _ _ i2 f2 G h2, agree_box _ _ i1 f1 G h1, agree_box _ _ i0 f0 G h0,
      fun p hp => absurd hp List.not_mem_nil⟩
  · rw [eq_ix2 y]
    have hr : (y 0).val < 512 := (y 0).isLt
    have hc : (y 1).val < 4096 := (y 1).isLt
    simp only [List.exists_mem_cons_iff]
    rcases Nat.lt_or_ge (y 1).val 512 with h | h
    · exact .inr <| .inr <| .inr <| .inr <| .inr <| .inr <| .inr <| .inl (mem_box _ _ i0 _ _ (by omega) (by omega) (by omega) (by omega))
    rcases Nat.lt_or_ge (y 1).val 1024 with h | h
    · exact .inr <| .inr <| .inr <| .inr <| .inr <| .inr <| .inl (mem_box _ _ i1 _ _ (by omega) (by omega) (by omega) (by omega))
    rcases Nat.lt_or_ge (y 1).val 1536 with h | h
    · exact .inr <| .inr <| .inr <| .inr <| .inr <| .inl (mem_box _ _ i2 _ _ (by omega) (by omega) (by omega) (by omega))
    rcases Nat.lt_or_ge (y 1).val 2048 with h | h
    · exact .inr <| .inr <| .inr <| .inr <| .inl (mem_box _ _ i3 _ _ (by omega) (by omega) (by omega) (by omega))
    rcases Nat.lt_or_ge (y 1).val 2560 with h | h
    · exact .inr <| .inr <| .inr <| .inl (mem_box _ _ i4 _ _ (by omega) (by omega) (by omega) (by omega))
    rcases Nat.lt_or_ge (y 1).val 3072 with h | h
    · exact .inr <| .inr <| .inl (mem_box _ _ i5 _ _ (by omega) (by omega) (by omega) (by omega))
    rcases Nat.lt_or_ge (y 1).val 3584 with h | h
    · exact .inr <| .inl (mem_box _ _ i6 _ _ (by omega) (by omega) (by omega) (by omega))
    · exact .inl (mem_box _ _ i7 _ _ (by omega) (by omega) (by omega) (by omega))

/-- The accumulator after its eight stores, one per head, whatever was stored before. -/
theorem canon_rows (G : S640x512.Idx → Val e) (f0 f1 f2 f3 f4 f5 f6 f7 : S80x512.Idx → Val e) (i0 i1 i2 i3 i4 i5 i6 i7)
    (L : List (View.Piece Val S640x512 e))
    (h0 : ∀ (r : Fin 80) (c : Fin 512) (r' : Fin 640) (c' : Fin 512), r'.val = 0 + r.val → c'.val = 0 + c.val → f0 (ix2 r c) = G (ix2 r' c'))
    (h1 : ∀ (r : Fin 80) (c : Fin 512) (r' : Fin 640) (c' : Fin 512), r'.val = 80 + r.val → c'.val = 0 + c.val → f1 (ix2 r c) = G (ix2 r' c'))
    (h2 : ∀ (r : Fin 80) (c : Fin 512) (r' : Fin 640) (c' : Fin 512), r'.val = 160 + r.val → c'.val = 0 + c.val → f2 (ix2 r c) = G (ix2 r' c'))
    (h3 : ∀ (r : Fin 80) (c : Fin 512) (r' : Fin 640) (c' : Fin 512), r'.val = 240 + r.val → c'.val = 0 + c.val → f3 (ix2 r c) = G (ix2 r' c'))
    (h4 : ∀ (r : Fin 80) (c : Fin 512) (r' : Fin 640) (c' : Fin 512), r'.val = 320 + r.val → c'.val = 0 + c.val → f4 (ix2 r c) = G (ix2 r' c'))
    (h5 : ∀ (r : Fin 80) (c : Fin 512) (r' : Fin 640) (c' : Fin 512), r'.val = 400 + r.val → c'.val = 0 + c.val → f5 (ix2 r c) = G (ix2 r' c'))
    (h6 : ∀ (r : Fin 80) (c : Fin 512) (r' : Fin 640) (c' : Fin 512), r'.val = 480 + r.val → c'.val = 0 + c.val → f6 (ix2 r c) = G (ix2 r' c'))
    (h7 : ∀ (r : Fin 80) (c : Fin 512) (r' : Fin 640) (c' : Fin 512), r'.val = 560 + r.val → c'.val = 0 + c.val → f7 (ix2 r c) = G (ix2 r' c')) :
    View.canon (Val := Val) (s := S640x512) (e := e)
      (⟨Rect.unit ![560, 0] S80x512.size i7, f7⟩ :: ⟨Rect.unit ![480, 0] S80x512.size i6, f6⟩ :: ⟨Rect.unit ![400, 0] S80x512.size i5, f5⟩ ::
       ⟨Rect.unit ![320, 0] S80x512.size i4, f4⟩ :: ⟨Rect.unit ![240, 0] S80x512.size i3, f3⟩ :: ⟨Rect.unit ![160, 0] S80x512.size i2, f2⟩ ::
       ⟨Rect.unit ![80, 0] S80x512.size i1, f1⟩ :: ⟨Rect.unit ![0, 0] S80x512.size i0, f0⟩ :: L) = G := by
  funext y
  refine canon_prefix G L [⟨Rect.unit ![560, 0] S80x512.size i7, f7⟩, ⟨Rect.unit ![480, 0] S80x512.size i6, f6⟩, ⟨Rect.unit ![400, 0] S80x512.size i5, f5⟩,
       ⟨Rect.unit ![320, 0] S80x512.size i4, f4⟩, ⟨Rect.unit ![240, 0] S80x512.size i3, f3⟩, ⟨Rect.unit ![160, 0] S80x512.size i2, f2⟩,
       ⟨Rect.unit ![80, 0] S80x512.size i1, f1⟩, ⟨Rect.unit ![0, 0] S80x512.size i0, f0⟩] ?_ y ?_
  · simp only [List.forall_mem_cons]
    exact ⟨agree_box _ _ i7 f7 G h7, agree_box _ _ i6 f6 G h6, agree_box _ _ i5 f5 G h5, agree_box _ _ i4 f4 G h4,
      agree_box _ _ i3 f3 G h3, agree_box _ _ i2 f2 G h2, agree_box _ _ i1 f1 G h1, agree_box _ _ i0 f0 G h0,
      fun p hp => absurd hp List.not_mem_nil⟩
  · rw [eq_ix2 y]
    have hr : (y 0).val < 640 := (y 0).isLt
    have hc : (y 1).val < 512 := (y 1).isLt
    simp only [List.exists_mem_cons_iff]
    rcases Nat.lt_or_ge (y 0).val 80 with h | h
    · exact .inr <| .inr <| .inr <| .inr <| .inr <| .inr <| .inr <| .inl (mem_box _ _ i0 _ _ (by omega) (by omega) (by omega) (by omega))
    rcases Nat.lt_or_ge (y 0).val 160 with h | h
    · exact .inr <| .inr <| .inr <| .inr <| .inr <| .inr <| .inl (mem_box _ _ i1 _ _ (by omega) (by omega) (by omega) (by omega))
    rcases Nat.lt_or_ge (y 0).val 240 with h | h
    · exact .inr <| .inr <| .inr <| .inr <| .inr <| .inl (mem_box _ _ i2 _ _ (by omega) (by omega) (by omega) (by omega))
    rcases Nat.lt_or_ge (y 0).val 320 with h | h
    · exact .inr <| .inr <| .inr <| .inr <| .inl (mem_box _ _ i3 _ _ (by omega) (by omega) (by omega) (by omega))
    rcases Nat.lt_or_ge (y 0).val 400 with h | h
    · exact .inr <| .inr <| .inr <| .inl (mem_box _ _ i4 _ _ (by omega) (by omega) (by omega) (by omega))
    rcases Nat.lt_or_ge (y 0).val 480 with h | h
    · exact .inr <| .inr <| .inl (mem_box _ _ i5 _ _ (by omega) (by omega) (by omega) (by omega))
    rcases Nat.lt_or_ge (y 0).val 560 with h | h
    · exact .inr <| .inl (mem_box _ _ i6 _ _ (by omega) (by omega) (by omega) (by omega))
    · exact .inl (mem_box _ _ i7 _ _ (by omega) (by omega) (by omega) (by omega))

/-- A row-block store leaves every row outside its block. -/
theorem canon_row_skip (a : ℕ) (i) (f : S80x512.Idx → Val e) (L : List (View.Piece Val S640x512 e)) (r : Fin 640) (c : Fin 512)
    (h : r.val < a ∨ a + 80 ≤ r.val) :
    View.canon (Val := Val) (s := S640x512) (e := e) (⟨Rect.unit ![a, 0] S80x512.size i, f⟩ :: L) (ix2 r c) = View.canon L (ix2 r c) :=
  View.canon_cons_of_not_mem _ _ (not_mem_box a 0 i r c h)

end Cert.Attn

end
-- ==== Proof.Tile.lean ====
/- One grid point of the attention kernel over the extended reals, element by element: the score tile of a head, the
   running maximum, the rescaled accumulator. -/
module

public import proofs.«01_k».proof.KernelIdeal
public import proofs.«01_k».proof.Proof.Gen.KernelIdeal
public import Idealize.ShloMosaic.Lib.Pipeline.Value
public import Idealize.ShloMosaic.Lib.MatmulPlain
public import Idealize.ShloMosaic.Lib.ValueIdx
public import Idealize.ShloMosaic.PureOps.Ideal.Laws

@[expose] public section

noncomputable section

namespace Cert.Attn

open Idealize.ShloMosaic Idealize.ShloMosaic.ValueIdx Idealize.SL.Sem Cert.KernelIdeal
open scoped BigOperators

variable {sg : RefSig}

/-- Lane `o + d` of the 1024 lanes. -/
def lane (h : Fin 8) (d : Fin 128) : Fin 1024 := ⟨128 * h.val + d.val, by omega⟩

/-- The score of key row `k` against query row `q` of head `h`, within a block of keys `X1` and a block of queries `X0`. -/
def score (X0 X1 : S1x512x1024.Idx → EReal) (h : Fin 8) (k q : Fin 512) : EReal :=
  ∑ d : Fin 128, X1 (ix3 (0 : Fin 1) k (lane h d)) * X0 (ix3 (0 : Fin 1) q (lane h d))

/-- A load of one head's 128 lanes of a staged block. -/
theorem load_head (v : View sg .tc .vmem S1x512x1024 .bf16) (X : S1x512x1024.Idx → EReal) (o : ℕ) (inb) (hc)
    (h : Fin 8) (ho : o = 128 * h.val) (x : Fin 512) (d : Fin 128) :
    shapeCast S512x128 (View.readAt (Elt Ideal) v (Rect.unit (s := S1x512x1024) ![0, 0, o] S1x512x128.size inb).toLoadRect
      (v.rep (Val := Elt Ideal) X)) hc (ix2 x d) = X (ix3 (0 : Fin 1) x (lane h d)) := by
  rw [View.readAt_rep]
  refine (shapeCast_apply _ hc (ix2 x d) (ix3 (0 : Fin 1) x d) ?_).trans ?_
  · rw [Shape.rowMajor_val_three, Shape.rowMajor_val_two]
    show (0 * 512 + x.val) * 128 + d.val = x.val * 128 + d.val
    omega
  · show X _ = _
    refine congrArg X (funext fun a => Fin.ext ?_)
    match a with
    | ⟨0, _⟩ => rfl
    | ⟨1, _⟩ => show 0 + 1 * x.val = x.val; omega
    | ⟨2, _⟩ => show o + 1 * d.val = 128 * h.val + d.val; omega

/-- A load of one head's 80 rows of a staged value block. -/
theorem load_rows (v : View sg .tc .vmem S1x1x640x512 .bf16) (X : S1x1x640x512.Idx → EReal) (o : ℕ) (inb) (hc)
    (r : Fin 80) (k : Fin 512) (R : Fin 640) (hR : R.val = o + r.val) :
    shapeCast S80x512 (View.readAt (Elt Ideal) v (Rect.unit (s := S1x1x640x512) ![0, 0, o, 0] S1x1x80x512.size inb).toLoadRect
      (v.rep (Val := Elt Ideal) X)) hc (ix2 r k) = X (ix4 (0 : Fin 1) (0 : Fin 1) R k) := by
  rw [View.readAt_rep]
  refine (shapeCast_apply _ hc (ix2 r k) (ix4 (0 : Fin 1) (0 : Fin 1) r k) ?_).trans ?_
  · rw [Shape.rowMajor_val_four, Shape.rowMajor_val_two]
    show ((0 * 1 + 0) * 80 + r.val) * 512 + k.val = r.val * 512 + k.val
    omega
  · show X _ = _
    refine congrArg X (funext fun a => Fin.ext ?_)
    match a with
    | ⟨0, _⟩ => rfl
    | ⟨1, _⟩ => rfl
    | ⟨2, _⟩ => show o + 1 * r.val = R.val; omega
    | ⟨3, _⟩ => show 0 + 1 * k.val = k.val; omega

theorem zero_const (s : Shape) (j : s.Idx) : (constant (F := Ideal) s .f32 0x00000000#32) j = (0 : EReal) := by
  show Ideal.ofBits .f32 0x00000000#32 = 0
  simp [Ideal.ofBits, Ideal.ieee]

/-- The product of a head's keys and queries, both contracted along their lanes. -/
theorem score_mm (K Q : S512x128.Idx → EReal) (k q : Fin 512) :
    matmul (F := Ideal) (φ₁ := .bf16) (φ₂ := .bf16) dot_S512x128_S512x128_S512x512_1_1_0_0_n_n none K Q (constant S512x512 .f32 0x00000000#32) (ix2 k q)
      = ∑ d : Fin 128, K (ix2 k d) * Q (ix2 q d) := by
  refine (Ideal.matmul_transposedRhs_apply (M := 512) (K := 128) (N := 512) (φ₁ := .bf16) (φ₂ := .bf16) none K Q _ k q).trans ?_
  rw [zero_const, zero_add]

/-- The product of a head's value rows and its weights. -/
theorem value_mm (V : S80x512.Idx → EReal) (P : S512x512.Idx → EReal) (r : Fin 80) (q : Fin 512) :
    matmul (F := Ideal) (φ₁ := .bf16) (φ₂ := .bf16) dot_S80x512_S512x512_S80x512_1_0_0_1_n_n none V P (constant S80x512 .f32 0x00000000#32) (ix2 r q)
      = ∑ k : Fin 512, V (ix2 r k) * P (ix2 k q) := by
  refine (Ideal.matmul_plain_apply (M := 80) (K := 512) (N := 512) (φ₁ := .bf16) (φ₂ := .bf16) none V P _ r q).trans ?_
  rw [zero_const, zero_add]

/-- Head of column `c` of the 4096 (query, head) columns, and its query. -/
def colHead (c : Fin 4096) : Fin 8 := ⟨c.val / 512, by omega⟩
def colQuery (c : Fin 4096) : Fin 512 := ⟨c.val % 512, by omega⟩

/-- The score tile: every head's scores side by side, plus the mask's bias. -/
def scores (X0 X1 : S1x512x1024.Idx → EReal) (bias : Fin 512 → Fin 512 → EReal) : S512x4096.Idx → EReal :=
  fun y => score X0 X1 (colHead (y 1)) (y 0) (colQuery (y 1)) + bias (y 0) (colQuery (y 1))

/-- The clear tile has no mask. -/
def noBias : Fin 512 → Fin 512 → EReal := fun _ _ => 0

/-- A head's stored block of the score tile, without a mask. -/
theorem score_block (v4 v5 : View sg .tc .vmem S1x512x1024 .bf16) (X0 X1 : S1x512x1024.Idx → EReal) (o : ℕ) (i4 i5 c4 c5 cc)
    (h : Fin 8) (ho : o = 128 * h.val) (k q : Fin 512) (r' : Fin 512) (c' : Fin 4096) (hr : r'.val = 0 + k.val) (hq : c'.val = 512 * h.val + q.val) :
    shapeCast S512x512 (matmul (F := Ideal) (φ₁ := .bf16) (φ₂ := .bf16) dot_S512x128_S512x128_S512x512_1_1_0_0_n_n none
      (shapeCast S512x128 (View.readAt (Elt Ideal) v5 (Rect.unit (s := S1x512x1024) ![0, 0, o] S1x512x128.size i5).toLoadRect (v5.rep (Val := Elt Ideal) X1)) c5)
      (shapeCast S512x128 (View.readAt (Elt Ideal) v4 (Rect.unit (s := S1x512x1024) ![0, 0, o] S1x512x128.size i4).toLoadRect (v4.rep (Val := Elt Ideal) X0)) c4)
      (constant S512x512 .f32 0x00000000#32)) cc (ix2 k q) = scores X0 X1 noBias (ix2 r' c') := by
  rw [shapeCast_self, score_mm]
  have e1 : colHead c' = h := Fin.ext (by show c'.val / 512 = h.val; omega)
  have e2 : colQuery c' = q := Fin.ext (by show c'.val % 512 = q.val; omega)
  have e3 : r' = k := Fin.ext (by omega)
  show _ = score X0 X1 (colHead c') r' (colQuery c') + 0
  rw [add_zero, e1, e2, e3]
  unfold score
  refine Finset.sum_congr rfl fun d _ => ?_
  rw [load_head v5 X1 o i5 c5 h ho k d, load_head v4 X0 o i4 c4 h ho q d]

/-- A head's stored block of the score tile, with the mask's bias `B`. -/
theorem score_block_masked (v4 v5 : View sg .tc .vmem S1x512x1024 .bf16) (X0 X1 : S1x512x1024.Idx → EReal) (B : S512x512.Idx → EReal) (o : ℕ) (i4 i5 c4 c5 cc)
    (h : Fin 8) (ho : o = 128 * h.val) (k q : Fin 512) (r' : Fin 512) (c' : Fin 4096) (hr : r'.val = 0 + k.val) (hq : c'.val = 512 * h.val + q.val) :
    shapeCast S512x512 (addf (F := Ideal) (φ := .f32) (matmul (F := Ideal) (φ₁ := .bf16) (φ₂ := .bf16) dot_S512x128_S512x128_S512x512_1_1_0_0_n_n none
      (shapeCast S512x128 (View.readAt (Elt Ideal) v5 (Rect.unit (s := S1x512x1024) ![0, 0, o] S1x512x128.size i5).toLoadRect (v5.rep (Val := Elt Ideal) X1)) c5)
      (shapeCast S512x128 (View.readAt (Elt Ideal) v4 (Rect.unit (s := S1x512x1024) ![0, 0, o] S1x512x128.size i4).toLoadRect (v4.rep (Val := Elt Ideal) X0)) c4)
      (constant S512x512 .f32 0x00000000#32)) B) cc (ix2 k q) = scores X0 X1 (fun k q => B (ix2 k q)) (ix2 r' c') := by
  have e1 : colHead c' = h := Fin.ext (by show c'.val / 512 = h.val; omega)
  have e2 : colQuery c' = q := Fin.ext (by show c'.val % 512 = q.val; omega)
  have e3 : r' = k := Fin.ext (by omega)
  rw [shapeCast_self]
  show matmul (F := Ideal) (φ₁ := .bf16) (φ₂ := .bf16) dot_S512x128_S512x128_S512x512_1_1_0_0_n_n none _ _ (constant S512x512 .f32 0x00000000#32) (ix2 k q) + B (ix2 k q)
    = score X0 X1 (colHead c') r' (colQuery c') + B (ix2 r' (colQuery c'))
  rw [score_mm, e1, e2, e3]
  unfold score
  refine congrArg (· + B (ix2 k q)) (Finset.sum_congr rfl fun d _ => ?_)
  rw [load_head v5 X1 o i5 c5 h ho k d, load_head v4 X0 o i4 c4 h ho q d]

/-- The new running maximum of a column. -/
def maxNew (S : S512x4096.Idx → EReal) (m : S1x4096.Idx → EReal) : S1x4096.Idx → EReal :=
  fun y => max (m y) (Finset.univ.sup fun k : Fin 512 => S (ix2 k (y 1)))

theorem fold_max_sup {n : ℕ} (f : Fin n → EReal) : (Finset.univ : Finset (Fin n)).fold max ⊥ f = Finset.univ.sup f := rfl

/-- The stored maximum. -/
theorem max_step (S : S512x4096.Idx → EReal) (m : S1x4096.Idx → EReal) (h1 h2 h3 h4) :
    maximumf (F := Ideal) (φ := .f32) m (shapeCast S1x4096 (multiReduction (F := Ideal) (φ := .f32) .maximumf [0] S4096 S 0xFF800000#32 h1 h2 h3) h4) = maxNew S m := by
  funext y
  obtain ⟨u, c, rfl⟩ : ∃ (u : Fin 1) (c : Fin 4096), y = ix2 u c := ⟨y 0, y 1, eq_ix2 y⟩
  show max (m (ix2 u c)) (shapeCast S1x4096 (multiReduction (F := Ideal) (φ := .f32) .maximumf [0] S4096 S 0xFF800000#32 h1 h2 h3) h4 (ix2 u c)) = _
  have hu : u.val = 0 := by omega
  rw [shapeCast_apply _ h4 (ix2 u c) (ix1 c) (by
    rw [Shape.rowMajor_val_two, Shape.rowMajor_val_one]
    show c.val = u.val * 4096 + c.val
    omega)]
  rw [Ideal.multiReduction_maximumf_single]
  have hb : (FloatOps.ofBits (F := Ideal) .f32 0xFF800000#32 : EReal) = ⊥ := by
    show Ideal.ofBits .f32 0xFF800000#32 = ⊥
    simp [Ideal.ofBits, Ideal.ieee]
  rw [hb]
  refine congrArg (max (m (ix2 u c))) ?_
  show (Finset.univ : Finset (Fin 512)).fold max ⊥ _ = _
  refine (fold_max_sup (n := 512) _).trans ?_
  refine Finset.sup_congr rfl fun k _ => ?_
  show S _ = S _
  refine congrArg S (funext fun a => Fin.ext ?_)
  match a with
  | ⟨0, _⟩ => rfl
  | ⟨1, _⟩ => rfl

/-- The factor the column's sums are rescaled by. -/
def scaleOf (m m' : S1x4096.Idx → EReal) : S1x4096.Idx → EReal := fun y => Ideal.exp2 (m y - m' y)

/-- The weights of the tile. -/
def weights (S : S512x4096.Idx → EReal) (m' : S1x4096.Idx → EReal) : S512x4096.Idx → EReal :=
  fun y => Ideal.exp2 (S y - m' (ix2 (0 : Fin 1) (y 1)))

theorem scale_step (m m' : S1x4096.Idx → EReal) :
    exp2 (F := Ideal) (φ := .f32) (subf (F := Ideal) (φ := .f32) m m') = scaleOf m m' := rfl

theorem weights_step (S : S512x4096.Idx → EReal) (m' : S1x4096.Idx → EReal) (h1 h2) :
    exp2 (F := Ideal) (φ := .bf16) (truncf (F := Ideal) (φ := .f32) .bf16 (subf (F := Ideal) (φ := .f32) S (broadcastTo S512x4096 m' h1)) h2) = weights S m' := by
  funext y
  obtain ⟨k, c, rfl⟩ : ∃ (k : Fin 512) (c : Fin 4096), y = ix2 k c := ⟨y 0, y 1, eq_ix2 y⟩
  show Ideal.exp2 (S (ix2 k c) - broadcastTo S512x4096 m' h1 (ix2 k c)) = Ideal.exp2 (S (ix2 k c) - m' (ix2 (0 : Fin 1) c))
  rw [broadcastTo_apply m' h1 (ix2 k c) (ix2 (0 : Fin 1) c) (by
    intro a
    match a with
    | ⟨0, _⟩ => rfl
    | ⟨1, _⟩ => rfl)]

/-- Column `512 h + q`. -/
def colOf (R : Fin 640) (q : Fin 512) : Fin 4096 := ⟨512 * (R.val / 80) + q.val, by omega⟩

/-- The rescaled accumulator. -/
def accNew (X2 : S1x1x640x512.Idx → EReal) (al : S1x4096.Idx → EReal) (P : S512x4096.Idx → EReal) (acc : S640x512.Idx → EReal) : S640x512.Idx → EReal :=
  fun y => al (ix2 (0 : Fin 1) (colOf (y 0) (y 1))) * acc y
    + ∑ k : Fin 512, X2 (ix4 (0 : Fin 1) (0 : Fin 1) (y 0) k) * P (ix2 k (colOf (y 0) (y 1)))

/-- A head's stored block of the accumulator. -/
theorem acc_block (v6 : View sg .tc .vmem S1x1x640x512 .bf16) (X2 : S1x1x640x512.Idx → EReal) (al : S1x4096.Idx → EReal) (P : S512x4096.Idx → EReal)
    (A : S80x512.Idx → EReal) (acc : S640x512.Idx → EReal) (o p : ℕ) (i6 c6 s1 b1 s2 cc) (h : Fin 8) (ho : o = 80 * h.val) (hp : p = 512 * h.val)
    (r : Fin 80) (q : Fin 512) (R : Fin 640) (q' : Fin 512) (hR : R.val = o + r.val) (hq : q'.val = 0 + q.val)
    (hA : A (ix2 r q) = acc (ix2 R q')) :
    shapeCast S80x512 (addf (F := Ideal) (φ := .f32)
      (mulf (F := Ideal) (φ := .f32) (broadcastTo S80x512 (extractStridedSlice S1x512 ![0, p] al s1) b1) A)
      (matmul (F := Ideal) (φ₁ := .bf16) (φ₂ := .bf16) dot_S80x512_S512x512_S80x512_1_0_0_1_n_n none
        (shapeCast S80x512 (View.readAt (Elt Ideal) v6 (Rect.unit (s := S1x1x640x512) ![0, 0, o, 0] S1x1x80x512.size i6).toLoadRect (v6.rep (Val := Elt Ideal) X2)) c6)
        (extractStridedSlice S512x512 ![0, p] P s2)
        (constant S80x512 .f32 0x00000000#32))) cc (ix2 r q) = accNew X2 al P acc (ix2 R q') := by
  rw [shapeCast_self]
  have e1 : q' = q := Fin.ext (by omega)
  subst e1
  have hcol : (colOf R q').val = p + q'.val := by show 512 * (R.val / 80) + q'.val = _; omega
  show broadcastTo S80x512 (extractStridedSlice S1x512 ![0, p] al s1) b1 (ix2 r q') * A (ix2 r q')
    + matmul (F := Ideal) (φ₁ := .bf16) (φ₂ := .bf16) dot_S80x512_S512x512_S80x512_1_0_0_1_n_n none _ _ (constant S80x512 .f32 0x00000000#32) (ix2 r q')
    = al (ix2 (0 : Fin 1) (colOf R q')) * acc (ix2 R q') + ∑ k : Fin 512, X2 (ix4 (0 : Fin 1) (0 : Fin 1) R k) * P (ix2 k (colOf R q'))
  rw [value_mm, hA]
  rw [broadcastTo_apply _ b1 (ix2 r q') (ix2 (0 : Fin 1) q') (by
    intro a
    match a with
    | ⟨0, _⟩ => rfl
    | ⟨1, _⟩ => rfl)]
  rw [extractStridedSlice_apply ![0, p] al s1 (ix2 (0 : Fin 1) q') (ix2 (0 : Fin 1) (colOf R q')) (by
    intro a
    match a with
    | ⟨0, _⟩ => rfl
    | ⟨1, _⟩ => exact hcol)]
  refine congrArg (al (ix2 (0 : Fin 1) (colOf R q')) * acc (ix2 R q') + ·) (Finset.sum_congr rfl fun k _ => ?_)
  rw [load_rows v6 X2 o i6 c6 r k R hR]
  rw [extractStridedSlice_apply ![0, p] P s2 (ix2 k q') (ix2 k (colOf R q')) (by
    intro a
    match a with
    | ⟨0, _⟩ => show k.val = 0 + k.val; omega
    | ⟨1, _⟩ => exact hcol)]

end Cert.Attn

end
-- ==== Proof.Loads.lean ====
/- Loads of the kernel's scratch buffers: the whole of a buffer, and 80 rows of the accumulator. -/
module

public import proofs.«01_k».proof.Proof.Pieces
public import proofs.«01_k».proof.Proof.Tile
public import Idealize.ShloMosaic.Lib.VecWindow
public import proofs.«01_k».proof.Proof.Gen.KernelIdeal.Skeleton

@[expose] public section

noncomputable section

namespace Cert.Attn

open Idealize.ShloMosaic Idealize.ShloMosaic.ValueIdx Idealize.SL.Sem Cert.KernelIdeal Cert.KernelIdeal.Gen

variable {sg : RefSig}

/-- A load of a whole buffer reads what the stores before it left. -/
theorem readCov_whole {s : Shape} {e : EltTy} {κ : Kind} {sp : Space} (v : View sg κ sp s e) (L : List (View.Piece (Elt Ideal) s e))
    {off : Fin s.rank → ℕ} (inb : ∀ a, off a + s.size a ≤ s.size a) :
    v.readCov L (Rect.unit off s.size inb).toLoadRect = View.canon L := by
  show v.readAt (Elt Ideal) _ (v.writes (Elt Ideal) v.junk L) = _
  rw [View.readAt_full, View.read_writes_junk_eq_canon]

/-- A load of 80 rows of the accumulator. -/
theorem rows_read (v : View sg .tc .vmem S640x512 .f32) (f : v.ty.Contents (Elt Ideal)) (o : ℕ) (inb) (r : Fin 80) (q q' : Fin 512) (R : Fin 640)
    (hR : R.val = o + r.val) (hq : q'.val = 0 + q.val) :
    View.readAt (Elt Ideal) v (Rect.unit (s := S640x512) ![o, 0] S80x512.size inb).toLoadRect f (ix2 r q) = v.read (Elt Ideal) f (ix2 R q') := by
  show v.read (Elt Ideal) f _ = _
  refine congrArg (v.read (Elt Ideal) f) (funext fun a => Fin.ext ?_)
  match a with
  | ⟨0, _⟩ => show o + 1 * r.val = R.val; omega
  | ⟨1, _⟩ => show 0 + 1 * q.val = q'.val; omega

/-- A load of 80 rows of the accumulator after the stores `L`. -/
theorem rows_readCov (v : View sg .tc .vmem S640x512 .f32) (L : List (View.Piece (Elt Ideal) S640x512 .f32)) (o : ℕ) (inb) (r : Fin 80) (q q' : Fin 512) (R : Fin 640)
    (hR : R.val = o + r.val) (hq : q'.val = 0 + q.val) :
    v.readCov L (Rect.unit (s := S640x512) ![o, 0] S80x512.size inb).toLoadRect (ix2 r q) = View.canon L (ix2 R q') := by
  refine (rows_read v (v.writes (Elt Ideal) v.junk L) o inb r q q' R hR hq).trans ?_
  rw [View.read_writes_junk_eq_canon]

/-- No score yet. -/
def noMax : S1x4096.Idx → EReal := fun _ => ⊥

/-- Nothing accumulated yet. -/
def noAcc : S640x512.Idx → EReal := fun _ => 0

theorem init_max : (k0_pay57 (F := Ideal)) = noMax := by
  funext y
  unfold k0_pay57
  rw [shapeCast_self]
  rfl

theorem init_acc : (k0_pay58 (F := Ideal)) = noAcc := by
  funext y
  unfold k0_pay58
  rw [shapeCast_self]
  show Ideal.ofBits .f32 0x00000000#32 = 0
  simp [Ideal.ofBits, Ideal.ieee]

/-- The stores of the heads' 80-row blocks below row `n` leave the rows from `n` on untouched. -/
theorem untouched (L : List (View.Piece (Elt Ideal) S640x512 .f32)) (n : ℕ) (i) (f : S80x512.Idx → Elt Ideal .f32)
    (h : ∀ (R : Fin 640) (q : Fin 512), n ≤ R.val → View.canon L (ix2 R q) = noAcc (ix2 R q)) :
    ∀ (R : Fin 640) (q : Fin 512), n + 80 ≤ R.val →
      View.canon (⟨Rect.unit (s := S640x512) ![n, 0] S80x512.size i, f⟩ :: L) (ix2 R q) = noAcc (ix2 R q) :=
  fun R q hR => (canon_row_skip n i f L R q (.inr hR)).trans (h R q (by omega))

/-- The zero fill, before the first head's store. -/
theorem untouched_init (i) : ∀ (R : Fin 640) (q : Fin 512), 0 ≤ R.val →
    View.canon [(⟨Rect.unit (s := S640x512) ![0, 0] S640x512.size i, k0_pay58 (F := Ideal)⟩ : View.Piece (Elt Ideal) S640x512 .f32)] (ix2 R q) = noAcc (ix2 R q) :=
  fun R q _ => congrFun ((View.canon_unit_zero (by funext a; fin_cases a <;> rfl) i _).trans init_acc) (ix2 R q)

/-- The initial maximum, loaded back. -/
theorem init_max_read (v : View sg .tc .vmem S1x4096 .f32) (i i') :
    v.readCov [(⟨Rect.unit (s := S1x4096) ![0, 0] S1x4096.size i, k0_pay57 (F := Ideal)⟩ : View.Piece (Elt Ideal) S1x4096 .f32)]
      (Rect.unit (s := S1x4096) ![0, 0] S1x4096.size i').toLoadRect = noMax := by
  rw [readCov_whole, View.canon_unit_zero (by funext a; fin_cases a <;> rfl), init_max]

/-- One tile's effect on the maximum and the accumulator. -/
def accStep (S : S512x4096.Idx → EReal) (X2 : S1x1x640x512.Idx → EReal) (m : S1x4096.Idx → EReal) (acc : S640x512.Idx → EReal) : S640x512.Idx → EReal :=
  accNew X2 (scaleOf m (maxNew S m)) (weights S (maxNew S m)) acc

end Cert.Attn

end
-- ==== Proof.Output.lean ====
/- The output block of a query block: every head's sums divided by the row that holds its normaliser, transposed to
   rows of queries. -/
module

public import proofs.«01_k».proof.Proof.Loads

@[expose] public section

noncomputable section

namespace Cert.Attn

open Idealize.ShloMosaic Idealize.ShloMosaic.ValueIdx Idealize.SL.Sem Cert.KernelIdeal Cert.KernelIdeal.Gen

variable {sg : RefSig}

/-- Row `80 n + d` of the accumulator. -/
def row (n : Fin 8) (d : Fin 80) : Fin 640 := ⟨80 * n.val + d.val, by omega⟩

/-- A value row of a head, as one of its 80 rows. -/
def val80 (d : Fin 64) : Fin 80 := ⟨d.val, by omega⟩

/-- Head `n`'s quotient: its 64 value rows over its normaliser row. -/
def quotient (A : S640x512.Idx → EReal) (n : Fin 8) : S64x512.Idx → EReal :=
  fun y => Ideal.div (A (ix2 (row n (val80 (y 0))) (y 1))) (A (ix2 (row n 64) (y 1)))

theorem quotient_block (v : View sg .tc .vmem S640x512 .f32) (L : List (View.Piece (Elt Ideal) S640x512 .f32)) (o p : ℕ) (i i' b) (n : Fin 8)
    (ho : o = 80 * n.val) (hp : p = 80 * n.val + 64) :
    divf (F := Ideal) (φ := .f32) (v.readCov L (Rect.unit (s := S640x512) ![o, 0] S64x512.size i).toLoadRect)
      (broadcastTo S64x512 (v.readCov L (Rect.unit (s := S640x512) ![p, 0] S1x512.size i').toLoadRect) b) = quotient (View.canon L) n := by
  funext y
  obtain ⟨d, q, rfl⟩ : ∃ (d : Fin 64) (q : Fin 512), y = ix2 d q := ⟨y 0, y 1, eq_ix2 y⟩
  show Ideal.div _ (broadcastTo S64x512 _ b (ix2 d q)) = Ideal.div (View.canon L (ix2 (row n (val80 d)) q)) (View.canon L (ix2 (row n 64) q))
  rw [broadcastTo_apply _ b (ix2 d q) (ix2 (0 : Fin 1) q) (by
    intro a
    match a with
    | ⟨0, _⟩ => rfl
    | ⟨1, _⟩ => rfl)]
  rw [View.readCov_eq_canon', View.readCov_eq_canon']
  refine congrArg₂ Ideal.div (congrArg (View.canon L) (funext fun a => Fin.ext ?_)) (congrArg (View.canon L) (funext fun a => Fin.ext ?_))
  · match a with
    | ⟨0, _⟩ => show o + 1 * d.val = 80 * n.val + d.val; omega
    | ⟨1, _⟩ => show 0 + 1 * q.val = q.val; omega
  · match a with
    | ⟨0, _⟩ => show p + 1 * 0 = 80 * n.val + 64; omega
    | ⟨1, _⟩ => show 0 + 1 * q.val = q.val; omega

/-- Head of lane `l` of the 512 output lanes, and its value row. -/
def outHead (l : Fin 512) : Fin 8 := ⟨l.val / 64, by omega⟩
def outVal (l : Fin 512) : Fin 64 := ⟨l.val % 64, by omega⟩

/-- The output block. -/
def outBlock (A : S640x512.Idx → EReal) : S1x512x512.Idx → EReal := fun y => quotient A (outHead (y 2)) (ix2 (outVal (y 2)) (y 1))

theorem output_block (A : S640x512.Idx → EReal) (f0 f1 f2 f3 f4 f5 f6 : FVec Ideal S64x512 .f32) (v73 : Vec Ideal S64x512 .f32) (v74 : Vec Ideal S1x512 .f32)
    (h0 : f0 = quotient A 0) (h1 : f1 = quotient A 1) (h2 : f2 = quotient A 2) (h3 : f3 = quotient A 3)
    (h4 : f4 = quotient A 4) (h5 : f5 = quotient A 5) (h6 : f6 = quotient A 6)
    (h7 : divf (F := Ideal) (φ := .f32) v73 (broadcastTo S64x512 v74 broadcasts_S1x512_S64x512) = quotient A 7) :
    k0_pay1 (F := Ideal) f0 f1 f2 f3 f4 f5 f6 v73 v74 = outBlock A := by
  unfold k0_pay1
  dsimp only
  rw [h7]
  subst h0 h1 h2 h3 h4 h5 h6
  funext y
  obtain ⟨u, q, l, rfl⟩ : ∃ (u : Fin 1) (q l : Fin 512), y = ix3 u q l := ⟨y 0, y 1, y 2, eq_ix3 y⟩
  have hu : u.val = 0 := by omega
  refine (shapeCast_apply _ _ (ix3 u q l) (ix2 q l) ?_).trans ?_
  · rw [Shape.rowMajor_val_three, Shape.rowMajor_val_two]
    show q.val * 512 + l.val = (u.val * 512 + q.val) * 512 + l.val
    omega
  refine (transpose_apply [1, 0] _ _ (ix2 q l) (ix2 l q) ?_).trans ?_
  · intro b
    match b with
    | ⟨0, _⟩ => rfl
    | ⟨1, _⟩ => rfl
  refine concatenate_ofFn_apply (t := S512x512) (s₁ := S64x512) (0 : Fin 2) (N := 8) (fun n => quotient A n) concatenates_S64x512_S64x512_S64x512_S64x512_S64x512_S64x512_S64x512_S64x512_S512x512_d0
    rfl 64 rfl (ix2 l q) (outHead l) rfl (ix2 (outVal l) q) rfl ?_
  intro b hb
  match b with
  | ⟨0, _⟩ => exact absurd rfl hb
  | ⟨1, _⟩ => rfl

end Cert.Attn

end
-- ==== Proof.RunA.lean ====
/- The first grid point of each batch: its row of key blocks is this single masked tile, so the sums start from nothing
   and the output block is written at once. -/
module

public import proofs.«01_k».proof.Proof.Output
public import proofs.«01_k».proof.Proof.Gen.KernelIdeal.Flash.Runs

@[expose] public section

noncomputable section

namespace Cert.Attn

open Idealize.ShloMosaic Idealize.ShloMosaic.TcCoe Idealize.ShloMosaic.ValueIdx Idealize.SL.Sem Cert.KernelIdeal Cert.KernelIdeal.Gen

variable (i : grid0.Coords) (arg4 arg5 : Memref sig .tc .vmem S1x512x1024 .bf16) (arg6 : Memref sig .tc .vmem S1x1x640x512 .bf16)
  (T0 T1 : S528.Idx → Elt Ideal .i32) (x0 x1 : S1x512x1024.Idx → EReal) (x2 : S1x1x640x512.Idx → EReal)

/-- The mask's bias at this grid point. -/
def biasA : Fin 512 → Fin 512 → EReal := fun k q => kernelRun0_A.sl.r_2 i T0 T1 (ix2 k q)

theorem scores_A : kernelRun0_A.sl.v133 i arg4 arg5 T0 T1 x0 x1 = scores x0 x1 (biasA i T0 T1) := by
  unfold kernelRun0_A.sl.v133
  rw [readCov_whole]
  unfold kernelRun0_A.sl.HS2_8
  exact canon_cols _ _ _ _ _ _ _ _ _ _ _ _ _ _ _ _ _
    (fun k q r' c' hr hc => score_block_masked _ _ x0 x1 _ 0 _ _ _ _ _ 0 rfl k q r' c' hr hc)
    (fun k q r' c' hr hc => score_block_masked _ _ x0 x1 _ 128 _ _ _ _ _ 1 rfl k q r' c' hr hc)
    (fun k q r' c' hr hc => score_block_masked _ _ x0 x1 _ 256 _ _ _ _ _ 2 rfl k q r' c' hr hc)
    (fun k q r' c' hr hc => score_block_masked _ _ x0 x1 _ 384 _ _ _ _ _ 3 rfl k q r' c' hr hc)
    (fun k q r' c' hr hc => score_block_masked _ _ x0 x1 _ 512 _ _ _ _ _ 4 rfl k q r' c' hr hc)
    (fun k q r' c' hr hc => score_block_masked _ _ x0 x1 _ 640 _ _ _ _ _ 5 rfl k q r' c' hr hc)
    (fun k q r' c' hr hc => score_block_masked _ _ x0 x1 _ 768 _ _ _ _ _ 6 rfl k q r' c' hr hc)
    (fun k q r' c' hr hc => score_block_masked _ _ x0 x1 _ 896 _ _ _ _ _ 7 rfl k q r' c' hr hc)

theorem start_A : kernelRun0_A.sl.v134 = noMax := by
  unfold kernelRun0_A.sl.v134 kernelRun0_A.sl.HS0_1
  exact init_max_read _ _ _

theorem max_A : kernelRun0_A.sl.v137 i arg4 arg5 T0 T1 x0 x1 = maxNew (scores x0 x1 (biasA i T0 T1)) noMax := by
  unfold kernelRun0_A.sl.v137 kernelRun0_A.sl.v136 kernelRun0_A.sl.v135
  rw [start_A, scores_A]
  exact max_step _ _ _ _ _ _

theorem scale_A : kernelRun0_A.sl.v139 i arg4 arg5 T0 T1 x0 x1 = scaleOf noMax (maxNew (scores x0 x1 (biasA i T0 T1)) noMax) := by
  unfold kernelRun0_A.sl.v139 kernelRun0_A.sl.v138
  rw [start_A, max_A]
  rfl

theorem weights_A : kernelRun0_A.sl.v146 i arg4 arg5 T0 T1 x0 x1
    = weights (scores x0 x1 (biasA i T0 T1)) (maxNew (scores x0 x1 (biasA i T0 T1)) noMax) := by
  unfold kernelRun0_A.sl.v146 kernelRun0_A.sl.v145 kernelRun0_A.sl.v144 kernelRun0_A.sl.v143
  rw [scores_A, max_A]
  exact weights_step _ _ _ _

set_option maxHeartbeats 2000000 in
theorem acc_stored_A : View.canon (kernelRun0_A.sl.HS1_9 i arg4 arg5 arg6 T0 T1 x0 x1 x2) = accStep (scores x0 x1 (biasA i T0 T1)) x2 noMax noAcc := by
  unfold accStep
  rw [← scale_A i arg4 arg5 T0 T1 x0 x1, ← weights_A i arg4 arg5 T0 T1 x0 x1]
  have u0 : ∀ (R : Fin 640) (q : Fin 512), 0 ≤ R.val → View.canon kernelRun0_A.sl.HS1_1 (ix2 R q) = noAcc (ix2 R q) := untouched_init _
  have u1 : ∀ (R : Fin 640) (q : Fin 512), 80 ≤ R.val → View.canon (kernelRun0_A.sl.HS1_2 i arg4 arg5 arg6 T0 T1 x0 x1 x2) (ix2 R q) = noAcc (ix2 R q) := untouched _ 0 _ _ u0
  have u2 : ∀ (R : Fin 640) (q : Fin 512), 160 ≤ R.val → View.canon (kernelRun0_A.sl.HS1_3 i arg4 arg5 arg6 T0 T1 x0 x1 x2) (ix2 R q) = noAcc (ix2 R q) := untouched _ 80 _ _ u1
  have u3 : ∀ (R : Fin 640) (q : Fin 512), 240 ≤ R.val → View.canon (kernelRun0_A.sl.HS1_4 i arg4 arg5 arg6 T0 T1 x0 x1 x2) (ix2 R q) = noAcc (ix2 R q) := untouched _ 160 _ _ u2
  have u4 : ∀ (R : Fin 640) (q : Fin 512), 320 ≤ R.val → View.canon (kernelRun0_A.sl.HS1_5 i arg4 arg5 arg6 T0 T1 x0 x1 x2) (ix2 R q) = noAcc (ix2 R q) := untouched _ 240 _ _ u3
  have u5 : ∀ (R : Fin 640) (q : Fin 512), 400 ≤ R.val → View.canon (kernelRun0_A.sl.HS1_6 i arg4 arg5 arg6 T0 T1 x0 x1 x2) (ix2 R q) = noAcc (ix2 R q) := untouched _ 320 _ _ u4
  have u6 : ∀ (R : Fin 640) (q : Fin 512), 480 ≤ R.val → View.canon (kernelRun0_A.sl.HS1_7 i arg4 arg5 arg6 T0 T1 x0 x1 x2) (ix2 R q) = noAcc (ix2 R q) := untouched _ 400 _ _ u5
  have u7 : ∀ (R : Fin 640) (q : Fin 512), 560 ≤ R.val → View.canon (kernelRun0_A.sl.HS1_8 i arg4 arg5 arg6 T0 T1 x0 x1 x2) (ix2 R q) = noAcc (ix2 R q) := untouched _ 480 _ _ u6
  exact canon_rows _ _ _ _ _ _ _ _ _ _ _ _ _ _ _ _ _ _
    (fun r q R q' hR hq => acc_block _ x2 _ _ _ _ 0 0 _ _ _ _ _ _ 0 rfl rfl r q R q' hR hq
      ((rows_readCov scM0_1.view kernelRun0_A.sl.HS1_1 0 _ r q q' R hR hq).trans (u0 R q' (by omega))))
    (fun r q R q' hR hq => acc_block _ x2 _ _ _ _ 80 512 _ _ _ _ _ _ 1 rfl rfl r q R q' hR hq
      ((rows_readCov scM0_1.view (kernelRun0_A.sl.HS1_2 i arg4 arg5 arg6 T0 T1 x0 x1 x2) 80 _ r q q' R hR hq).trans (u1 R q' (by omega))))
    (fun r q R q' hR hq => acc_block _ x2 _ _ _ _ 160 1024 _ _ _ _ _ _ 2 rfl rfl r q R q' hR hq
      ((rows_readCov scM0_1.view (kernelRun0_A.sl.HS1_3 i arg4 arg5 arg6 T0 T1 x0 x1 x2) 160 _ r q q' R hR hq).trans (u2 R q' (by omega))))
    (fun r q R q' hR hq => acc_block _ x2 _ _ _ _ 240 1536 _ _ _ _ _ _ 3 rfl rfl r q R q' hR hq
      ((rows_readCov scM0_1.view (kernelRun0_A.sl.HS1_4 i arg4 arg5 arg6 T0 T1 x0 x1 x2) 240 _ r q q' R hR hq).trans (u3 R q' (by omega))))
    (fun r q R q' hR hq => acc_block _ x2 _ _ _ _ 320 2048 _ _ _ _ _ _ 4 rfl rfl r q R q' hR hq
      ((rows_readCov scM0_1.view (kernelRun0_A.sl.HS1_5 i arg4 arg5 arg6 T0 T1 x0 x1 x2) 320 _ r q q' R hR hq).trans (u4 R q' (by omega))))
    (fun r q R q' hR hq => acc_block _ x2 _ _ _ _ 400 2560 _ _ _ _ _ _ 5 rfl rfl r q R q' hR hq
      ((rows_readCov scM0_1.view (kernelRun0_A.sl.HS1_6 i arg4 arg5 arg6 T0 T1 x0 x1 x2) 400 _ r q q' R hR hq).trans (u5 R q' (by omega))))
    (fun r q R q' hR hq => acc_block _ x2 _ _ _ _ 480 3072 _ _ _ _ _ _ 6 rfl rfl r q R q' hR hq
      ((rows_readCov scM0_1.view (kernelRun0_A.sl.HS1_7 i arg4 arg5 arg6 T0 T1 x0 x1 x2) 480 _ r q q' R hR hq).trans (u6 R q' (by omega))))
    (fun r q R q' hR hq => acc_block _ x2 _ _ _ _ 560 3584 _ _ _ _ _ _ 7 rfl rfl r q R q' hR hq
      ((rows_readCov scM0_1.view (kernelRun0_A.sl.HS1_8 i arg4 arg5 arg6 T0 T1 x0 x1 x2) 560 _ r q q' R hR hq).trans (u7 R q' (by omega))))

set_option maxHeartbeats 2000000 in
theorem out_stored_A : View.canon (kernelRun0_A.sl.HO3_1 i arg4 arg5 arg6 T0 T1 x0 x1 x2)
    = outBlock (accStep (scores x0 x1 (biasA i T0 T1)) x2 noMax noAcc) := by
  rw [← acc_stored_A i arg4 arg5 arg6 T0 T1 x0 x1 x2]
  unfold kernelRun0_A.sl.HO3_1
  rw [View.canon_unit_zero (by funext a; fin_cases a <;> rfl)]
  exact output_block _ _ _ _ _ _ _ _ _ _
    (quotient_block scM0_1.view _ 0 64 _ _ _ 0 rfl rfl)
    (quotient_block scM0_1.view _ 80 144 _ _ _ 1 rfl rfl)
    (quotient_block scM0_1.view _ 160 224 _ _ _ 2 rfl rfl)
    (quotient_block scM0_1.view _ 240 304 _ _ _ 3 rfl rfl)
    (quotient_block scM0_1.view _ 320 384 _ _ _ 4 rfl rfl)
    (quotient_block scM0_1.view _ 400 464 _ _ _ 5 rfl rfl)
    (quotient_block scM0_1.view _ 480 544 _ _ _ 6 rfl rfl)
    (quotient_block scM0_1.view _ 560 624 _ _ _ 7 rfl rfl)

end Cert.Attn

end
-- ==== Proof.RunB.lean ====
/- The grid points that start a query block's row away from the diagonal: the sums start from nothing and the scores
   need no mask. -/
module

public import proofs.«01_k».proof.Proof.Loads
public import proofs.«01_k».proof.Proof.Gen.KernelIdeal.Flash.Runs

@[expose] public section

noncomputable section

namespace Cert.Attn

open Idealize.ShloMosaic Idealize.ShloMosaic.TcCoe Idealize.ShloMosaic.ValueIdx Idealize.SL.Sem Cert.KernelIdeal Cert.KernelIdeal.Gen

variable (arg4 arg5 : Memref sig .tc .vmem S1x512x1024 .bf16) (arg6 : Memref sig .tc .vmem S1x1x640x512 .bf16)
  (x0 x1 : S1x512x1024.Idx → EReal) (x2 : S1x1x640x512.Idx → EReal)

theorem scores_B : kernelRun0_B.sl.v109 arg4 arg5 x0 x1 = scores x0 x1 noBias := by
  unfold kernelRun0_B.sl.v109
  rw [readCov_whole]
  unfold kernelRun0_B.sl.HS2_8
  exact canon_cols _ _ _ _ _ _ _ _ _ _ _ _ _ _ _ _ _
    (fun k q r' c' hr hc => score_block _ _ x0 x1 0 _ _ _ _ _ 0 rfl k q r' c' hr hc)
    (fun k q r' c' hr hc => score_block _ _ x0 x1 128 _ _ _ _ _ 1 rfl k q r' c' hr hc)
    (fun k q r' c' hr hc => score_block _ _ x0 x1 256 _ _ _ _ _ 2 rfl k q r' c' hr hc)
    (fun k q r' c' hr hc => score_block _ _ x0 x1 384 _ _ _ _ _ 3 rfl k q r' c' hr hc)
    (fun k q r' c' hr hc => score_block _ _ x0 x1 512 _ _ _ _ _ 4 rfl k q r' c' hr hc)
    (fun k q r' c' hr hc => score_block _ _ x0 x1 640 _ _ _ _ _ 5 rfl k q r' c' hr hc)
    (fun k q r' c' hr hc => score_block _ _ x0 x1 768 _ _ _ _ _ 6 rfl k q r' c' hr hc)
    (fun k q r' c' hr hc => score_block _ _ x0 x1 896 _ _ _ _ _ 7 rfl k q r' c' hr hc)

theorem start_B : kernelRun0_B.sl.v110 = noMax := by
  unfold kernelRun0_B.sl.v110 kernelRun0_B.sl.HS0_1
  exact init_max_read _ _ _

theorem max_B : kernelRun0_B.sl.v113 arg4 arg5 x0 x1 = maxNew (scores x0 x1 noBias) noMax := by
  unfold kernelRun0_B.sl.v113 kernelRun0_B.sl.v112 kernelRun0_B.sl.v111
  rw [start_B, scores_B]
  exact max_step _ _ _ _ _ _

theorem scale_B : kernelRun0_B.sl.v115 arg4 arg5 x0 x1 = scaleOf noMax (maxNew (scores x0 x1 noBias) noMax) := by
  unfold kernelRun0_B.sl.v115 kernelRun0_B.sl.v114
  rw [start_B, max_B]
  rfl

theorem weights_B : kernelRun0_B.sl.v122 arg4 arg5 x0 x1 = weights (scores x0 x1 noBias) (maxNew (scores x0 x1 noBias) noMax) := by
  unfold kernelRun0_B.sl.v122 kernelRun0_B.sl.v121 kernelRun0_B.sl.v120 kernelRun0_B.sl.v119
  rw [scores_B, max_B]
  exact weights_step _ _ _ _

theorem max_stored_B : View.canon (kernelRun0_B.sl.HS0_2 arg4 arg5 x0 x1) = maxNew (scores x0 x1 noBias) noMax := by
  unfold kernelRun0_B.sl.HS0_2 kernelRun0_B.sl.v118
  rw [shapeCast_self, max_B]
  exact View.canon_cons_unit_zero (by funext a; fin_cases a <;> rfl) _ _ _

set_option maxHeartbeats 2000000 in
theorem acc_stored_B : View.canon (kernelRun0_B.sl.HS1_9 arg4 arg5 arg6 x0 x1 x2) = accStep (scores x0 x1 noBias) x2 noMax noAcc := by
  unfold accStep
  rw [← scale_B arg4 arg5 x0 x1, ← weights_B arg4 arg5 x0 x1]
  have u0 : ∀ (R : Fin 640) (q : Fin 512), 0 ≤ R.val → View.canon kernelRun0_B.sl.HS1_1 (ix2 R q) = noAcc (ix2 R q) := untouched_init _
  have u1 : ∀ (R : Fin 640) (q : Fin 512), 80 ≤ R.val → View.canon (kernelRun0_B.sl.HS1_2 arg4 arg5 arg6 x0 x1 x2) (ix2 R q) = noAcc (ix2 R q) := untouched _ 0 _ _ u0
  have u2 : ∀ (R : Fin 640) (q : Fin 512), 160 ≤ R.val → View.canon (kernelRun0_B.sl.HS1_3 arg4 arg5 arg6 x0 x1 x2) (ix2 R q) = noAcc (ix2 R q) := untouched _ 80 _ _ u1
  have u3 : ∀ (R : Fin 640) (q : Fin 512), 240 ≤ R.val → View.canon (kernelRun0_B.sl.HS1_4 arg4 arg5 arg6 x0 x1 x2) (ix2 R q) = noAcc (ix2 R q) := untouched _ 160 _ _ u2
  have u4 : ∀ (R : Fin 640) (q : Fin 512), 320 ≤ R.val → View.canon (kernelRun0_B.sl.HS1_5 arg4 arg5 arg6 x0 x1 x2) (ix2 R q) = noAcc (ix2 R q) := untouched _ 240 _ _ u3
  have u5 : ∀ (R : Fin 640) (q : Fin 512), 400 ≤ R.val → View.canon (kernelRun0_B.sl.HS1_6 arg4 arg5 arg6 x0 x1 x2) (ix2 R q) = noAcc (ix2 R q) := untouched _ 320 _ _ u4
  have u6 : ∀ (R : Fin 640) (q : Fin 512), 480 ≤ R.val → View.canon (kernelRun0_B.sl.HS1_7 arg4 arg5 arg6 x0 x1 x2) (ix2 R q) = noAcc (ix2 R q) := untouched _ 400 _ _ u5
  have u7 : ∀ (R : Fin 640) (q : Fin 512), 560 ≤ R.val → View.canon (kernelRun0_B.sl.HS1_8 arg4 arg5 arg6 x0 x1 x2) (ix2 R q) = noAcc (ix2 R q) := untouched _ 480 _ _ u6
  exact canon_rows _ _ _ _ _ _ _ _ _ _ _ _ _ _ _ _ _ _
    (fun r q R q' hR hq => acc_block _ x2 _ _ _ _ 0 0 _ _ _ _ _ _ 0 rfl rfl r q R q' hR hq
      ((rows_readCov scM0_1.view kernelRun0_B.sl.HS1_1 0 _ r q q' R hR hq).trans (u0 R q' (by omega))))
    (fun r q R q' hR hq => acc_block _ x2 _ _ _ _ 80 512 _ _ _ _ _ _ 1 rfl rfl r q R q' hR hq
      ((rows_readCov scM0_1.view (kernelRun0_B.sl.HS1_2 arg4 arg5 arg6 x0 x1 x2) 80 _ r q q' R hR hq).trans (u1 R q' (by omega))))
    (fun r q R q' hR hq => acc_block _ x2 _ _ _ _ 160 1024 _ _ _ _ _ _ 2 rfl rfl r q R q' hR hq
      ((rows_readCov scM0_1.view (kernelRun0_B.sl.HS1_3 arg4 arg5 arg6 x0 x1 x2) 160 _ r q q' R hR hq).trans (u2 R q' (by omega))))
    (fun r q R q' hR hq => acc_block _ x2 _ _ _ _ 240 1536 _ _ _ _ _ _ 3 rfl rfl r q R q' hR hq
      ((rows_readCov scM0_1.view (kernelRun0_B.sl.HS1_4 arg4 arg5 arg6 x0 x1 x2) 240 _ r q q' R hR hq).trans (u3 R q' (by omega))))
    (fun r q R q' hR hq => acc_block _ x2 _ _ _ _ 320 2048 _ _ _ _ _ _ 4 rfl rfl r q R q' hR hq
      ((rows_readCov scM0_1.view (kernelRun0_B.sl.HS1_5 arg4 arg5 arg6 x0 x1 x2) 320 _ r q q' R hR hq).trans (u4 R q' (by omega))))
    (fun r q R q' hR hq => acc_block _ x2 _ _ _ _ 400 2560 _ _ _ _ _ _ 5 rfl rfl r q R q' hR hq
      ((rows_readCov scM0_1.view (kernelRun0_B.sl.HS1_6 arg4 arg5 arg6 x0 x1 x2) 400 _ r q q' R hR hq).trans (u5 R q' (by omega))))
    (fun r q R q' hR hq => acc_block _ x2 _ _ _ _ 480 3072 _ _ _ _ _ _ 6 rfl rfl r q R q' hR hq
      ((rows_readCov scM0_1.view (kernelRun0_B.sl.HS1_7 arg4 arg5 arg6 x0 x1 x2) 480 _ r q q' R hR hq).trans (u6 R q' (by omega))))
    (fun r q R q' hR hq => acc_block _ x2 _ _ _ _ 560 3584 _ _ _ _ _ _ 7 rfl rfl r q R q' hR hq
      ((rows_readCov scM0_1.view (kernelRun0_B.sl.HS1_8 arg4 arg5 arg6 x0 x1 x2) 560 _ r q q' R hR hq).trans (u7 R q' (by omega))))

end Cert.Attn

end
-- ==== Proof.RunC.lean ====
/- The grid points on the diagonal that end a query block's row: the scores are masked, the sums are carried over and
   the output block is written. -/
module

public import proofs.«01_k».proof.Proof.Output
public import proofs.«01_k».proof.Proof.Gen.KernelIdeal.Flash.Runs

@[expose] public section

noncomputable section

namespace Cert.Attn

open Idealize.ShloMosaic Idealize.ShloMosaic.TcCoe Idealize.ShloMosaic.ValueIdx Idealize.SL.Sem Cert.KernelIdeal Cert.KernelIdeal.Gen

variable (c : Dev nD) (i : grid0.Coords) (arg4 arg5 : Memref sig .tc .vmem S1x512x1024 .bf16) (arg6 : Memref sig .tc .vmem S1x1x640x512 .bf16)
  (T0 T1 : S528.Idx → Elt Ideal .i32) (x0 x1 : S1x512x1024.Idx → EReal) (x2 : S1x1x640x512.Idx → EReal)
  (xa0 : Buf (Elt Ideal) ((c : Thread nD τ).loc cc0_scratch0)) (xa1 : Buf (Elt Ideal) ((c : Thread nD τ).loc cc0_scratch1))

/-- The mask's bias at this grid point. -/
def biasC : Fin 512 → Fin 512 → EReal := fun k q => kernelRun0_C.sl.r_2 i T0 T1 (ix2 k q)

theorem scores_C : kernelRun0_C.sl.v133 i arg4 arg5 T0 T1 x0 x1 = scores x0 x1 (biasC i T0 T1) := by
  unfold kernelRun0_C.sl.v133
  rw [readCov_whole]
  unfold kernelRun0_C.sl.HS2_8
  exact canon_cols _ _ _ _ _ _ _ _ _ _ _ _ _ _ _ _ _
    (fun k q r' c' hr hc => score_block_masked _ _ x0 x1 _ 0 _ _ _ _ _ 0 rfl k q r' c' hr hc)
    (fun k q r' c' hr hc => score_block_masked _ _ x0 x1 _ 128 _ _ _ _ _ 1 rfl k q r' c' hr hc)
    (fun k q r' c' hr hc => score_block_masked _ _ x0 x1 _ 256 _ _ _ _ _ 2 rfl k q r' c' hr hc)
    (fun k q r' c' hr hc => score_block_masked _ _ x0 x1 _ 384 _ _ _ _ _ 3 rfl k q r' c' hr hc)
    (fun k q r' c' hr hc => score_block_masked _ _ x0 x1 _ 512 _ _ _ _ _ 4 rfl k q r' c' hr hc)
    (fun k q r' c' hr hc => score_block_masked _ _ x0 x1 _ 640 _ _ _ _ _ 5 rfl k q r' c' hr hc)
    (fun k q r' c' hr hc => score_block_masked _ _ x0 x1 _ 768 _ _ _ _ _ 6 rfl k q r' c' hr hc)
    (fun k q r' c' hr hc => score_block_masked _ _ x0 x1 _ 896 _ _ _ _ _ 7 rfl k q r' c' hr hc)

theorem start_C : kernelRun0_C.sl.r_4 c xa0 = scM0_0.view.read (Elt Ideal) xa0 := by
  unfold kernelRun0_C.sl.r_4
  exact View.readAt_full _ _ _

theorem max_C : kernelRun0_C.sl.v137 c i arg4 arg5 T0 T1 x0 x1 xa0 = maxNew (scores x0 x1 (biasC i T0 T1)) (scM0_0.view.read (Elt Ideal) xa0) := by
  unfold kernelRun0_C.sl.v137 kernelRun0_C.sl.v136 kernelRun0_C.sl.v135
  rw [start_C, scores_C]
  exact max_step _ _ _ _ _ _

theorem scale_C : kernelRun0_C.sl.v139 c i arg4 arg5 T0 T1 x0 x1 xa0
    = scaleOf (scM0_0.view.read (Elt Ideal) xa0) (maxNew (scores x0 x1 (biasC i T0 T1)) (scM0_0.view.read (Elt Ideal) xa0)) := by
  unfold kernelRun0_C.sl.v139 kernelRun0_C.sl.v138
  rw [start_C, max_C]
  rfl

theorem weights_C : kernelRun0_C.sl.v146 c i arg4 arg5 T0 T1 x0 x1 xa0
    = weights (scores x0 x1 (biasC i T0 T1)) (maxNew (scores x0 x1 (biasC i T0 T1)) (scM0_0.view.read (Elt Ideal) xa0)) := by
  unfold kernelRun0_C.sl.v146 kernelRun0_C.sl.v145 kernelRun0_C.sl.v144 kernelRun0_C.sl.v143
  rw [scores_C, max_C]
  exact weights_step _ _ _ _

set_option maxHeartbeats 2000000 in
theorem acc_stored_C : View.canon (kernelRun0_C.sl.HS1_8 c i arg4 arg5 arg6 T0 T1 x0 x1 x2 xa0 xa1)
    = accStep (scores x0 x1 (biasC i T0 T1)) x2 (scM0_0.view.read (Elt Ideal) xa0) (scM0_1.view.read (Elt Ideal) xa1) := by
  unfold accStep
  rw [← scale_C c i arg4 arg5 T0 T1 x0 x1 xa0, ← weights_C c i arg4 arg5 T0 T1 x0 x1 xa0]
  unfold kernelRun0_C.sl.HS1_8
  exact canon_rows _ _ _ _ _ _ _ _ _ _ _ _ _ _ _ _ _ _
    (fun r q R q' hR hq => acc_block _ x2 _ _ _ _ 0 0 _ _ _ _ _ _ 0 rfl rfl r q R q' hR hq (rows_read scM0_1.view xa1 0 _ r q q' R hR hq))
    (fun r q R q' hR hq => acc_block _ x2 _ _ _ _ 80 512 _ _ _ _ _ _ 1 rfl rfl r q R q' hR hq (rows_read scM0_1.view xa1 80 _ r q q' R hR hq))
    (fun r q R q' hR hq => acc_block _ x2 _ _ _ _ 160 1024 _ _ _ _ _ _ 2 rfl rfl r q R q' hR hq (rows_read scM0_1.view xa1 160 _ r q q' R hR hq))
    (fun r q R q' hR hq => acc_block _ x2 _ _ _ _ 240 1536 _ _ _ _ _ _ 3 rfl rfl r q R q' hR hq (rows_read scM0_1.view xa1 240 _ r q q' R hR hq))
    (fun r q R q' hR hq => acc_block _ x2 _ _ _ _ 320 2048 _ _ _ _ _ _ 4 rfl rfl r q R q' hR hq (rows_read scM0_1.view xa1 320 _ r q q' R hR hq))
    (fun r q R q' hR hq => acc_block _ x2 _ _ _ _ 400 2560 _ _ _ _ _ _ 5 rfl rfl r q R q' hR hq (rows_read scM0_1.view xa1 400 _ r q q' R hR hq))
    (fun r q R q' hR hq => acc_block _ x2 _ _ _ _ 480 3072 _ _ _ _ _ _ 6 rfl rfl r q R q' hR hq (rows_read scM0_1.view xa1 480 _ r q q' R hR hq))
    (fun r q R q' hR hq => acc_block _ x2 _ _ _ _ 560 3584 _ _ _ _ _ _ 7 rfl rfl r q R q' hR hq (rows_read scM0_1.view xa1 560 _ r q q' R hR hq))

set_option maxHeartbeats 2000000 in
theorem out_stored_C : View.canon (kernelRun0_C.sl.HO3_1 c i arg4 arg5 arg6 T0 T1 x0 x1 x2 xa0 xa1)
    = outBlock (accStep (scores x0 x1 (biasC i T0 T1)) x2 (scM0_0.view.read (Elt Ideal) xa0) (scM0_1.view.read (Elt Ideal) xa1)) := by
  rw [← acc_stored_C c i arg4 arg5 arg6 T0 T1 x0 x1 x2 xa0 xa1]
  unfold kernelRun0_C.sl.HO3_1
  rw [View.canon_unit_zero (by funext a; fin_cases a <;> rfl)]
  exact output_block _ _ _ _ _ _ _ _ _ _
    (quotient_block scM0_1.view _ 0 64 _ _ _ 0 rfl rfl)
    (quotient_block scM0_1.view _ 80 144 _ _ _ 1 rfl rfl)
    (quotient_block scM0_1.view _ 160 224 _ _ _ 2 rfl rfl)
    (quotient_block scM0_1.view _ 240 304 _ _ _ 3 rfl rfl)
    (quotient_block scM0_1.view _ 320 384 _ _ _ 4 rfl rfl)
    (quotient_block scM0_1.view _ 400 464 _ _ _ 5 rfl rfl)
    (quotient_block scM0_1.view _ 480 544 _ _ _ 6 rfl rfl)
    (quotient_block scM0_1.view _ 560 624 _ _ _ 7 rfl rfl)

end Cert.Attn

end
-- ==== Proof.RunD.lean ====
/- The grid points in the middle of a query block's row, away from the diagonal: the scores need no mask and the sums
   are carried over. -/
module

public import proofs.«01_k».proof.Proof.Loads
public import proofs.«01_k».proof.Proof.Gen.KernelIdeal.Flash.Runs

@[expose] public section

noncomputable section

namespace Cert.Attn

open Idealize.ShloMosaic Idealize.ShloMosaic.TcCoe Idealize.ShloMosaic.ValueIdx Idealize.SL.Sem Cert.KernelIdeal Cert.KernelIdeal.Gen

variable (c : Dev nD) (arg4 arg5 : Memref sig .tc .vmem S1x512x1024 .bf16) (arg6 : Memref sig .tc .vmem S1x1x640x512 .bf16)
  (x0 x1 : S1x512x1024.Idx → EReal) (x2 : S1x1x640x512.Idx → EReal)
  (xa0 : Buf (Elt Ideal) ((c : Thread nD τ).loc cc0_scratch0)) (xa1 : Buf (Elt Ideal) ((c : Thread nD τ).loc cc0_scratch1))

theorem scores_D : kernelRun0_D.sl.v109 arg4 arg5 x0 x1 = scores x0 x1 noBias := by
  unfold kernelRun0_D.sl.v109
  rw [readCov_whole]
  unfold kernelRun0_D.sl.HS2_8
  exact canon_cols _ _ _ _ _ _ _ _ _ _ _ _ _ _ _ _ _
    (fun k q r' c' hr hc => score_block _ _ x0 x1 0 _ _ _ _ _ 0 rfl k q r' c' hr hc)
    (fun k q r' c' hr hc => score_block _ _ x0 x1 128 _ _ _ _ _ 1 rfl k q r' c' hr hc)
    (fun k q r' c' hr hc => score_block _ _ x0 x1 256 _ _ _ _ _ 2 rfl k q r' c' hr hc)
    (fun k q r' c' hr hc => score_block _ _ x0 x1 384 _ _ _ _ _ 3 rfl k q r' c' hr hc)
    (fun k q r' c' hr hc => score_block _ _ x0 x1 512 _ _ _ _ _ 4 rfl k q r' c' hr hc)
    (fun k q r' c' hr hc => score_block _ _ x0 x1 640 _ _ _ _ _ 5 rfl k q r' c' hr hc)
    (fun k q r' c' hr hc => score_block _ _ x0 x1 768 _ _ _ _ _ 6 rfl k q r' c' hr hc)
    (fun k q r' c' hr hc => score_block _ _ x0 x1 896 _ _ _ _ _ 7 rfl k q r' c' hr hc)

theorem max_D : kernelRun0_D.sl.v113 c arg4 arg5 x0 x1 xa0 = maxNew (scores x0 x1 noBias) (scM0_0.view.read (Elt Ideal) xa0) := by
  unfold kernelRun0_D.sl.v113 kernelRun0_D.sl.v112 kernelRun0_D.sl.v111
  rw [View.readAt_full, scores_D]
  exact max_step _ _ _ _ _ _

theorem scale_D : kernelRun0_D.sl.v115 c arg4 arg5 x0 x1 xa0
    = scaleOf (scM0_0.view.read (Elt Ideal) xa0) (maxNew (scores x0 x1 noBias) (scM0_0.view.read (Elt Ideal) xa0)) := by
  unfold kernelRun0_D.sl.v115 kernelRun0_D.sl.v114
  rw [View.readAt_full, max_D]
  rfl

theorem weights_D : kernelRun0_D.sl.v122 c arg4 arg5 x0 x1 xa0
    = weights (scores x0 x1 noBias) (maxNew (scores x0 x1 noBias) (scM0_0.view.read (Elt Ideal) xa0)) := by
  unfold kernelRun0_D.sl.v122 kernelRun0_D.sl.v121 kernelRun0_D.sl.v120 kernelRun0_D.sl.v119
  rw [scores_D, max_D]
  exact weights_step _ _ _ _

theorem max_stored_D : View.canon (kernelRun0_D.sl.HS0_1 c arg4 arg5 x0 x1 xa0) = maxNew (scores x0 x1 noBias) (scM0_0.view.read (Elt Ideal) xa0) := by
  unfold kernelRun0_D.sl.HS0_1 kernelRun0_D.sl.v118
  rw [shapeCast_self, max_D]
  exact View.canon_unit_zero (by funext a; fin_cases a <;> rfl) _ _

set_option maxHeartbeats 2000000 in
theorem acc_stored_D : View.canon (kernelRun0_D.sl.HS1_8 c arg4 arg5 arg6 x0 x1 x2 xa0 xa1)
    = accStep (scores x0 x1 noBias) x2 (scM0_0.view.read (Elt Ideal) xa0) (scM0_1.view.read (Elt Ideal) xa1) := by
  unfold accStep
  rw [← scale_D c arg4 arg5 x0 x1 xa0, ← weights_D c arg4 arg5 x0 x1 xa0]
  unfold kernelRun0_D.sl.HS1_8
  exact canon_rows _ _ _ _ _ _ _ _ _ _ _ _ _ _ _ _ _ _
    (fun r q R q' hR hq => acc_block _ x2 _ _ _ _ 0 0 _ _ _ _ _ _ 0 rfl rfl r q R q' hR hq (rows_read scM0_1.view xa1 0 _ r q q' R hR hq))
    (fun r q R q' hR hq => acc_block _ x2 _ _ _ _ 80 512 _ _ _ _ _ _ 1 rfl rfl r q R q' hR hq (rows_read scM0_1.view xa1 80 _ r q q' R hR hq))
    (fun r q R q' hR hq => acc_block _ x2 _ _ _ _ 160 1024 _ _ _ _ _ _ 2 rfl rfl r q R q' hR hq (rows_read scM0_1.view xa1 160 _ r q q' R hR hq))
    (fun r q R q' hR hq => acc_block _ x2 _ _ _ _ 240 1536 _ _ _ _ _ _ 3 rfl rfl r q R q' hR hq (rows_read scM0_1.view xa1 240 _ r q q' R hR hq))
    (fun r q R q' hR hq => acc_block _ x2 _ _ _ _ 320 2048 _ _ _ _ _ _ 4 rfl rfl r q R q' hR hq (rows_read scM0_1.view xa1 320 _ r q q' R hR hq))
    (fun r q R q' hR hq => acc_block _ x2 _ _ _ _ 400 2560 _ _ _ _ _ _ 5 rfl rfl r q R q' hR hq (rows_read scM0_1.view xa1 400 _ r q q' R hR hq))
    (fun r q R q' hR hq => acc_block _ x2 _ _ _ _ 480 3072 _ _ _ _ _ _ 6 rfl rfl r q R q' hR hq (rows_read scM0_1.view xa1 480 _ r q q' R hR hq))
    (fun r q R q' hR hq => acc_block _ x2 _ _ _ _ 560 3584 _ _ _ _ _ _ 7 rfl rfl r q R q' hR hq (rows_read scM0_1.view xa1 560 _ r q q' R hR hq))

end Cert.Attn

end
-- ==== Proof.Runs.lean ====
/- What each kind of grid point leaves in the running maximum, the accumulator and the output block, from the staged
   blocks and from what was there before. -/
module

public import proofs.«01_k».proof.Proof.RunA
public import proofs.«01_k».proof.Proof.RunB
public import proofs.«01_k».proof.Proof.RunC
public import proofs.«01_k».proof.Proof.RunD

@[expose] public section

noncomputable section

namespace Cert.Attn

open Idealize.ShloMosaic Idealize.ShloMosaic.TcCoe Idealize.ShloMosaic.ValueIdx Idealize.SL.Sem Cert.KernelIdeal Cert.KernelIdeal.Gen

variable (c : Dev nD) (i : grid0.Coords) (arg4 : Memref sig .tc .vmem S1x512x1024 .bf16) (harg4 : arg4.IsWhole) (arg5 : Memref sig .tc .vmem S1x512x1024 .bf16)
  (harg5 : arg5.IsWhole) (arg6 : Memref sig .tc .vmem S1x1x640x512 .bf16) (harg6 : arg6.IsWhole) (arg7 : Memref sig .tc .vmem S1x512x512 .f32) (harg7 : arg7.IsWhole)
  (T0 T1 : S528.Idx → Elt Ideal .i32) (x0 x1 : S1x512x1024.Idx → EReal) (x2 : S1x1x640x512.Idx → EReal)
  (xa0 : Buf (Elt Ideal) ((c : Thread nD τ).loc cc0_scratch0)) (xa1 : Buf (Elt Ideal) ((c : Thread nD τ).loc cc0_scratch1))

theorem run_max_D (h0) (h1) (h2) (h3) :
    scM0_0.view.read (Elt Ideal) (kernelRun0_D c i arg4 harg4 arg5 harg5 arg6 harg6 arg7 harg7 T0 T1 x0 x1 x2 xa0 xa1 h0 h1 h2 h3).1
      = maxNew (scores x0 x1 noBias) (scM0_0.view.read (Elt Ideal) xa0) := by
  unfold kernelRun0_D
  dsimp only
  exact (View.read_writes_junk_eq_canon scM0_0.view (kernelRun0_D.sl.HS0_1 c arg4 arg5 x0 x1 xa0)).trans (max_stored_D c _ _ _ _ _)

theorem run_acc_D (h0) (h1) (h2) (h3) :
    scM0_1.view.read (Elt Ideal) (kernelRun0_D c i arg4 harg4 arg5 harg5 arg6 harg6 arg7 harg7 T0 T1 x0 x1 x2 xa0 xa1 h0 h1 h2 h3).2.1
      = accStep (scores x0 x1 noBias) x2 (scM0_0.view.read (Elt Ideal) xa0) (scM0_1.view.read (Elt Ideal) xa1) := by
  unfold kernelRun0_D
  dsimp only
  exact (View.read_writes_junk_eq_canon scM0_1.view (kernelRun0_D.sl.HS1_8 c arg4 arg5 arg6 x0 x1 x2 xa0 xa1)).trans (acc_stored_D c _ _ _ _ _ _ _ _)

theorem run_max_B (h0) (h1) (h2) (h3) :
    scM0_0.view.read (Elt Ideal) (kernelRun0_B c i arg4 harg4 arg5 harg5 arg6 harg6 arg7 harg7 T0 T1 x0 x1 x2 h0 h1 h2 h3).1
      = maxNew (scores x0 x1 noBias) noMax := by
  unfold kernelRun0_B
  dsimp only
  exact (View.read_writes_junk_eq_canon scM0_0.view (kernelRun0_B.sl.HS0_2 arg4 arg5 x0 x1)).trans (max_stored_B _ _ _ _)

theorem run_acc_B (h0) (h1) (h2) (h3) :
    scM0_1.view.read (Elt Ideal) (kernelRun0_B c i arg4 harg4 arg5 harg5 arg6 harg6 arg7 harg7 T0 T1 x0 x1 x2 h0 h1 h2 h3).2.1
      = accStep (scores x0 x1 noBias) x2 noMax noAcc := by
  unfold kernelRun0_B
  dsimp only
  exact (View.read_writes_junk_eq_canon scM0_1.view (kernelRun0_B.sl.HS1_9 arg4 arg5 arg6 x0 x1 x2)).trans (acc_stored_B _ _ _ _ _ _)

theorem run_out_A (h0) (h1) (h2) (h3) :
    out0_A_3 c i arg4 harg4 arg5 harg5 arg6 harg6 arg7 harg7 T0 T1 x0 x1 x2 h0 h1 h2 h3
      = outBlock (accStep (scores x0 x1 (biasA i T0 T1)) x2 noMax noAcc) := by
  unfold out0_A_3 kernelRun0_A
  exact (View.read_writes_junk_eq_canon _ _).trans (out_stored_A _ _ _ _ _ _ _ _ _)

theorem run_out_C (h0) (h1) (h2) (h3) :
    out0_C_3 c i arg4 harg4 arg5 harg5 arg6 harg6 arg7 harg7 T0 T1 x0 x1 x2 xa0 xa1 h0 h1 h2 h3
      = outBlock (accStep (scores x0 x1 (biasC i T0 T1)) x2 (scM0_0.view.read (Elt Ideal) xa0) (scM0_1.view.read (Elt Ideal) xa1)) := by
  unfold out0_C_3 kernelRun0_C
  exact (View.read_writes_junk_eq_canon _ _).trans (out_stored_C c _ _ _ _ _ _ _ _ _ _ _)

end Cert.Attn

end
-- ==== Proof.Steps.lean ====
/- What one grid point does to the running maximum, the accumulator and the output block, by the four kinds of grid
   points. -/
module

public import proofs.«01_k».proof.Proof.Runs
public import proofs.«01_k».proof.Proof.Gen.KernelIdeal.Flash

@[expose] public section

noncomputable section

namespace Cert.Attn

open Idealize.ShloMosaic Idealize.ShloMosaic.TcCoe Idealize.ShloMosaic.ValueIdx Idealize.SL.Sem Cert.KernelIdeal Cert.KernelIdeal.Gen

variable (ch : Fin 1) (m : (ℓ : Loc nD τ sig) → Buf (Elt Ideal) ℓ) (ρ : Dev nD → PrngReg) (c : Dev nD)

/-- The blocks of queries, keys and values that grid point `t` works on. -/
def Xq (t : Fin (cfgA ch).N) : S1x512x1024.Idx → EReal := iblk ch m ρ c (0 : Fin 4) t
def Xk (t : Fin (cfgA ch).N) : S1x512x1024.Idx → EReal := iblk ch m ρ c (1 : Fin 4) t
def Xv (t : Fin (cfgA ch).N) : S1x1x640x512.Idx → EReal := iblk ch m ρ c (2 : Fin 4) t

/-- The running maximum and the accumulator in a state of the buffers. -/
abbrev State : Type := (S1x512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
def maxOf (s : State c) : S1x4096.Idx → EReal := scM0_0.view.read (Elt Ideal) s.2.1
def accOf (s : State c) : S640x512.Idx → EReal := scM0_1.view.read (Elt Ideal) s.2.2.1

theorem max_at_B (t : Fin (cfgA ch).N) (q0 : P0_0 ch t) (q1 : P0_1 ch t) :
    maxOf c (traj0 ch m ρ c t.val t.isLt) = maxNew (scores (Xq ch m ρ c t) (Xk ch m ρ c t) noBias) noMax := by
  rw [traj0_eq, step0_B ch m ρ c t _ q0 q1]
  unfold maxOf
  dsimp only
  exact run_max_B c (crd ch t) (ms0_0 ch t) (hs0_0 ch t) (ms0_1 ch t) (hs0_1 ch t) (ms0_2 ch t) (hs0_2 ch t) (ms0_3 ch t) (hs0_3 ch t) (pinT_0 ch) (pinT_1 ch)
    (iblk ch m ρ c (0 : Fin 4) t) (iblk ch m ρ c (1 : Fin 4) t) (iblk ch m ρ c (2 : Fin 4) t) _ _ _ _

theorem acc_at_B (t : Fin (cfgA ch).N) (q0 : P0_0 ch t) (q1 : P0_1 ch t) :
    accOf c (traj0 ch m ρ c t.val t.isLt) = accStep (scores (Xq ch m ρ c t) (Xk ch m ρ c t) noBias) (Xv ch m ρ c t) noMax noAcc := by
  rw [traj0_eq, step0_B ch m ρ c t _ q0 q1]
  unfold accOf
  dsimp only
  exact run_acc_B c (crd ch t) (ms0_0 ch t) (hs0_0 ch t) (ms0_1 ch t) (hs0_1 ch t) (ms0_2 ch t) (hs0_2 ch t) (ms0_3 ch t) (hs0_3 ch t) (pinT_0 ch) (pinT_1 ch)
    (iblk ch m ρ c (0 : Fin 4) t) (iblk ch m ρ c (1 : Fin 4) t) (iblk ch m ρ c (2 : Fin 4) t) _ _ _ _

theorem max_at_D (t : Fin (cfgA ch).N) (q0 : ¬P0_0 ch t) (q1 : P0_1 ch t) :
    maxOf c (traj0 ch m ρ c t.val t.isLt)
      = maxNew (scores (Xq ch m ρ c t) (Xk ch m ρ c t) noBias) (maxOf c (prev0 ch m ρ c t)) := by
  rw [traj0_eq, step0_D ch m ρ c t _ q0 q1]
  generalize prev0 ch m ρ c t = p
  unfold maxOf
  dsimp only
  exact run_max_D c (crd ch t) (ms0_0 ch t) (hs0_0 ch t) (ms0_1 ch t) (hs0_1 ch t) (ms0_2 ch t) (hs0_2 ch t) (ms0_3 ch t) (hs0_3 ch t) (pinT_0 ch) (pinT_1 ch)
    (iblk ch m ρ c (0 : Fin 4) t) (iblk ch m ρ c (1 : Fin 4) t) (iblk ch m ρ c (2 : Fin 4) t) p.2.1 p.2.2.1 _ _ _ _

theorem acc_at_D (t : Fin (cfgA ch).N) (q0 : ¬P0_0 ch t) (q1 : P0_1 ch t) :
    accOf c (traj0 ch m ρ c t.val t.isLt)
      = accStep (scores (Xq ch m ρ c t) (Xk ch m ρ c t) noBias) (Xv ch m ρ c t) (maxOf c (prev0 ch m ρ c t)) (accOf c (prev0 ch m ρ c t)) := by
  rw [traj0_eq, step0_D ch m ρ c t _ q0 q1]
  generalize prev0 ch m ρ c t = p
  unfold accOf
  dsimp only
  exact run_acc_D c (crd ch t) (ms0_0 ch t) (hs0_0 ch t) (ms0_1 ch t) (hs0_1 ch t) (ms0_2 ch t) (hs0_2 ch t) (ms0_3 ch t) (hs0_3 ch t) (pinT_0 ch) (pinT_1 ch)
    (iblk ch m ρ c (0 : Fin 4) t) (iblk ch m ρ c (1 : Fin 4) t) (iblk ch m ρ c (2 : Fin 4) t) p.2.1 p.2.2.1 _ _ _ _

theorem out_at_A (t : Fin (cfgA ch).N) (q0 : P0_0 ch t) (q1 : ¬P0_1 ch t) :
    (traj0 ch m ρ c t.val t.isLt).1 = outBlock (accStep (scores (Xq ch m ρ c t) (Xk ch m ρ c t) (biasA (crd ch t) (pinT_0 ch) (pinT_1 ch))) (Xv ch m ρ c t) noMax noAcc) := by
  rw [traj0_eq, step0_A ch m ρ c t _ q0 q1]
  dsimp only
  exact run_out_A c (crd ch t) (ms0_0 ch t) (hs0_0 ch t) (ms0_1 ch t) (hs0_1 ch t) (ms0_2 ch t) (hs0_2 ch t) (ms0_3 ch t) (hs0_3 ch t) (pinT_0 ch) (pinT_1 ch)
    (iblk ch m ρ c (0 : Fin 4) t) (iblk ch m ρ c (1 : Fin 4) t) (iblk ch m ρ c (2 : Fin 4) t) _ _ _ _

theorem out_at_C (t : Fin (cfgA ch).N) (q0 : ¬P0_0 ch t) (q1 : ¬P0_1 ch t) :
    (traj0 ch m ρ c t.val t.isLt).1 = outBlock (accStep (scores (Xq ch m ρ c t) (Xk ch m ρ c t) (biasC (crd ch t) (pinT_0 ch) (pinT_1 ch))) (Xv ch m ρ c t)
      (maxOf c (prev0 ch m ρ c t)) (accOf c (prev0 ch m ρ c t))) := by
  rw [traj0_eq, step0_C ch m ρ c t _ q0 q1]
  generalize prev0 ch m ρ c t = p
  dsimp only
  exact run_out_C c (crd ch t) (ms0_0 ch t) (hs0_0 ch t) (ms0_1 ch t) (hs0_1 ch t) (ms0_2 ch t) (hs0_2 ch t) (ms0_3 ch t) (hs0_3 ch t) (pinT_0 ch) (pinT_1 ch)
    (iblk ch m ρ c (0 : Fin 4) t) (iblk ch m ρ c (1 : Fin 4) t) (iblk ch m ρ c (2 : Fin 4) t) p.2.1 p.2.2.1 _ _ _ _

end Cert.Attn

end
-- ==== Proof.Blocks.lean ====
/- The blocks of queries, keys and values a grid point works on, as parts of the arrays they are cut from. -/
module

public import proofs.«01_k».proof.Proof.Points
public import proofs.«01_k».proof.Proof.Softmax
public import proofs.«01_k».proof.Proof.Steps

@[expose] public section

noncomputable section

namespace Cert.Attn

open Idealize.ShloMosaic Idealize.ShloMosaic.TcCoe Idealize.ShloMosaic.ValueIdx Idealize.SL.Sem Cert.KernelIdeal Cert.KernelIdeal.Gen
open Idealize.ShloMosaic.Pipeline

variable (m : (ℓ : Loc nD τ sig) → Buf (Elt Ideal) ℓ) (ρ : Dev nD → PrngReg) (c : Dev nD)

/-- The arrays of queries, keys and (transposed) values. -/
def qArr : S2x16384x1024.Idx → EReal := m ((c : Thread nD τ).loc main_arg2)
def kArr : S2x16384x1024.Idx → EReal := m ((c : Thread nD τ).loc main_arg3)
def vArr : S2x32x640x512.Idx → EReal := m ((c : Thread nD τ).loc main_arg4)

/-- A grid point's batch, block of queries, block of keys. -/
def bat (t : Fin (cfgA c0).N) : Fin 2 := ⟨t.val / 528, by have h : t.val < 1056 := t.isLt; omega⟩
def qBlk (t : Fin (cfgA c0).N) : Fin 32 := ⟨(qWord t).toNat, (at_point t).2.1⟩
def kBlk (t : Fin (cfgA c0).N) : Fin 32 := ⟨(kWord t).toNat, lt_of_le_of_lt (at_point t).1 (at_point t).2.1⟩

theorem Xq_apply (t : Fin (cfgA c0).N) (r : Fin 512) (l : Fin 1024) :
    Xq c0 m ρ c t (ix3 0 r l) = qArr m c (ix3 (bat t) (pos (qBlk t) r) l) := by
  have e : ∀ a : Fin 3, ((cfgA c0).win (0 : Fin 4)).index t a = (![t.val / 528, (qWord t).toNat, 0] : Fin 3 → Nat) a := (at_point t).2.2.2.2.1
  have e0 : ((cfgA c0).win (0 : Fin 4)).index t (0 : Fin 3) = t.val / 528 := e 0
  have e1 : ((cfgA c0).win (0 : Fin 4)).index t (1 : Fin 3) = (qWord t).toNat := e 1
  have e2 : ((cfgA c0).win (0 : Fin 4)).index t (2 : Fin 3) = 0 := e 2
  unfold Xq iblk qArr
  show m ((c : Thread nD τ).loc main_arg2) ((((cfgA c0).win (0 : Fin 4)).blk t).view.emb (ix3 0 r l)) = _
  refine congrArg (m ((c : Thread nD τ).loc main_arg2)) ?_
  funext a
  apply Fin.ext
  fin_cases a
  · blk_simp; exact e0
  · blk_simp
    refine (congrArg (fun n => n * 512 + r.val) e1).trans ?_
    show (qWord t).toNat * 512 + r.val = 512 * (qWord t).toNat + r.val
    omega
  · blk_simp
    refine (congrArg (fun n => n * 1024 + l.val) e2).trans ?_
    show 0 * 1024 + l.val = l.val
    omega

theorem Xk_apply (t : Fin (cfgA c0).N) (r : Fin 512) (l : Fin 1024) :
    Xk c0 m ρ c t (ix3 0 r l) = kArr m c (ix3 (bat t) (pos (kBlk t) r) l) := by
  have e : ∀ a : Fin 3, ((cfgA c0).win (1 : Fin 4)).index t a = (![t.val / 528, (kWord t).toNat, 0] : Fin 3 → Nat) a := (at_point t).2.2.2.2.2.1
  have e0 : ((cfgA c0).win (1 : Fin 4)).index t (0 : Fin 3) = t.val / 528 := e 0
  have e1 : ((cfgA c0).win (1 : Fin 4)).index t (1 : Fin 3) = (kWord t).toNat := e 1
  have e2 : ((cfgA c0).win (1 : Fin 4)).index t (2 : Fin 3) = 0 := e 2
  unfold Xk iblk kArr
  show m ((c : Thread nD τ).loc main_arg3) ((((cfgA c0).win (1 : Fin 4)).blk t).view.emb (ix3 0 r l)) = _
  refine congrArg (m ((c : Thread nD τ).loc main_arg3)) ?_
  funext a
  apply Fin.ext
  fin_cases a
  · blk_simp; exact e0
  · blk_simp
    refine (congrArg (fun n => n * 512 + r.val) e1).trans ?_
    show (kWord t).toNat * 512 + r.val = 512 * (kWord t).toNat + r.val
    omega
  · blk_simp
    refine (congrArg (fun n => n * 1024 + l.val) e2).trans ?_
    show 0 * 1024 + l.val = l.val
    omega

theorem Xv_apply (t : Fin (cfgA c0).N) (R : Fin 640) (k : Fin 512) :
    Xv c0 m ρ c t (ix4 0 0 R k) = vArr m c (ix4 (bat t) (kBlk t) R k) := by
  have e : ∀ a : Fin 4, ((cfgA c0).win (2 : Fin 4)).index t a = (![t.val / 528, (kWord t).toNat, 0, 0] : Fin 4 → Nat) a := (at_point t).2.2.2.2.2.2.1
  have e0 : ((cfgA c0).win (2 : Fin 4)).index t (0 : Fin 4) = t.val / 528 := e 0
  have e1 : ((cfgA c0).win (2 : Fin 4)).index t (1 : Fin 4) = (kWord t).toNat := e 1
  have e2 : ((cfgA c0).win (2 : Fin 4)).index t (2 : Fin 4) = 0 := e 2
  have e3 : ((cfgA c0).win (2 : Fin 4)).index t (3 : Fin 4) = 0 := e 3
  unfold Xv iblk vArr
  show m ((c : Thread nD τ).loc main_arg4) ((((cfgA c0).win (2 : Fin 4)).blk t).view.emb (ix4 0 0 R k)) = _
  refine congrArg (m ((c : Thread nD τ).loc main_arg4)) ?_
  funext a
  apply Fin.ext
  fin_cases a
  · blk_simp; exact e0
  · blk_simp; exact e1
  · blk_simp
    refine (congrArg (fun n => n * 640 + R.val) e2).trans ?_
    show 0 * 640 + R.val = R.val
    omega
  · blk_simp
    refine (congrArg (fun n => n * 512 + k.val) e3).trans ?_
    show 0 * 512 + k.val = k.val
    omega

/-- Where an element of a grid point's output block lands. -/
theorem out_emb (t : Fin (cfgA c0).N) (r l : Fin 512) :
    (((cfgA c0).win (3 : Fin 4)).blk t).view.emb (ix3 0 r l) = ix3 (bat t) (pos (qBlk t) r) l := by
  have e : ∀ a : Fin 3, ((cfgA c0).win (3 : Fin 4)).index t a = (![t.val / 528, (qWord t).toNat, 0] : Fin 3 → Nat) a := (at_point t).2.2.2.2.2.2.2.1
  have e0 : ((cfgA c0).win (3 : Fin 4)).index t (0 : Fin 3) = t.val / 528 := e 0
  have e1 : ((cfgA c0).win (3 : Fin 4)).index t (1 : Fin 3) = (qWord t).toNat := e 1
  have e2 : ((cfgA c0).win (3 : Fin 4)).index t (2 : Fin 3) = 0 := e 2
  funext a
  apply Fin.ext
  fin_cases a
  · blk_simp; exact e0
  · blk_simp
    refine (congrArg (fun n => n * 512 + r.val) e1).trans ?_
    show (qWord t).toNat * 512 + r.val = 512 * (qWord t).toNat + r.val
    omega
  · blk_simp
    refine (congrArg (fun n => n * 512 + l.val) e2).trans ?_
    show 0 * 512 + l.val = l.val
    omega

end Cert.Attn

end
-- ==== Proof.Mask.lean ====
/- The mask: a query sees the keys of its own chunk of 64 positions and of the chunks before it. -/
module

public import proofs.«01_k».proof.Proof.Blocks

@[expose] public section

noncomputable section

namespace Cert.Attn

open Idealize.ShloMosaic Idealize.ShloMosaic.TcCoe Idealize.ShloMosaic.ValueIdx Idealize.SL.Sem Cert.KernelIdeal Cert.KernelIdeal.Gen

/-- Key `k` is seen by query `q`. -/
abbrev Sees (q k : Fin 16384) : Prop := k.val / 64 ≤ q.val / 64

/-- A position with its last six bits set is the last position of its chunk. -/
theorem or_chunk (p : Nat) : p ||| 63 = 64 * (p / 64) + 63 := by
  have hlt : p % 64 < 64 := Nat.mod_lt _ (by omega)
  have h1 : p = (p / 64) <<< 6 ||| p % 64 := by
    rw [← Nat.shiftLeft_add_eq_or_of_lt (i := 6) hlt, Nat.shiftLeft_eq]
    omega
  have h2 : p % 64 ||| 63 = 63 := by
    generalize p % 64 = x at hlt
    revert x; decide
  have h3 : 64 * (p / 64) + 63 = (p / 64) <<< 6 ||| 63 := by
    rw [← Nat.shiftLeft_add_eq_or_of_lt (i := 6) (by omega : 63 < 2 ^ 6), Nat.shiftLeft_eq]
    omega
  rw [h3]
  conv_lhs => rw [h1, Nat.or_assoc, h2]

/-- The signed comparison of two words that are small as naturals. -/
theorem sle_small (a b : BitVec 32) (ha : a.toNat < 2 ^ 31) (hb : b.toNat < 2 ^ 31) : IntOp.cmpi .sle a b = if a.toNat ≤ b.toNat then 1#1 else 0#1 := by
  have h1 : a.toInt = a.toNat := BitVec.toInt_eq_toNat_of_lt (by omega)
  have h2 : b.toInt = b.toNat := BitVec.toInt_eq_toNat_of_lt (by omega)
  by_cases h : a.toNat ≤ b.toNat
  · simp [IntOp.cmpi, BitVec.sle, h1, h2, h]
  · simp [IntOp.cmpi, BitVec.sle, h1, h2, h]

theorem slt_small (a b : BitVec 32) (ha : a.toNat < 2 ^ 31) (hb : b.toNat < 2 ^ 31) (h : a.toNat < b.toNat) : IntOp.cmpi .slt a b = 1#1 := by
  have h1 : a.toInt = a.toNat := BitVec.toInt_eq_toNat_of_lt (by omega)
  have h2 : b.toInt = b.toNat := BitVec.toInt_eq_toNat_of_lt (by omega)
  simp [IntOp.cmpi, BitVec.slt, h1, h2, h]

/-- The masking constant is −∞. -/
theorem neg_bot : (Named.named (F := Ideal) (φ := .f32) κ "neg" 0xF149F2CA#32 : EReal) = ⊥ := by
  rfl

/-- The bias of the masked path: nothing where the query sees the key, −∞ elsewhere. -/
theorem bias_apply (v5 v6 : BitVec 32) (I J : Fin 32) (h5 : v5.toNat = 512 * I.val) (h6 : v6.toNat = 512 * J.val) (k q : Fin 512) :
    k0_pay27 (F := Ideal) v5 v6 (ix2 k q) = if Sees (pos I q) (pos J k) then (0 : EReal) else ⊥ := by
  have hk : (v6 + BitVec.ofNat 32 k.val).toNat = 512 * J.val + k.val := by
    rw [BitVec.toNat_add, h6, BitVec.toNat_ofNat]; omega
  have hq : (v5 + BitVec.ofNat 32 q.val).toNat = 512 * I.val + q.val := by
    rw [BitVec.toNat_add, h5, BitVec.toNat_ofNat]; omega
  have ho : ((v5 + BitVec.ofNat 32 q.val) ||| 63#32).toNat = 64 * ((512 * I.val + q.val) / 64) + 63 := by
    rw [BitVec.toNat_or, hq]; exact or_chunk _
  have hsle : IntOp.cmpi .sle (v6 + BitVec.ofNat 32 k.val) ((v5 + BitVec.ofNat 32 q.val) ||| 63#32)
      = if (512 * J.val + k.val) ≤ 64 * ((512 * I.val + q.val) / 64) + 63 then 1#1 else 0#1 := by
    rw [sle_small _ _ (by omega) (by omega), hk, ho]
  have hslt : IntOp.cmpi .slt (v6 + BitVec.ofNat 32 k.val) 16384#32 = 1#1 := by
    have : (16384#32).toNat = 16384 := rfl
    exact slt_small _ _ (by omega) (by omega) (by omega)
  have e0 : iota .tc S512x512 32 [0] iota_S512x512_d0_w32 (ix2 k q) = BitVec.ofNat 32 k.val := iota_single_apply _ _ _ _ _ _
  have e1 : iota .tc S512x512 32 [1] iota_S512x512_d1_w32 (ix2 k q) = BitVec.ofNat 32 q.val := iota_single_apply _ _ _ _ _ _
  have hn : (Named.named (F := Ideal) (φ := .f32) κ "neg" 0xF149F2CA#32 : EReal) = ⊥ := neg_bot
  show (if IntOp.cmpi .sle (v6 + iota .tc S512x512 32 [0] iota_S512x512_d0_w32 (ix2 k q)) ((v5 + iota .tc S512x512 32 [1] iota_S512x512_d1_w32 (ix2 k q)) ||| 63#32) = 1#1 then
      (if IntOp.cmpi .slt (v6 + iota .tc S512x512 32 [0] iota_S512x512_d0_w32 (ix2 k q)) 16384#32 = 1#1 then (Ideal.ofBits .f32 0x00000000#32 : EReal)
        else Named.named (F := Ideal) (φ := .f32) κ "neg" 0xF149F2CA#32) else Named.named (F := Ideal) (φ := .f32) κ "neg" 0xF149F2CA#32) = _
  rw [e0, e1, hn]
  rw [hsle, hslt]
  have hz : (Ideal.ofBits .f32 0x00000000#32 : EReal) = 0 := by simp [Ideal.ofBits, Ideal.ieee]
  by_cases h : Sees (pos I q) (pos J k)
  · have : (512 * J.val + k.val) ≤ 64 * ((512 * I.val + q.val) / 64) + 63 := by
      have h' : (512 * J.val + k.val) / 64 ≤ (512 * I.val + q.val) / 64 := h
      omega
    rw [if_pos h, if_pos this, if_pos rfl, if_pos rfl, hz]
  · have : ¬ (512 * J.val + k.val) ≤ 64 * ((512 * I.val + q.val) / 64) + 63 := by
      have h' : ¬ (512 * J.val + k.val) / 64 ≤ (512 * I.val + q.val) / 64 := h
      omega
    rw [if_neg h, if_neg this, if_neg (by decide)]

/-- A word times 512, of a block's number. -/
theorem mul_block (w : BitVec 32) (n : Nat) (h : w.toNat = n) (hn : n < 32) : (w * 512#32).toNat = 512 * n := by
  rw [BitVec.toNat_mul, h]
  show n * 512 % 2 ^ 32 = _
  omega

theorem biasA_apply (t : Fin (cfgA c0).N) (k q : Fin 512) :
    biasA (crd c0 t) (pinT_0 c0) (pinT_1 c0) k q = if Sees (pos (qBlk t) q) (pos (kBlk t) k) then (0 : EReal) else ⊥ := by
  unfold biasA
  refine bias_apply _ _ (qBlk t) (kBlk t) ?_ ?_ k q
  · show (qWord t * 512#32 + 0#32).toNat = _
    rw [BitVec.add_zero]
    exact mul_block _ _ rfl (qBlk t).isLt
  · exact mul_block (kWord t) _ rfl (kBlk t).isLt

theorem biasC_apply (t : Fin (cfgA c0).N) (k q : Fin 512) :
    biasC (crd c0 t) (pinT_0 c0) (pinT_1 c0) k q = if Sees (pos (qBlk t) q) (pos (kBlk t) k) then (0 : EReal) else ⊥ := by
  unfold biasC
  refine bias_apply _ _ (qBlk t) (kBlk t) ?_ ?_ k q
  · show (qWord t * 512#32 + 0#32).toNat = _
    rw [BitVec.add_zero]
    exact mul_block _ _ rfl (qBlk t).isLt
  · exact mul_block (kWord t) _ rfl (kBlk t).isLt

end Cert.Attn

end
-- ==== Proof.Rows.lean ====
/- A row of tiles: after the key blocks 0 … j of a query block, the running maximum and the accumulator hold the softmax's
   state over those keys; the last tile of the row leaves the attention in the output block. -/
module

public import proofs.«01_k».proof.Proof.Mask

@[expose] public section

noncomputable section

namespace Cert.Attn

open Idealize.ShloMosaic Idealize.ShloMosaic.TcCoe Idealize.ShloMosaic.ValueIdx Idealize.SL.Sem Cert.KernelIdeal Cert.KernelIdeal.Gen

/-- The score of key `k` for query `p` of head `h` in batch `b`. -/
def dotQK (Q K : S2x16384x1024.Idx → EReal) (b : Fin 2) (p : Fin 16384) (h : Fin 8) (k : Fin 16384) : EReal :=
  ∑ d : Fin 128, K (ix3 b k (lane h d)) * Q (ix3 b p (lane h d))

/-- The masked scores of a query. -/
def masked (Q K : S2x16384x1024.Idx → EReal) (b : Fin 2) (p : Fin 16384) (h : Fin 8) : Fin 16384 → EReal :=
  fun k => if Sees p k then dotQK Q K b p h k else ⊥

/-- Row `R` of the transposed values, read along the keys. -/
def values (V : S2x32x640x512.Idx → EReal) (b : Fin 2) (R : Fin 640) : Fin 16384 → EReal :=
  fun k => V (ix4 b (⟨k.val / 512, by omega⟩ : Fin 32) R (⟨k.val % 512, by omega⟩ : Fin 512))

theorem values_pos (V : S2x32x640x512.Idx → EReal) (b : Fin 2) (R : Fin 640) (n : Fin 32) (r : Fin 512) :
    values V b R (pos n r) = V (ix4 b n R r) := by
  unfold values
  have h1 : (⟨(pos n r).val / 512, by omega⟩ : Fin 32) = n := Fin.ext (by simp only [pos]; omega)
  have h2 : (⟨(pos n r).val % 512, by omega⟩ : Fin 512) = r := Fin.ext (by simp only [pos]; omega)
  rw [h1, h2]

/-- A tile's maximum, of a tile whose columns hold block `n` of the columns' scores. -/
theorem tile_max (F : Fin 4096 → Fin 16384 → EReal) (n : Fin 32) (S : S512x4096.Idx → EReal)
    (hS : ∀ (k : Fin 512) (x : Fin 4096), S (ix2 k x) = F x (pos n k)) :
    maxNew S (fun y => topOf (F (y 1)) n.val) = fun y => topOf (F (y 1)) (n.val + 1) := by
  funext y
  obtain ⟨r, x, rfl⟩ : ∃ (r : Fin 1) (x : Fin 4096), y = ix2 r x := ⟨y 0, y 1, eq_ix2 y⟩
  show max (topOf (F x) n.val) (Finset.univ.sup fun k : Fin 512 => S (ix2 k x)) = topOf (F x) (n.val + 1)
  rw [topOf_succ]
  simp only [hS]

/-- A tile's accumulator. -/
theorem tile_acc (F : Fin 4096 → Fin 16384 → EReal) (hF : ∀ x k, F x k ≠ ⊤) (W : Fin 640 → Fin 16384 → EReal) (n : Fin 32)
    (S : S512x4096.Idx → EReal) (X2 : S1x1x640x512.Idx → EReal)
    (hS : ∀ (k : Fin 512) (x : Fin 4096), S (ix2 k x) = F x (pos n k))
    (hX : ∀ (R : Fin 640) (k : Fin 512), X2 (ix4 0 0 R k) = W R (pos n k)) :
    accStep S X2 (fun y => topOf (F (y 1)) n.val) (fun y => sumOf (F (colOf (y 0) (y 1))) (W (y 0)) n.val)
      = fun y => sumOf (F (colOf (y 0) (y 1))) (W (y 0)) (n.val + 1) := by
  funext y
  obtain ⟨R, q, rfl⟩ : ∃ (R : Fin 640) (q : Fin 512), y = ix2 R q := ⟨y 0, y 1, eq_ix2 y⟩
  unfold accStep
  rw [tile_max F n S hS]
  show Ideal.exp2 (topOf (F (colOf R q)) n.val - topOf (F (colOf R q)) (n.val + 1)) * sumOf (F (colOf R q)) (W R) n.val
    + ∑ k : Fin 512, X2 (ix4 0 0 R k) * Ideal.exp2 (S (ix2 k (colOf R q)) - topOf (F (colOf R q)) (n.val + 1)) = sumOf (F (colOf R q)) (W R) (n.val + 1)
  rw [sumOf_succ _ _ (hF _)]
  simp only [hS, hX]

theorem noMax_top (F : Fin 4096 → Fin 16384 → EReal) : noMax = fun y => topOf (F (y 1)) 0 := by
  funext y; exact (topOf_zero _).symm

theorem noAcc_sum (F : Fin 4096 → Fin 16384 → EReal) (W : Fin 640 → Fin 16384 → EReal) :
    noAcc = fun y => sumOf (F (colOf (y 0) (y 1))) (W (y 0)) 0 := by
  funext y; exact (sumOf_zero _ _).symm

variable (m : (ℓ : Loc nD τ sig) → Buf (Elt Ideal) ℓ) (ρ : Dev nD → PrngReg) (c : Dev nD)

/-- The scores of the columns of a grid point's score tile: each column is one query of one head. -/
def colScores (b : Fin 2) (i : Fin 32) (x : Fin 4096) : Fin 16384 → EReal :=
  masked (qArr m c) (kArr m c) b (pos i (colQuery x)) (colHead x)

/-- A grid point's products of keys and queries. -/
theorem score_at (t : Fin (cfgA c0).N) (h : Fin 8) (k q : Fin 512) :
    score (Xq c0 m ρ c t) (Xk c0 m ρ c t) h k q = dotQK (qArr m c) (kArr m c) (bat t) (pos (qBlk t) q) h (pos (kBlk t) k) := by
  unfold score dotQK
  refine Finset.sum_congr rfl fun d _ => ?_
  rw [Xq_apply, Xk_apply]

/-- The tile with the mask. -/
theorem masked_tile (t : Fin (cfgA c0).N) (bias : Fin 512 → Fin 512 → EReal)
    (hb : ∀ k q, bias k q = if Sees (pos (qBlk t) q) (pos (kBlk t) k) then (0 : EReal) else ⊥) (k : Fin 512) (x : Fin 4096) :
    scores (Xq c0 m ρ c t) (Xk c0 m ρ c t) bias (ix2 k x) = colScores m c (bat t) (qBlk t) x (pos (kBlk t) k) := by
  show score (Xq c0 m ρ c t) (Xk c0 m ρ c t) (colHead x) k (colQuery x) + bias k (colQuery x) = _
  rw [score_at, hb]
  unfold colScores masked
  by_cases h : Sees (pos (qBlk t) (colQuery x)) (pos (kBlk t) k)
  · rw [if_pos h, if_pos h, add_zero]
  · rw [if_neg h, if_neg h, EReal.add_bot]

/-- The tile without a mask, whose keys all come before its queries. -/
theorem clear_tile (t : Fin (cfgA c0).N) (hlt : (kBlk t).val < (qBlk t).val) (k : Fin 512) (x : Fin 4096) :
    scores (Xq c0 m ρ c t) (Xk c0 m ρ c t) noBias (ix2 k x) = colScores m c (bat t) (qBlk t) x (pos (kBlk t) k) := by
  refine masked_tile m ρ c t noBias (fun k q => ?_) k x
  have h : Sees (pos (qBlk t) q) (pos (kBlk t) k) := by
    show (512 * (kBlk t).val + k.val) / 64 ≤ (512 * (qBlk t).val + q.val) / 64
    omega
  rw [if_pos h]; rfl

theorem values_at (t : Fin (cfgA c0).N) (R : Fin 640) (k : Fin 512) :
    Xv c0 m ρ c t (ix4 0 0 R k) = values (vArr m c) (bat t) R (pos (kBlk t) k) := by
  rw [Xv_apply, values_pos]

/-- No column's score is +∞. -/
abbrev Tame : Prop := ∀ b i x k, colScores m c b i x k ≠ ⊤

/-- The state a grid point's row of tiles has reached after the first `n` key blocks. -/
abbrev topState (b : Fin 2) (i : Fin 32) (n : Nat) : S1x4096.Idx → EReal := fun y => topOf (colScores m c b i (y 1)) n
abbrev sumState (b : Fin 2) (i : Fin 32) (n : Nat) : S640x512.Idx → EReal :=
  fun y => sumOf (colScores m c b i (colOf (y 0) (y 1))) (values (vArr m c) b (y 0)) n

/-- The state before a grid point that is not the first of its row is the state after the point before it. -/
theorem prev_is (t : Fin (cfgA c0).N) (h : t.val ≠ 0) : prev0 c0 m ρ c t = traj0 c0 m ρ c (before t).val (before t).isLt := by
  unfold prev0; rw [dif_neg h]

/-- The running maximum and the accumulator along a row. -/
theorem row_state (hT : Tame m c) : ∀ (n : Nat) (t : Fin (cfgA c0).N), t.val = n → (kBlk t).val < (qBlk t).val →
    maxOf c (traj0 c0 m ρ c t.val t.isLt) = topState m c (bat t) (qBlk t) ((kBlk t).val + 1)
      ∧ accOf c (traj0 c0 m ρ c t.val t.isLt) = sumState m c (bat t) (qBlk t) ((kBlk t).val + 1) := by
  intro n
  induction n using Nat.strong_induction_on with
  | _ n ih =>
    intro t htn hlt
    obtain ⟨-, -, h0, h1, -, -, -, -, hprev⟩ := at_point t
    have q1 : P0_1 c0 t := h1.mpr hlt
    by_cases hz : (kWord t).toNat = 0
    · have hz' : (kBlk t).val = 0 := hz
      have q0 : P0_0 c0 t := h0.mpr hz
      have e1 := tile_max (colScores m c (bat t) (qBlk t)) (kBlk t) _ (clear_tile m ρ c t hlt)
      have e2 := tile_acc (colScores m c (bat t) (qBlk t)) (hT _ _) (values (vArr m c) (bat t)) (kBlk t) _ _ (clear_tile m ρ c t hlt) (values_at m ρ c t)
      rw [hz', ← noMax_top] at e1
      rw [hz', ← noMax_top, ← noAcc_sum] at e2
      rw [max_at_B c0 m ρ c t q0 q1, acc_at_B c0 m ρ c t q0 q1, hz']
      exact ⟨e1, e2⟩
    · have q0 : ¬P0_0 c0 t := fun h => hz (h0.mp h)
      obtain ⟨ht, hbat, hq, hk⟩ := hprev hz
      have hb : bat (before t) = bat t := Fin.ext hbat
      have hqb : qBlk (before t) = qBlk t := Fin.ext hq
      have hkb : (kBlk (before t)).val + 1 = (kBlk t).val := hk
      obtain ⟨i1, i2⟩ := ih (before t).val (by show t.val - 1 < n; omega) (before t) rfl (by rw [hqb]; omega)
      rw [hb, hqb, hkb] at i1 i2
      rw [max_at_D c0 m ρ c t q0 q1, acc_at_D c0 m ρ c t q0 q1, prev_is m ρ c t ht, i1, i2]
      exact ⟨tile_max (colScores m c (bat t) (qBlk t)) (kBlk t) _ (clear_tile m ρ c t hlt),
        tile_acc (colScores m c (bat t) (qBlk t)) (hT _ _) (values (vArr m c) (bat t)) (kBlk t) _ _ (clear_tile m ρ c t hlt) (values_at m ρ c t)⟩

/-- The output block the last tile of a row leaves. -/
theorem row_output (hT : Tame m c) (t : Fin (cfgA c0).N) (hd : ¬ P0_1 c0 t) :
    (kBlk t).val = (qBlk t).val ∧
    (traj0 c0 m ρ c t.val t.isLt).1 = outBlock (sumState m c (bat t) (qBlk t) ((qBlk t).val + 1)) := by
  obtain ⟨hle, -, h0, h1, -, -, -, -, hprev⟩ := at_point t
  have hge : ¬ (kWord t).toNat < (qWord t).toNat := fun h => hd (h1.mpr h)
  have hkq : (kBlk t).val = (qBlk t).val := by
    show (kWord t).toNat = (qWord t).toNat
    omega
  refine ⟨hkq, ?_⟩
  rw [← hkq]
  by_cases hz : (kWord t).toNat = 0
  · have hz' : (kBlk t).val = 0 := hz
    have q0 : P0_0 c0 t := h0.mpr hz
    have e2 := tile_acc (colScores m c (bat t) (qBlk t)) (hT _ _) (values (vArr m c) (bat t)) (kBlk t) _ _
      (masked_tile m ρ c t _ (biasA_apply t)) (values_at m ρ c t)
    rw [hz', ← noMax_top, ← noAcc_sum] at e2
    rw [out_at_A c0 m ρ c t q0 hd, hz']
    exact congrArg outBlock e2
  · have q0 : ¬P0_0 c0 t := fun h => hz (h0.mp h)
    obtain ⟨ht, hbat, hq, hk⟩ := hprev hz
    have hb : bat (before t) = bat t := Fin.ext hbat
    have hqb : qBlk (before t) = qBlk t := Fin.ext hq
    have hkb : (kBlk (before t)).val + 1 = (kBlk t).val := hk
    obtain ⟨i1, i2⟩ := row_state m ρ c hT (before t).val (before t) rfl (by rw [hqb]; omega)
    rw [hb, hqb, hkb] at i1 i2
    rw [out_at_C c0 m ρ c t q0 hd, prev_is m ρ c t ht, i1, i2]
    exact congrArg outBlock (tile_acc (colScores m c (bat t) (qBlk t)) (hT _ _) (values (vArr m c) (bat t)) (kBlk t) _ _
      (masked_tile m ρ c t _ (biasC_apply t)) (values_at m ρ c t))

end Cert.Attn

end
-- ==== Proof.KernelValue.lean ====
/- What the kernel computes: its output array is the masked attention of its queries, keys and values. -/
module

public import proofs.«01_k».proof.Proof.Rows

@[expose] public section

noncomputable section

namespace Cert.Attn

open Idealize.ShloMosaic Idealize.ShloMosaic.TcCoe Idealize.ShloMosaic.ValueIdx Idealize.SL.Sem Cert.KernelIdeal Cert.KernelIdeal.Gen
open Idealize.ShloMosaic.Pipeline

/-- The weighted sum of a query's values … -/
def numer (Q K : S2x16384x1024.Idx → EReal) (V : S2x32x640x512.Idx → EReal) (b : Fin 2) (p : Fin 16384) (h : Fin 8) (d : Fin 64) : EReal :=
  ∑ k, values V b (row h (val80 d)) k * Ideal.exp2 (masked Q K b p h k - Finset.univ.sup (masked Q K b p h))

/-- … the sum of its weights … -/
def denom (Q K : S2x16384x1024.Idx → EReal) (b : Fin 2) (p : Fin 16384) (h : Fin 8) : EReal :=
  ∑ k, Ideal.exp2 (masked Q K b p h k - Finset.univ.sup (masked Q K b p h))

/-- … and the attention: their quotient. -/
def attention (Q K : S2x16384x1024.Idx → EReal) (V : S2x32x640x512.Idx → EReal) : S2x16384x512.Idx → EReal :=
  fun y => Ideal.div (numer Q K V (y 0) (y 1) (outHead (y 2)) (outVal (y 2))) (denom Q K (y 0) (y 1) (outHead (y 2)))

/-- A finite sum of products of reals is real. -/
theorem sum_mul_real {n : ℕ} (f g : Fin n → EReal) (hf : ∀ i, f i ≠ ⊤ ∧ f i ≠ ⊥) (hg : ∀ i, g i ≠ ⊤ ∧ g i ≠ ⊥) :
    ∃ r : ℝ, ∑ i, f i * g i = (r : EReal) := by
  have h : ∀ s : Finset (Fin n), ∃ r : ℝ, ∑ i ∈ s, f i * g i = (r : EReal) := by
    intro s
    induction s using Finset.induction_on with
    | empty => exact ⟨0, by simp⟩
    | insert a s ha ih =>
      obtain ⟨r, hr⟩ := ih
      refine ⟨(f a).toReal * (g a).toReal + r, ?_⟩
      rw [Finset.sum_insert ha, hr, EReal.coe_add, EReal.coe_mul, EReal.coe_toReal (hf a).1 (hf a).2, EReal.coe_toReal (hg a).1 (hg a).2]
  exact h Finset.univ

section
variable (Q K : S2x16384x1024.Idx → EReal) (hQ : ∀ i, Q i ≠ ⊤ ∧ Q i ≠ ⊥) (hK : ∀ i, K i ≠ ⊤ ∧ K i ≠ ⊥)
include hQ hK

theorem dotQK_real (b : Fin 2) (p : Fin 16384) (h : Fin 8) (k : Fin 16384) : ∃ r : ℝ, dotQK Q K b p h k = (r : EReal) :=
  sum_mul_real _ _ (fun _ => hK _) (fun _ => hQ _)

theorem masked_ne_top (b : Fin 2) (p : Fin 16384) (h : Fin 8) (k : Fin 16384) : masked Q K b p h k ≠ ⊤ := by
  obtain ⟨r, hr⟩ := dotQK_real Q K hQ hK b p h k
  unfold masked
  by_cases hs : Sees p k
  · rw [if_pos hs, hr]; exact EReal.coe_ne_top _
  · rw [if_neg hs]; exact bot_ne_top

theorem masked_self (b : Fin 2) (p : Fin 16384) (h : Fin 8) : masked Q K b p h p ≠ ⊥ := by
  obtain ⟨r, hr⟩ := dotQK_real Q K hQ hK b p h p
  unfold masked
  rw [if_pos (le_refl _), hr]; exact EReal.coe_ne_bot _

end

variable (m : (ℓ : Loc nD τ sig) → Buf (Elt Ideal) ℓ) (ρ : Dev nD → PrngReg) (c : Dev nD)

/-- An element of the accumulator at a row's end. -/
theorem sum_at_end (b : Fin 2) (i : Fin 32) (n : Fin 8) (d : Fin 80) (r : Fin 512) :
    sumState m c b i (i.val + 1) (ix2 (row n d) r)
      = ∑ k, values (vArr m c) b (row n d) k
          * Ideal.exp2 (masked (qArr m c) (kArr m c) b (pos i r) n k - Finset.univ.sup (masked (qArr m c) (kArr m c) b (pos i r) n)) := by
  have hq : colQuery (colOf (row n d) r) = r := Fin.ext (by simp only [colQuery, colOf, row]; omega)
  have hh : colHead (colOf (row n d) r) = n := Fin.ext (by simp only [colHead, colOf, row]; omega)
  show sumOf (masked (qArr m c) (kArr m c) b (pos i (colQuery (colOf (row n d) r))) (colHead (colOf (row n d) r))) (values (vArr m c) b (row n d)) (i.val + 1) = _
  rw [hq, hh]
  refine sumOf_all _ _ _ fun k hk => ?_
  have hs : ¬ Sees (pos i r) k := by
    show ¬ k.val / 64 ≤ (512 * i.val + r.val) / 64
    omega
  unfold masked
  rw [if_neg hs]

/-- The output block at a row's end is the attention. -/
theorem block_attention (hV : ∀ (b : Fin 2) (j : Fin 32) (h : Fin 8) (x : Fin 512) (r : Fin 640), r.val = 80 * h.val + 64 → vArr m c (ix4 b j r x) = 1)
    (b : Fin 2) (i : Fin 32) (r l : Fin 512) :
    outBlock (sumState m c b i (i.val + 1)) (ix3 0 r l) = attention (qArr m c) (kArr m c) (vArr m c) (ix3 b (pos i r) l) := by
  show Ideal.div (sumState m c b i (i.val + 1) (ix2 (row (outHead l) (val80 (outVal l))) r)) (sumState m c b i (i.val + 1) (ix2 (row (outHead l) 64) r))
    = Ideal.div (numer (qArr m c) (kArr m c) (vArr m c) b (pos i r) (outHead l) (outVal l)) (denom (qArr m c) (kArr m c) b (pos i r) (outHead l))
  rw [sum_at_end, sum_at_end]
  have h1 : ∀ k, values (vArr m c) b (row (outHead l) 64) k = 1 := fun k => hV b _ (outHead l) _ _ rfl
  simp only [h1, one_mul]
  rfl

/-- The array the kernel leaves. -/
theorem output_array (hQ : ∀ i, qArr m c i ≠ ⊤ ∧ qArr m c i ≠ ⊥) (hK : ∀ i, kArr m c i ≠ ⊤ ∧ kArr m c i ≠ ⊥)
    (hV : ∀ (b : Fin 2) (j : Fin 32) (h : Fin 8) (x : Fin 512) (r : Fin 640), r.val = 80 * h.val + 64 → vArr m c (ix4 b j r x) = 1) :
    (dats c0 m ρ 0 c).arrAt (3 : Fin 4) (cfgA c0).N = attention (qArr m c) (kArr m c) (vArr m c) := by
  have hT : Tame m c := fun b i x k => masked_ne_top _ _ hQ hK _ _ _ _
  refine (dats c0 m ρ 0 c).arrAt_eq_of_covers (3 : Fin 4) _ covers_out fun t hf y => ?_
  have hd : ¬ P0_1 c0 t := by
    intro h1
    by_cases h0 : P0_0 c0 t
    · exact absurd ((sched0_B c0 t h0 h1).2.1.symm.trans hf) (by decide)
    · exact absurd ((sched0_D c0 t h0 h1).2.1.symm.trans hf) (by decide)
  obtain ⟨-, ho⟩ := row_output m ρ c hT t hd
  obtain ⟨z, r, l, rfl⟩ : ∃ (z : Fin 1) (r l : Fin 512), y = ix3 z r l := ⟨y 0, y 1, y 2, eq_ix3 y⟩
  obtain rfl : z = 0 := Subsingleton.elim _ _
  refine Eq.trans ?_ (congrArg (attention (qArr m c) (kArr m c) (vArr m c)) (out_emb t r l)).symm
  refine Eq.trans ?_ (block_attention m c hV (bat t) (qBlk t) r l)
  exact congrFun ho (ix3 0 r l)

end Cert.Attn

end
-- ==== Proof.RefMask.lean ====
/- The reference's mask, read at an index: positions divided by 64, compared. -/
module

public import proofs.«01_k».proof.Proof.Mask
public import proofs.«01_k».proof.Proof.Gen.ReferenceIdeal.Run
public import Idealize.ShloMosaic.Lib.Routing.Words

@[expose] public section

noncomputable section

namespace Cert.Attn

open Idealize.ShloMosaic Idealize.ShloMosaic.ValueIdx Cert.ReferenceIdeal Cert.ReferenceIdeal.Gen

/-- The sign of a word, as the host spells it. -/
abbrev signOf (w : BitVec 32) : BitVec 32 := if w = 0 then 0 else if w.msb then -1 else 1

/-- The floor division of a position by 64, as the host spells it. -/
theorem floor_word (u : ArithUnit) (p : Nat) (hp : p < 16384) (w : BitVec 32) (hw : w = BitVec.ofNat 32 p) :
    (if IntOp.andi (IntOp.cmpi .ne (signOf w) (signOf 64#32)) (IntOp.cmpi .ne (IntOp.remsi u w 64#32) 0#32) = 1#1
      then IntOp.subi (IntOp.divsi u w 64#32) 1#32 else IntOp.divsi u w 64#32) = BitVec.ofNat 32 (p / 64) := by
  subst hw
  have h2 : IntOp.divsi u (BitVec.ofNat 32 p) 64#32 = BitVec.ofNat 32 (p / 64) :=
    Routing.divsi_word u (a := p) (b := 64) (by omega) (by omega) (by omega)
  have h1 : IntOp.remsi u (BitVec.ofNat 32 p) 64#32 = BitVec.ofNat 32 (p % 64) :=
    Routing.remsi_word u (a := p) (b := 64) (by omega) (by omega) (by omega)
  rw [h1, h2, if_neg]
  intro h
  by_cases hz : p = 0
  · subst hz; revert h; decide
  · have hne : BitVec.ofNat 32 p ≠ 0 := by
      intro h'
      have := congrArg BitVec.toNat h'
      rw [BitVec.toNat_ofNat] at this
      simp at this
      omega
    have hm : (BitVec.ofNat 32 p).msb = false := by
      rw [BitVec.msb_eq_decide]
      simp only [BitVec.toNat_ofNat, decide_eq_false_iff_not, not_le]
      omega
    have hs : signOf (BitVec.ofNat 32 p) = 1 := by
      unfold signOf
      rw [if_neg hne, hm]; rfl
    rw [hs] at h
    have : IntOp.cmpi .ne (1 : BitVec 32) (signOf 64#32) = 0#1 := by decide
    rw [this] at h
    revert h
    generalize IntOp.cmpi .ne (BitVec.ofNat 32 (p % 64)) 0#32 = b
    revert b; decide

/-- The keys' chunks, along the last axis. -/
def keyChunks : IVec S1x16384 32 :=
  select (andi (cmpi .ne (signi (broadcastInDim S1x16384 ![1] bcast_S16384_S1x16384_1 (iotaInDim S16384 32 0))) (broadcastInDim S1x16384 ![] bcast_S_S1x16384 (signi (id (constantI S_ 32 64#32))))) (cmpi .ne (Host.remsi (broadcastInDim S1x16384 ![1] bcast_S16384_S1x16384_1 (iotaInDim S16384 32 0)) (broadcastInDim S1x16384 ![] bcast_S_S1x16384 (id (constantI S_ 32 64#32)))) (broadcastInDim S1x16384 ![] bcast_S_S1x16384 (constantI S_ 32 0#32)))) (subi (Host.divsi (broadcastInDim S1x16384 ![1] bcast_S16384_S1x16384_1 (iotaInDim S16384 32 0)) (broadcastInDim S1x16384 ![] bcast_S_S1x16384 (id (constantI S_ 32 64#32)))) (broadcastInDim S1x16384 ![] bcast_S_S1x16384 (constantI S_ 32 1#32))) (Host.divsi (broadcastInDim S1x16384 ![1] bcast_S16384_S1x16384_1 (iotaInDim S16384 32 0)) (broadcastInDim S1x16384 ![] bcast_S_S1x16384 (id (constantI S_ 32 64#32))))

/-- The queries' chunks, along the first axis. -/
def queryChunks : IVec S16384x1 32 :=
  select (andi (cmpi .ne (signi (broadcastInDim S16384x1 ![0] bcast_S16384_S16384x1_0 (iotaInDim S16384 32 0))) (broadcastInDim S16384x1 ![] bcast_S_S16384x1 (signi (id (constantI S_ 32 64#32))))) (cmpi .ne (Host.remsi (broadcastInDim S16384x1 ![0] bcast_S16384_S16384x1_0 (iotaInDim S16384 32 0)) (broadcastInDim S16384x1 ![] bcast_S_S16384x1 (id (constantI S_ 32 64#32)))) (broadcastInDim S16384x1 ![] bcast_S_S16384x1 (constantI S_ 32 0#32)))) (subi (Host.divsi (broadcastInDim S16384x1 ![0] bcast_S16384_S16384x1_0 (iotaInDim S16384 32 0)) (broadcastInDim S16384x1 ![] bcast_S_S16384x1 (id (constantI S_ 32 64#32)))) (broadcastInDim S16384x1 ![] bcast_S_S16384x1 (constantI S_ 32 1#32))) (Host.divsi (broadcastInDim S16384x1 ![0] bcast_S16384_S16384x1_0 (iotaInDim S16384 32 0)) (broadcastInDim S16384x1 ![] bcast_S_S16384x1 (id (constantI S_ 32 64#32))))

/-- The floor division of an array by 64, at an index. -/
theorem floor_array {t : Shape} (X C S Z O : IVec t 32) (j : t.Idx) (p : Nat) (hp : p < 16384) (hX : X j = BitVec.ofNat 32 p)
    (hC : C j = 64#32) (hS : S j = signOf 64#32) (hZ : Z j = 0#32) (hO : O j = 1#32) :
    select (andi (cmpi .ne (signi X) S) (cmpi .ne (Host.remsi X C) Z)) (subi (Host.divsi X C) O) (Host.divsi X C) j = BitVec.ofNat 32 (p / 64) := by
  have e := floor_word .host p hp (X j) hX
  rw [← hC, ← hZ, ← hO] at e
  rw [← e]
  show (if IntOp.andi (IntOp.cmpi .ne (signOf (X j)) (S j)) (IntOp.cmpi .ne (IntOp.remsi .host (X j) (C j)) (Z j)) = 1#1
      then IntOp.subi (IntOp.divsi .host (X j) (C j)) (O j) else IntOp.divsi .host (X j) (C j)) = _
  rw [hS, hC]

theorem keyChunks_apply (k : Fin 16384) : keyChunks (ix2 0 k) = BitVec.ofNat 32 (k.val / 64) := by
  have hX : broadcastInDim S1x16384 ![1] bcast_S16384_S1x16384_1 (iotaInDim S16384 32 0) (ix2 0 k) = iotaInDim S16384 32 0 (ix1 k) :=
    broadcastInDim_apply _ _ _ _ (ix1 k) (by intro a; fin_cases a; rfl)
  unfold keyChunks
  exact floor_array _ _ _ _ _ (ix2 0 k) k.val k.isLt hX rfl rfl rfl rfl

theorem queryChunks_apply (p : Fin 16384) : queryChunks (ix2 p 0) = BitVec.ofNat 32 (p.val / 64) := by
  have hX : broadcastInDim S16384x1 ![0] bcast_S16384_S16384x1_0 (iotaInDim S16384 32 0) (ix2 p 0) = iotaInDim S16384 32 0 (ix1 p) :=
    broadcastInDim_apply _ _ _ _ (ix1 p) (by intro a; fin_cases a; rfl)
  unfold queryChunks
  exact floor_array _ _ _ _ _ (ix2 p 0) p.val p.isLt hX rfl rfl rfl rfl

/-- The mask, of any two arrays of chunks. -/
def chunkMask (kc : IVec S1x16384 32) (qc : IVec S16384x1 32) : IVec S2x8x16384x16384 1 :=
  broadcastInDim S2x8x16384x16384 ![0, 1, 2, 3] bcast_S1x1x16384x16384_S2x8x16384x16384_0_1_2_3 (broadcastInDim S1x1x16384x16384 ![2, 3] bcast_S16384x16384_S1x1x16384x16384_2_3 (cmpi .sle (broadcastInDim S16384x16384 ![0, 1] bcast_S1x16384_S16384x16384_0_1 kc) (broadcastInDim S16384x16384 ![0, 1] bcast_S16384x1_S16384x16384_0_1 qc)))

theorem chunkMask_apply (kc : IVec S1x16384 32) (qc : IVec S16384x1 32) (b : Fin 2) (h : Fin 8) (p k : Fin 16384) :
    chunkMask kc qc (ix4 b h p k) = IntOp.cmpi .sle (kc (ix2 0 k)) (qc (ix2 p 0)) := by
  unfold chunkMask
  refine (broadcastInDim_apply _ _ _ _ (ix4 (0 : Fin 1) (0 : Fin 1) p k) (by intro a; fin_cases a <;> rfl)).trans ?_
  refine (broadcastInDim_apply _ _ _ _ (ix2 p k) (by intro a; fin_cases a <;> rfl)).trans ?_
  have e1 : broadcastInDim S16384x16384 ![0, 1] bcast_S1x16384_S16384x16384_0_1 kc (ix2 p k) = kc (ix2 0 k) :=
    broadcastInDim_apply _ _ _ _ (ix2 (0 : Fin 1) k) (by intro a; fin_cases a <;> rfl)
  have e2 : broadcastInDim S16384x16384 ![0, 1] bcast_S16384x1_S16384x16384_0_1 qc (ix2 p k) = qc (ix2 p 0) :=
    broadcastInDim_apply _ _ _ _ (ix2 p (0 : Fin 1)) (by intro a; fin_cases a <;> rfl)
  show IntOp.cmpi .sle (broadcastInDim S16384x16384 ![0, 1] bcast_S1x16384_S16384x16384_0_1 kc (ix2 p k)) (broadcastInDim S16384x16384 ![0, 1] bcast_S16384x1_S16384x16384_0_1 qc (ix2 p k)) = _
  rw [e1, e2]

/-- The reference masks what the kernel masks. -/
theorem mask_apply (b : Fin 2) (h : Fin 8) (p k : Fin 16384) :
    chunkMask keyChunks queryChunks (ix4 b h p k) = if Sees p k then 1#1 else 0#1 := by
  rw [chunkMask_apply, keyChunks_apply, queryChunks_apply]
  have hk : (BitVec.ofNat 32 (k.val / 64)).toNat = k.val / 64 := by rw [BitVec.toNat_ofNat]; omega
  have hp : (BitVec.ofNat 32 (p.val / 64)).toNat = p.val / 64 := by rw [BitVec.toNat_ofNat]; omega
  rw [sle_small _ _ (by omega) (by omega), hk, hp]

end Cert.Attn

end
-- ==== Proof.RefParts.lean ====
/- The reference's steps, each read at an index: scores, maximum, weights, weighted values. -/
module

public import proofs.«01_k».proof.Proof.RefMask
public import proofs.«01_k».proof.Proof.KernelValue
public import Idealize.ShloMosaic.Lib.KernelVsHost
public import Idealize.ShloMosaic.Lib.IdealHost
public import Idealize.ShloMosaic.Lib.Pointwise.Contract

@[expose] public section

noncomputable section

namespace Cert.Attn

open Idealize.ShloMosaic hiding ix0 ix1 ix2 ix3 ix4 ix5
open Idealize.ShloMosaic.ValueIdx Cert.ReferenceIdeal Cert.ReferenceIdeal.Gen

/-- The products of queries and keys. -/
theorem ref_dot (A B : FVec Ideal S2x16384x8x128 .f32) (b : Fin 2) (h : Fin 8) (p k : Fin 16384) :
    Host.dotGeneral dot_S2x16384x8x128_S2x16384x8x128_S2x8x16384x16384_3_3_1_1_02_02 none A B (ix4 b h p k)
      = ∑ d : Fin 128, (A (ix4 b p h d) : EReal) * B (ix4 b k h d) := by
  show Ideal.matmul dot_S2x16384x8x128_S2x16384x8x128_S2x8x16384x16384_3_3_1_1_02_02 A B (fun _ => 0) (ix4 b h p k) = _
  refine (Idealize.ShloMosaic.Ideal.matmul_apply₁_of _ (a := (3 : Fin 4)) rfl (K := 128) rfl A B _ _ (fun d => ix4 b p h d) (fun d => ix4 b k h d) ?_ ?_).trans (zero_add _)
  · intro d
    funext a; apply Fin.ext
    match a with
    | ⟨0, _⟩ => rfl
    | ⟨1, _⟩ => rfl
    | ⟨2, _⟩ => rfl
    | ⟨3, _⟩ => rfl
  · intro d
    funext a; apply Fin.ext
    match a with
    | ⟨0, _⟩ => rfl
    | ⟨1, _⟩ => rfl
    | ⟨2, _⟩ => rfl
    | ⟨3, _⟩ => rfl

/-- The products of weights and values. -/
theorem ref_mix (A : FVec Ideal S2x16384x8x64 .f32) (B : FVec Ideal S2x8x16384x16384 .f32) (b : Fin 2) (h : Fin 8) (d : Fin 64) (p : Fin 16384) :
    Host.dotGeneral dot_S2x16384x8x64_S2x8x16384x16384_S2x8x64x16384_1_3_3_2_02_01 none A B (ix4 b h d p)
      = ∑ k : Fin 16384, (A (ix4 b k h d) : EReal) * B (ix4 b h p k) := by
  show Ideal.matmul dot_S2x16384x8x64_S2x8x16384x16384_S2x8x64x16384_1_3_3_2_02_01 A B (fun _ => 0) (ix4 b h d p) = _
  refine (Idealize.ShloMosaic.Ideal.matmul_apply₁_of _ (a := (1 : Fin 4)) rfl (K := 16384) rfl A B _ _ (fun k => ix4 b k h d) (fun k => ix4 b h p k) ?_ ?_).trans (zero_add _)
  · intro d
    funext a; apply Fin.ext
    match a with
    | ⟨0, _⟩ => rfl
    | ⟨1, _⟩ => rfl
    | ⟨2, _⟩ => rfl
    | ⟨3, _⟩ => rfl
  · intro d
    funext a; apply Fin.ext
    match a with
    | ⟨0, _⟩ => rfl
    | ⟨1, _⟩ => rfl
    | ⟨2, _⟩ => rfl
    | ⟨3, _⟩ => rfl

/-- The largest entry of each row: the reference's reduction from −∞. -/
theorem ref_reduce (X : FVec Ideal S2x8x16384x16384 .f32) (b : Fin 2) (h : Fin 8) (p : Fin 16384) :
    Host.reduce FloatOps.maximumf X (constant S_ .f32 0xFF800000#32) reducesTo_S2x8x16384x16384_S2x8x16384_d3 h_S_ (ix3 b h p)
      = Finset.univ.sup fun k : Fin 16384 => (X (ix4 b h p k) : EReal) := by
  have hr : S2x8x16384x16384.Reduces [3] S2x8x16384 := by decide
  have hφ : FKind.Formats FTy.f32 := by decide
  have hn : (0xFF800000#32 : BitVec FTy.f32.bits) = FKind.maximumf.neutral FTy.f32 hφ := rfl
  rw [hostReduce_maximumf_eq_multiReduction X 0xFF800000#32 reducesTo_S2x8x16384x16384_S2x8x16384_d3 h_S_ hr hφ hn,
    Ideal.multiReduction_maximumf_single]
  have hb : (FloatOps.ofBits (F := Ideal) .f32 0xFF800000#32 : EReal) = ⊥ := by
    show Ideal.ofBits .f32 0xFF800000#32 = ⊥
    simp [Ideal.ofBits, Ideal.ieee]
  rw [hb]
  show (Finset.univ : Finset (Fin 16384)).fold max ⊥ _ = _
  refine (fold_max_sup (n := 16384) _).trans ?_
  refine Finset.sup_congr rfl fun k _ => ?_
  show X _ = X _
  refine congrArg X (funext fun a => Fin.ext ?_)
  match a with
  | ⟨0, _⟩ => rfl
  | ⟨1, _⟩ => rfl
  | ⟨2, _⟩ => rfl
  | ⟨3, _⟩ => rfl

/-- The sum of each row. -/
theorem ref_sum (X : FVec Ideal S2x8x16384x16384 .f32) (b : Fin 2) (h : Fin 8) (p : Fin 16384) :
    Host.reduceAdd X (constant S_ .f32 0x00000000#32) reducesTo_S2x8x16384x16384_S2x8x16384_d3 h_S_ (ix3 b h p)
      = ∑ k : Fin 16384, (X (ix4 b h p k) : EReal) := by
  have hr : S2x8x16384x16384.Reduces [3] S2x8x16384 := by decide
  rw [hostReduceAdd_apply, Ideal.hostReduceAdd_single reducesTo_S2x8x16384x16384_S2x8x16384_d3 hr]
  have hb : ((constant (F := Ideal) S_ .f32 0x00000000#32) (Shape.Idx.first h_S_) : EReal) = 0 := by
    show Ideal.ofBits .f32 0x00000000#32 = 0
    exact Ideal.ofBits_zero_f32
  rw [hb, zero_add]
  refine Finset.sum_congr rfl fun k _ => ?_
  show X _ = X _
  refine congrArg X (funext fun a => Fin.ext ?_)
  match a with
  | ⟨0, _⟩ => rfl
  | ⟨1, _⟩ => rfl
  | ⟨2, _⟩ => rfl
  | ⟨3, _⟩ => rfl

/-- A row's quantity carried to the row's every entry. -/
def spread (x : FVec Ideal S2x8x16384 .f32) : FVec Ideal S2x8x16384x16384 .f32 :=
  broadcastInDim S2x8x16384x16384 ![0, 1, 2, 3] bcast_S2x8x16384x1_S2x8x16384x16384_0_1_2_3
    (broadcastInDim S2x8x16384x1 ![0, 1, 2] bcast_S2x8x16384_S2x8x16384x1_0_1_2 x)

theorem spread_apply (x : FVec Ideal S2x8x16384 .f32) (b : Fin 2) (h : Fin 8) (p k : Fin 16384) :
    spread x (ix4 b h p k) = x (ix3 b h p) := by
  unfold spread
  rw [broadcastInDim_apply _ bcast_S2x8x16384x1_S2x8x16384x16384_0_1_2_3 _ (ix4 b h p k) (ix4 b h p (0 : Fin 1)) (by intro a; fin_cases a <;> rfl)]
  exact broadcastInDim_apply _ bcast_S2x8x16384_S2x8x16384x1_0_1_2 x (ix4 b h p (0 : Fin 1)) (ix3 b h p) (by intro a; fin_cases a <;> rfl)

/-- A maximum at an index. -/
theorem max_apply {S : Shape} (X Y : FVec Ideal S .f32) (i : S.Idx) : maximumf X Y i = max (X i : EReal) (Y i) := rfl

/-- Each row's maximum, as the reference guards it. -/
def rowMax (X : FVec Ideal S2x8x16384x16384 .f32) : FVec Ideal S2x8x16384 .f32 :=
  maximumf (broadcastInDim S2x8x16384 ![] bcast_S_S2x8x16384 (constant S_ .f32 0xFF800000#32))
    (Host.reduce FloatOps.maximumf X (constant S_ .f32 0xFF800000#32) reducesTo_S2x8x16384x16384_S2x8x16384_d3 h_S_)

theorem rowMax_apply (X : FVec Ideal S2x8x16384x16384 .f32) (b : Fin 2) (h : Fin 8) (p : Fin 16384) :
    rowMax X (ix3 b h p) = Finset.univ.sup fun k : Fin 16384 => (X (ix4 b h p k) : EReal) := by
  unfold rowMax
  rw [max_apply, broadcastInDim_scalar_apply, ref_reduce]
  have hb : (constant (F := Ideal) S_ .f32 0xFF800000#32 ix0 : EReal) = ⊥ := by
    show Ideal.ofBits .f32 0xFF800000#32 = ⊥
    simp [Ideal.ofBits, Ideal.ieee]
  rw [hb]
  exact max_eq_right bot_le

/-- Exponentials of differences, and quotients, at an index. -/
theorem exp_sub_apply {S : Shape} (X Y : FVec Ideal S .f32) (i : S.Idx) :
    Host.exp (subf X Y) i = Ideal.exp ((X i : EReal) - Y i) := rfl

theorem divf_apply {S : Shape} (X Y : FVec Ideal S .f32) (i : S.Idx) : Host.divf X Y i = Ideal.div (X i) (Y i) := rfl

/-- The exponentials of the scores below their row's maximum. -/
def expScores (X : FVec Ideal S2x8x16384x16384 .f32) : FVec Ideal S2x8x16384x16384 .f32 := Host.exp (subf X (spread (rowMax X)))

theorem expScores_apply (X : FVec Ideal S2x8x16384x16384 .f32) (b : Fin 2) (h : Fin 8) (p k : Fin 16384) :
    expScores X (ix4 b h p k) = Ideal.exp ((X (ix4 b h p k) : EReal) - Finset.univ.sup fun k : Fin 16384 => (X (ix4 b h p k) : EReal)) := by
  have he : expScores X (ix4 b h p k) = Ideal.exp ((X (ix4 b h p k) : EReal) - spread (rowMax X) (ix4 b h p k)) := exp_sub_apply X (spread (rowMax X)) _
  rw [he, spread_apply, rowMax_apply]

/-- The normalised weights. -/
def refWeights (P : FVec Ideal S2x8x16384x16384 .f32) : FVec Ideal S2x8x16384x16384 .f32 :=
  Host.divf P (spread (Host.reduceAdd P (constant S_ .f32 0x00000000#32) reducesTo_S2x8x16384x16384_S2x8x16384_d3 h_S_))

theorem refWeights_apply (P : FVec Ideal S2x8x16384x16384 .f32) (b : Fin 2) (h : Fin 8) (p k : Fin 16384) :
    refWeights P (ix4 b h p k) = Ideal.div (P (ix4 b h p k)) (∑ k : Fin 16384, (P (ix4 b h p k) : EReal)) := by
  have he : refWeights P (ix4 b h p k) = Ideal.div (P (ix4 b h p k))
      (spread (Host.reduceAdd P (constant S_ .f32 0x00000000#32) reducesTo_S2x8x16384x16384_S2x8x16384_d3 h_S_) (ix4 b h p k)) := divf_apply P _ _
  rw [he, spread_apply, ref_sum]

/-- Queries or keys by head. -/
def headsOf (A : FVec Ideal S2x16384x1024 .bf16) : FVec Ideal S2x16384x8x128 .f32 :=
  shapeCast _ (extf .f32 A bitsLt_bf16_f32) shapeCasts_S2x16384x1024_S2x16384x8x128

theorem headsOf_apply (A : FVec Ideal S2x16384x1024 .bf16) (b : Fin 2) (p : Fin 16384) (h : Fin 8) (d : Fin 128) :
    headsOf A (ix4 b p h d) = A (ix3 b p (lane h d)) := by
  unfold headsOf
  rw [shapeCast_apply _ shapeCasts_S2x16384x1024_S2x16384x8x128 (ix4 b p h d) (ix3 b p (lane h d)) (by
    rw [Shape.rowMajor_val_four, Shape.rowMajor_val_three]
    show (b.val * 16384 + p.val) * 1024 + (128 * h.val + d.val) = ((b.val * 16384 + p.val) * 8 + h.val) * 128 + d.val
    omega)]
  rfl

/-- The masked scores. -/
def refScores (M : IVec S2x8x16384x16384 1) (A B : FVec Ideal S2x16384x8x128 .f32) : FVec Ideal S2x8x16384x16384 .f32 :=
  select M (mulf (Host.dotGeneral dot_S2x16384x8x128_S2x16384x8x128_S2x8x16384x16384_3_3_1_1_02_02 none A B)
      (broadcastInDim S2x8x16384x16384 ![] bcast_S_S2x8x16384x16384 (Host.log (constant S_ .f32 0x40000000#32))))
    (broadcastInDim S2x8x16384x16384 ![] bcast_S_S2x8x16384x16384 (id (constant S_ .f32 0xFF800000#32)))

/-- The scale: the logarithm of two. -/
theorem log_two : Ideal.log (Ideal.ofBits .f32 0x40000000#32) = ((Real.log 2 : ℝ) : EReal) := by
  have h2 : Ideal.ofBits .f32 0x40000000#32 = ((2 : ℝ) : EReal) := by
    simp [Ideal.ofBits, Ideal.ieee]
    rw [← EReal.coe_mul]
    norm_num
  rw [h2, Ideal.log_coe, if_neg (by norm_num)]

theorem refScores_apply (M : IVec S2x8x16384x16384 1) (A B : FVec Ideal S2x16384x8x128 .f32) (b : Fin 2) (h : Fin 8) (p k : Fin 16384) :
    refScores M A B (ix4 b h p k)
      = if M (ix4 b h p k) = 1#1 then (∑ d : Fin 128, (A (ix4 b p h d) : EReal) * B (ix4 b k h d)) * ((Real.log 2 : ℝ) : EReal) else ⊥ := by
  have he : refScores M A B (ix4 b h p k) = if M (ix4 b h p k) = 1#1
      then (Host.dotGeneral dot_S2x16384x8x128_S2x16384x8x128_S2x8x16384x16384_3_3_1_1_02_02 none A B (ix4 b h p k) : EReal)
        * broadcastInDim S2x8x16384x16384 ![] bcast_S_S2x8x16384x16384 (Host.log (constant (F := Ideal) S_ .f32 0x40000000#32)) (ix4 b h p k)
      else broadcastInDim S2x8x16384x16384 ![] bcast_S_S2x8x16384x16384 (id (constant (F := Ideal) S_ .f32 0xFF800000#32)) (ix4 b h p k) := rfl
  rw [he, ref_dot, broadcastInDim_scalar_apply, broadcastInDim_scalar_apply]
  have h1 : (Host.log (constant (F := Ideal) S_ .f32 0x40000000#32) ix0 : EReal) = ((Real.log 2 : ℝ) : EReal) := log_two
  have h2 : (id (constant (F := Ideal) S_ .f32 0xFF800000#32) ix0 : EReal) = ⊥ := by
    show Ideal.ofBits .f32 0xFF800000#32 = ⊥
    simp [Ideal.ofBits, Ideal.ieee]
  rw [h1, h2]

/-- The values by key and head, the normaliser's rows dropped. -/
def valuesOf (A : FVec Ideal S2x32x640x512 .bf16) : FVec Ideal S2x16384x8x64 .f32 :=
  shapeCast _ (transpose S2x32x512x8x64 [0, 1, 4, 2, 3] (extractStridedSlice S2x32x8x64x512 ![0, 0, 0, 0, 0]
    (shapeCast _ (extf .f32 A bitsLt_bf16_f32) shapeCasts_S2x32x640x512_S2x32x8x80x512) slices_S2x32x8x80x512_S2x32x8x64x512_0_0_0_0_0)
    transposes_S2x32x8x64x512_S2x32x512x8x64_0_1_4_2_3) shapeCasts_S2x32x512x8x64_S2x16384x8x64

theorem valuesOf_apply (A : FVec Ideal S2x32x640x512 .bf16) (b : Fin 2) (k : Fin 16384) (h : Fin 8) (d : Fin 64) :
    valuesOf A (ix4 b k h d) = values A b (row h (val80 d)) k := by
  have hj : k.val / 512 < 32 := by omega
  have hx : k.val % 512 < 512 := by omega
  unfold valuesOf
  rw [shapeCast_apply _ shapeCasts_S2x32x512x8x64_S2x16384x8x64 (ix4 b k h d) (ix5 b (⟨k.val / 512, hj⟩ : Fin 32) (⟨k.val % 512, hx⟩ : Fin 512) h d) (by
    rw [Shape.rowMajor_val_five, Shape.rowMajor_val_four]
    show (((b.val * 32 + k.val / 512) * 512 + k.val % 512) * 8 + h.val) * 64 + d.val = ((b.val * 16384 + k.val) * 8 + h.val) * 64 + d.val
    omega)]
  rw [transpose_apply _ _ transposes_S2x32x8x64x512_S2x32x512x8x64_0_1_4_2_3 _ (ix5 b (⟨k.val / 512, hj⟩ : Fin 32) h d (⟨k.val % 512, hx⟩ : Fin 512)) (by
    intro a; fin_cases a <;> rfl)]
  rw [extractStridedSlice_apply _ _ slices_S2x32x8x80x512_S2x32x8x64x512_0_0_0_0_0 _ (ix5 b (⟨k.val / 512, hj⟩ : Fin 32) h (val80 d) (⟨k.val % 512, hx⟩ : Fin 512)) (by
    intro a; fin_cases a <;> exact (Nat.zero_add _).symm)]
  rw [shapeCast_apply _ shapeCasts_S2x32x640x512_S2x32x8x80x512 _ (ix4 b (⟨k.val / 512, hj⟩ : Fin 32) (row h (val80 d)) (⟨k.val % 512, hx⟩ : Fin 512)) (by
    rw [Shape.rowMajor_val_five, Shape.rowMajor_val_four]
    show ((b.val * 32 + k.val / 512) * 640 + (80 * h.val + d.val)) * 512 + k.val % 512 = (((b.val * 32 + k.val / 512) * 8 + h.val) * 80 + d.val) * 512 + k.val % 512
    omega)]
  rfl

/-- The weighted values, laid out by position. -/
def refOut (A : FVec Ideal S2x16384x8x64 .f32) (W : FVec Ideal S2x8x16384x16384 .f32) : FVec Ideal S2x16384x512 .f32 :=
  shapeCast _ (transpose S2x16384x8x64 [0, 3, 1, 2] (Host.dotGeneral dot_S2x16384x8x64_S2x8x16384x16384_S2x8x64x16384_1_3_3_2_02_01 none A W)
    transposes_S2x8x64x16384_S2x16384x8x64_0_3_1_2) shapeCasts_S2x16384x8x64_S2x16384x512

theorem refOut_apply (A : FVec Ideal S2x16384x8x64 .f32) (W : FVec Ideal S2x8x16384x16384 .f32) (b : Fin 2) (p : Fin 16384) (l : Fin 512) :
    refOut A W (ix3 b p l) = ∑ k : Fin 16384, (A (ix4 b k (outHead l) (outVal l)) : EReal) * W (ix4 b (outHead l) p k) := by
  unfold refOut
  rw [shapeCast_apply _ shapeCasts_S2x16384x8x64_S2x16384x512 (ix3 b p l) (ix4 b p (outHead l) (outVal l)) (by
    rw [Shape.rowMajor_val_four, Shape.rowMajor_val_three]
    show ((b.val * 16384 + p.val) * 8 + l.val / 64) * 64 + l.val % 64 = (b.val * 16384 + p.val) * 512 + l.val
    omega)]
  rw [transpose_apply _ _ transposes_S2x8x64x16384_S2x16384x8x64_0_3_1_2 _ (ix4 b (outHead l) (outVal l) p) (by
    intro a; fin_cases a <;> rfl)]
  exact ref_mix A W b (outHead l) (outVal l) p

end Cert.Attn

end
-- ==== Proof.RefValue.lean ====
/- What the reference computes: the same attention, its weights normalised one by one. -/
module

public import proofs.«01_k».proof.Proof.RefParts

@[expose] public section

noncomputable section

namespace Cert.Attn

open Idealize.ShloMosaic hiding ix0 ix1 ix2 ix3 ix4 ix5
open Idealize.ShloMosaic.ValueIdx Idealize.ShloMosaic.TcCoe Cert.ReferenceIdeal Cert.ReferenceIdeal.Gen

/-- The reference, its steps named. -/
def refAttention (q k : FVec Ideal S2x16384x1024 .bf16) (v : FVec Ideal S2x32x640x512 .bf16) : FVec Ideal S2x16384x512 .f32 :=
  refOut (valuesOf v) (refWeights (expScores (refScores (chunkMask keyChunks queryChunks) (headsOf q) (headsOf k))))

/-- The reference's result is that. -/
theorem res_eq (m : (ℓ : Loc nD τ sig) → Buf (Elt Ideal) ℓ) (c : Dev nD) :
    Cert.ReferenceIdeal.Value.res_main_v36 (F := Ideal) m c
      = refAttention (m ((c.tc : Thread nD τ).loc main_arg2)) (m ((c.tc : Thread nD τ).loc main_arg3)) (m ((c.tc : Thread nD τ).loc main_arg4)) := rfl

/-- Its masked scores are the kernel's, times the logarithm of two. -/
theorem scores_eq (q k : FVec Ideal S2x16384x1024 .bf16) (b : Fin 2) (h : Fin 8) (p n : Fin 16384) :
    refScores (chunkMask keyChunks queryChunks) (headsOf q) (headsOf k) (ix4 b h p n) = masked q k b p h n * ((Real.log 2 : ℝ) : EReal) := by
  rw [refScores_apply, mask_apply]
  have hd : (∑ d : Fin 128, (headsOf q (ix4 b p h d) : EReal) * headsOf k (ix4 b n h d)) = dotQK q k b p h n := by
    refine Finset.sum_congr rfl fun d _ => ?_
    rw [headsOf_apply, headsOf_apply]
    exact mul_comm _ _
  rw [hd]
  unfold masked
  by_cases hs : Sees p n
  · rw [if_pos hs, if_pos hs, if_pos rfl]
  · rw [if_neg hs, if_neg hs, if_neg (by decide), EReal.bot_mul_coe_of_pos (Real.log_pos (by norm_num))]

/-- The reference computes the attention. -/
theorem refAttention_eq (q k : FVec Ideal S2x16384x1024 .bf16) (v : FVec Ideal S2x32x640x512 .bf16)
    (hq : ∀ i, (q i : EReal) ≠ ⊤ ∧ (q i : EReal) ≠ ⊥) (hk : ∀ i, (k i : EReal) ≠ ⊤ ∧ (k i : EReal) ≠ ⊥) :
    refAttention q k v = attention q k v := by
  funext y
  obtain ⟨b, p, l, rfl⟩ : ∃ (b : Fin 2) (p : Fin 16384) (l : Fin 512), y = ix3 b p l := ⟨y 0, y 1, y 2, ValueIdx.eq_ix3 y⟩
  unfold refAttention
  rw [refOut_apply]
  have hw : ∀ n : Fin 16384, refWeights (expScores (refScores (chunkMask keyChunks queryChunks) (headsOf q) (headsOf k))) (ix4 b (outHead l) p n)
      = Ideal.div (Ideal.exp (masked q k b p (outHead l) n * ((Real.log 2 : ℝ) : EReal)
            - Finset.univ.sup fun n => masked q k b p (outHead l) n * ((Real.log 2 : ℝ) : EReal)))
          (∑ n, Ideal.exp (masked q k b p (outHead l) n * ((Real.log 2 : ℝ) : EReal)
            - Finset.univ.sup fun n => masked q k b p (outHead l) n * ((Real.log 2 : ℝ) : EReal))) := by
    intro n
    rw [refWeights_apply]
    simp only [expScores_apply, scores_eq]
  have hn := normalise (masked q k b p (outHead l)) (values v b (row (outHead l) (val80 (outVal l))))
    (masked_ne_top q k hq hk b p (outHead l)) p (masked_self q k hq hk b p (outHead l))
  refine Eq.trans ?_ hn.symm
  refine Finset.sum_congr rfl fun n _ => ?_
  rw [hw n, valuesOf_apply]

end Cert.Attn

end
-- ==== Proof.FoxPre.lean ====
/- The forget-gate branch's preconditions decoded: what they say of the tables, of the arrays, and of the frames. -/
module

public import proofs.«01_k».proof.Proof.Attends
public import proofs.«01_k».proof.Proof.Gen.Pre_tables2
public import proofs.«01_k».proof.Proof.Gen.Pre_attends2
public import proofs.«01_k».proof.Proof.Gen.Kernel2.Flash.Pins
public import proofs.«01_k».proof.Proof.Gen.Kernel2Ideal.Flash.Pins

@[expose] public section

noncomputable section

namespace Cert.Attn.Fox

open Idealize.ShloMosaic Idealize.ShloMosaic.ValueIdx

/-- The words the kernel's frame is stated at walk the triangle. -/
theorem walks_kernel : Walks (Cert.Kernel2.Gen.pinT_0 0) (Cert.Kernel2.Gen.pinT_1 0) :=
  ⟨by decide +kernel, by decide +kernel, by decide +kernel, by decide +kernel⟩

/-- The words the ideal kernel's frame is stated at walk the triangle. -/
theorem walks_ideal : Walks (Cert.Kernel2Ideal.Gen.pinT_0 0) (Cert.Kernel2Ideal.Gen.pinT_1 0) :=
  ⟨by decide +kernel, by decide +kernel, by decide +kernel, by decide +kernel⟩

/-- `tables2` holds: the tables walk the triangle. It asks of the tables what `tables` asks. -/
theorem walks_of_tables2 {F : FTy → Type} [FloatOps F] (A B : ST.Idx → BitVec 32) (q k v qb kb)
    (h : Cert.Pre_tables2.fn (F := F) A B q k v qb kb = fun _ => 1#1) : Walks A B :=
  walks_of_tables (F := F) A B q k v h

/-- `tables2` on the kernel's memory pins its tables. -/
theorem pinned_kernel (m : (ℓ : Loc Cert.Kernel2.nD Cert.Kernel2.τ Cert.Kernel2.sig) → Buf (Elt Bits) ℓ)
    (h : Cert.Pre_Kernel2 m) : Cert.Kernel2.Gen.Pinned 0 m :=
  ⟨fun c => ((walks_of_tables2 _ _ _ _ _ _ _ (h c)).unique walks_kernel).1,
    fun c => ((walks_of_tables2 _ _ _ _ _ _ _ (h c)).unique walks_kernel).2⟩

/-- `tables2` on the ideal kernel's memory pins its tables. -/
theorem pinned_ideal (m : (ℓ : Loc Cert.Kernel2Ideal.nD Cert.Kernel2Ideal.τ Cert.Kernel2Ideal.sig) → Buf (Elt Ideal) ℓ)
    (h : Cert.Pre_Kernel2Ideal m) : Cert.Kernel2Ideal.Gen.Pinned 0 m :=
  ⟨fun c => ((walks_of_tables2 _ _ _ _ _ _ _ (h c)).unique walks_ideal).1,
    fun c => ((walks_of_tables2 _ _ _ _ _ _ _ (h c)).unique walks_ideal).2⟩

/-- `attends2` holds: what `attends` says of the tables, queries, keys and values, and every bias real. -/
theorem attends2_decoded (A B : ST.Idx → BitVec 32) (q k : (⟨3, ![2, 16384, 1024]⟩ : Shape).Idx → EReal)
    (v : (⟨4, ![2, 32, 640, 512]⟩ : Shape).Idx → EReal) (qb : (⟨3, ![2, 8, 16384]⟩ : Shape).Idx → EReal) (kb : (⟨3, ![2, 16384, 8]⟩ : Shape).Idx → EReal)
    (h : Cert.Pre_attends2.fn (F := Ideal) A B q k v qb kb = fun _ => 1#1) :
    (Walks A B ∧ (∀ i, q i ≠ ⊤ ∧ q i ≠ ⊥) ∧ (∀ i, k i ≠ ⊤ ∧ k i ≠ ⊥)
      ∧ ∀ (b : Fin 2) (j : Fin 32) (h : Fin 8) (x : Fin 512) (r : Fin 640), r.val = 80 * h.val + 64 → v (ix4 b j r x) = 1)
      ∧ (∀ i, qb i ≠ ⊤ ∧ qb i ≠ ⊥) ∧ ∀ i, kb i ≠ ⊤ ∧ kb i ≠ ⊥ := by
  have e := congrFun h ix0
  unfold Cert.Pre_attends2.fn Cert.Pre_attends2.fn_part1 Cert.Pre_attends2.fn_part2 at e
  obtain ⟨e1, eKb⟩ := andi_one e
  obtain ⟨e0, eQb⟩ := andi_one e1
  have ht : (Ideal.ofBits .f32 0x7F800000#32 : EReal) = ⊤ := by simp [Ideal.ofBits, Ideal.ieee]
  refine ⟨attends_decoded A B q k v (funext fun y => ?_), fun i => ?_, fun i => ?_⟩
  · obtain rfl : y = ix0 := funext fun a => a.elim0
    exact e0
  · have w := Host.reduce_andi_all _ _ _ _ ix0 eQb i
    change Ideal.cmp .olt (max (qb i) (-(qb i))) (Ideal.ofBits .f32 0x7F800000#32) = 1#1 at w
    rw [ht] at w
    exact real_of_abs_lt w
  · have w := Host.reduce_andi_all _ _ _ _ ix0 eKb i
    change Ideal.cmp .olt (max (kb i) (-(kb i))) (Ideal.ofBits .f32 0x7F800000#32) = 1#1 at w
    rw [ht] at w
    exact real_of_abs_lt w

end Cert.Attn.Fox

end
-- ==== Proof.FoxPoints.lean ====
/- Where each grid point stands: its batch, its block of queries and its block of keys. -/
module

public import proofs.«01_k».proof.Proof.Gen.Kernel2Ideal.Flash.Facts
public import Idealize.ShloMosaic.Lib.Pipeline.ValueKit.Geometry

@[expose] public section

set_option maxRecDepth 16384
-- one declaration at a time: each slice's evaluation is released before the next begins
set_option Elab.async false

noncomputable section

namespace Cert.Attn.Fox

open Idealize.ShloMosaic Idealize.ShloMosaic.TcCoe Idealize.SL.Sem Cert.Kernel2Ideal Cert.Kernel2Ideal.Gen

/-- The one member of the launch. -/
abbrev c0 : Fin 1 := ⟨0, by omega⟩

/-- The words the two tables hold for a grid point: its block of queries, its block of keys. -/
abbrev qWord (t : Fin (cfgA c0).N) : BitVec 32 :=
  View.readAt (Elt Ideal) (tbM0_0).view (Rect.unit (s := S528) (k0_off1 (crd c0 t)) S1.size (k0_off1_inb (crd c0 t))).toLoadRect (pinT_0 c0) (Shape.Idx.first (numel1_S1.symm ▸ Nat.one_pos))
abbrev kWord (t : Fin (cfgA c0).N) : BitVec 32 :=
  View.readAt (Elt Ideal) (tbM0_1).view (Rect.unit (s := S528) (k0_off1 (crd c0 t)) S1.size (k0_off1_inb (crd c0 t))).toLoadRect (pinT_1 c0) (Shape.Idx.first (numel1_S1.symm ▸ Nat.one_pos))

/-- The point before `t` (itself at the first). -/
abbrev before (t : Fin (cfgA c0).N) : Fin (cfgA c0).N := ⟨t.val - 1, lt_of_le_of_lt (Nat.sub_le _ _) t.isLt⟩

/-- What is decided of a grid point. -/
abbrev At (t : Fin (cfgA c0).N) : Prop :=
  (kWord t).toNat ≤ (qWord t).toNat ∧ (qWord t).toNat < 32
  ∧ (P0_0 c0 t ↔ (kWord t).toNat = 0) ∧ (P0_1 c0 t ↔ (kWord t).toNat < (qWord t).toNat)
  ∧ (∀ a : Fin 3, ((cfgA c0).win (0 : Fin 6)).index t a = (![t.val / 528, (qWord t).toNat, 0] : Fin 3 → Nat) a)
  ∧ (∀ a : Fin 3, ((cfgA c0).win (1 : Fin 6)).index t a = (![t.val / 528, (kWord t).toNat, 0] : Fin 3 → Nat) a)
  ∧ (∀ a : Fin 4, ((cfgA c0).win (2 : Fin 6)).index t a = (![t.val / 528, (kWord t).toNat, 0, 0] : Fin 4 → Nat) a)
  ∧ (∀ a : Fin 3, ((cfgA c0).win (3 : Fin 6)).index t a = (![t.val / 528, 0, (qWord t).toNat] : Fin 3 → Nat) a)
  ∧ (∀ a : Fin 3, ((cfgA c0).win (4 : Fin 6)).index t a = (![t.val / 528, (kWord t).toNat, 0] : Fin 3 → Nat) a)
  ∧ (∀ a : Fin 3, ((cfgA c0).win (5 : Fin 6)).index t a = (![t.val / 528, (qWord t).toNat, 0] : Fin 3 → Nat) a)
  ∧ ((kWord t).toNat ≠ 0 → t.val ≠ 0 ∧ (t.val - 1) / 528 = t.val / 528 ∧ (qWord (before t)).toNat = (qWord t).toNat ∧ (kWord (before t)).toNat + 1 = (kWord t).toNat)

set_option synthInstance.maxSize 65536 in
instance At.dec (t : Fin (cfgA c0).N) : Decidable (At t) := @instDecidableAnd _ _ inferInstance inferInstance

theorem at_first : ∀ t : Fin (cfgA c0).N, 0 ≤ t.val → t.val < 264 → At t := by decide +kernel
theorem at_second : ∀ t : Fin (cfgA c0).N, 264 ≤ t.val → t.val < 528 → At t := by decide +kernel
theorem at_third : ∀ t : Fin (cfgA c0).N, 528 ≤ t.val → t.val < 792 → At t := by decide +kernel
theorem at_fourth : ∀ t : Fin (cfgA c0).N, 792 ≤ t.val → t.val < 1056 → At t := by decide +kernel

/-- Every grid point is where it should be. -/
theorem at_point (t : Fin (cfgA c0).N) : At t := by
  rcases Nat.lt_or_ge t.val 264 with h | h; · exact at_first t (Nat.zero_le _) h
  rcases Nat.lt_or_ge t.val 528 with h' | h'; · exact at_second t h h'
  rcases Nat.lt_or_ge t.val 792 with h'' | h''; · exact at_third t h' h''
  exact at_fourth t h'' t.isLt

/-- The blocks written back cover the output. -/
theorem covers_out : ((cfgA c0).win (5 : Fin 6)).Covers := by decide +kernel

end Cert.Attn.Fox

end
-- ==== Proof.FoxTile.lean ====
/- One grid point of the forget-gate attention kernel over the extended reals: the score tile of a head, to which the
   query's bias is added and the key's bias subtracted. The maximum, the rescaled accumulator and the output block are
   the latent branch's. -/
module

public import proofs.«01_k».proof.Proof.Output
public import proofs.«01_k».proof.Proof.Gen.Kernel2Ideal.Skeleton

@[expose] public section

noncomputable section

namespace Cert.Attn.Fox

open Idealize.ShloMosaic Idealize.ShloMosaic.ValueIdx Idealize.SL.Sem Cert.Kernel2Ideal Cert.Kernel2Ideal.Gen

variable {sg : RefSig}

/-- The gate of key row `k` against query row `q` of head `h`: the query's bias less the key's. -/
def gate (X3 : S1x8x512.Idx → EReal) (X4 : S1x512x8.Idx → EReal) (h : Fin 8) (k q : Fin 512) : EReal :=
  X3 (ix3 (0 : Fin 1) h q) - X4 (ix3 (0 : Fin 1) k h)

/-- A load of one head's query biases, carried to every key. -/
theorem load_query_bias (v : View sg .tc .vmem S1x8x512 .f32) (X : S1x8x512.Idx → EReal) (o : ℕ) (inb) (hc) (hb)
    (h : Fin 8) (ho : o = h.val) (k q : Fin 512) :
    broadcastTo S512x512 (shapeCast S1x512 (View.readAt (Elt Ideal) v (Rect.unit (s := S1x8x512) ![0, o, 0] S1x1x512.size inb).toLoadRect
      (v.rep (Val := Elt Ideal) X)) hc) hb (ix2 k q) = X (ix3 (0 : Fin 1) h q) := by
  rw [broadcastTo_apply _ hb (ix2 k q) (ix2 (0 : Fin 1) q) (by
    intro a
    match a with
    | ⟨0, _⟩ => rfl
    | ⟨1, _⟩ => rfl)]
  rw [View.readAt_rep]
  refine (shapeCast_apply _ hc (ix2 (0 : Fin 1) q) (ix3 (0 : Fin 1) (0 : Fin 1) q) ?_).trans ?_
  · rw [Shape.rowMajor_val_three, Shape.rowMajor_val_two]
    show (0 * 1 + 0) * 512 + q.val = 0 * 512 + q.val
    omega
  · show X _ = _
    refine congrArg X (funext fun a => Fin.ext ?_)
    match a with
    | ⟨0, _⟩ => rfl
    | ⟨1, _⟩ => show o + 1 * 0 = h.val; omega
    | ⟨2, _⟩ => show 0 + 1 * q.val = q.val; omega

/-- A load of one head's key biases, carried to every query. -/
theorem load_key_bias (v : View sg .tc .vmem S1x512x8 .f32) (X : S1x512x8.Idx → EReal) (o : ℕ) (inb) (hc) (hb)
    (h : Fin 8) (ho : o = h.val) (k q : Fin 512) :
    broadcastTo S512x512 (shapeCast S512x1 (View.readAt (Elt Ideal) v (Rect.unit (s := S1x512x8) ![0, 0, o] S1x512x1.size inb).toLoadRect
      (v.rep (Val := Elt Ideal) X)) hc) hb (ix2 k q) = X (ix3 (0 : Fin 1) k h) := by
  rw [broadcastTo_apply _ hb (ix2 k q) (ix2 k (0 : Fin 1)) (by
    intro a
    match a with
    | ⟨0, _⟩ => rfl
    | ⟨1, _⟩ => rfl)]
  rw [View.readAt_rep]
  refine (shapeCast_apply _ hc (ix2 k (0 : Fin 1)) (ix3 (0 : Fin 1) k (0 : Fin 1)) ?_).trans ?_
  · rw [Shape.rowMajor_val_three, Shape.rowMajor_val_two]
    show (0 * 512 + k.val) * 1 + 0 = k.val * 1 + 0
    omega
  · show X _ = _
    refine congrArg X (funext fun a => Fin.ext ?_)
    match a with
    | ⟨0, _⟩ => rfl
    | ⟨1, _⟩ => show 0 + 1 * k.val = k.val; omega
    | ⟨2, _⟩ => show o + 1 * 0 = h.val; omega

/-- The score tile: every head's gated scores side by side, plus the mask's bias. -/
def scores (X0 X1 : S1x512x1024.Idx → EReal) (X3 : S1x8x512.Idx → EReal) (X4 : S1x512x8.Idx → EReal) (bias : Fin 512 → Fin 512 → EReal) :
    S512x4096.Idx → EReal :=
  fun y => score X0 X1 (colHead (y 1)) (y 0) (colQuery (y 1)) + gate X3 X4 (colHead (y 1)) (y 0) (colQuery (y 1)) + bias (y 0) (colQuery (y 1))

section
variable (v4 v5 : View sg .tc .vmem S1x512x1024 .bf16) (v7 : View sg .tc .vmem S1x8x512 .f32) (v8 : View sg .tc .vmem S1x512x8 .f32)
  (X0 X1 : S1x512x1024.Idx → EReal) (X3 : S1x8x512.Idx → EReal) (X4 : S1x512x8.Idx → EReal)

/-- A head's gated scores, in the kernel's words. -/
theorem gated (o p : ℕ) (i4 i5 i7 i8 c4 c5 c7 c8 b7 b8) (h : Fin 8) (ho : o = 128 * h.val) (hp : p = h.val) (k q : Fin 512) :
    addf (F := Ideal) (φ := .f32) (matmul (F := Ideal) (φ₁ := .bf16) (φ₂ := .bf16) dot_S512x128_S512x128_S512x512_1_1_0_0_n_n none
      (shapeCast S512x128 (View.readAt (Elt Ideal) v5 (Rect.unit (s := S1x512x1024) ![0, 0, o] S1x512x128.size i5).toLoadRect (v5.rep (Val := Elt Ideal) X1)) c5)
      (shapeCast S512x128 (View.readAt (Elt Ideal) v4 (Rect.unit (s := S1x512x1024) ![0, 0, o] S1x512x128.size i4).toLoadRect (v4.rep (Val := Elt Ideal) X0)) c4)
      (constant S512x512 .f32 0x00000000#32))
      (subf (F := Ideal) (φ := .f32)
        (broadcastTo S512x512 (shapeCast S1x512 (View.readAt (Elt Ideal) v7 (Rect.unit (s := S1x8x512) ![0, p, 0] S1x1x512.size i7).toLoadRect (v7.rep (Val := Elt Ideal) X3)) c7) b7)
        (broadcastTo S512x512 (shapeCast S512x1 (View.readAt (Elt Ideal) v8 (Rect.unit (s := S1x512x8) ![0, 0, p] S1x512x1.size i8).toLoadRect (v8.rep (Val := Elt Ideal) X4)) c8) b8))
      (ix2 k q) = score X0 X1 h k q + gate X3 X4 h k q := by
  show matmul (F := Ideal) (φ₁ := .bf16) (φ₂ := .bf16) dot_S512x128_S512x128_S512x512_1_1_0_0_n_n none _ _ (constant S512x512 .f32 0x00000000#32) (ix2 k q)
      + (broadcastTo S512x512 _ b7 (ix2 k q) - broadcastTo S512x512 _ b8 (ix2 k q)) = _
  rw [load_query_bias v7 X3 p i7 c7 b7 h hp k q, load_key_bias v8 X4 p i8 c8 b8 h hp k q]
  refine congrArg (· + gate X3 X4 h k q) ?_
  refine (score_mm _ _ k q).trans ?_
  unfold score
  refine Finset.sum_congr rfl fun d _ => ?_
  rw [load_head v5 X1 o i5 c5 h ho k d, load_head v4 X0 o i4 c4 h ho q d]

/-- A head's stored block of the score tile, without a mask. -/
theorem score_block (o p : ℕ) (i4 i5 i7 i8 c4 c5 c7 c8 b7 b8 cc)
    (h : Fin 8) (ho : o = 128 * h.val) (hp : p = h.val) (k q : Fin 512) (r' : Fin 512) (c' : Fin 4096) (hr : r'.val = 0 + k.val) (hq : c'.val = 512 * h.val + q.val) :
    shapeCast S512x512 (addf (F := Ideal) (φ := .f32) (matmul (F := Ideal) (φ₁ := .bf16) (φ₂ := .bf16) dot_S512x128_S512x128_S512x512_1_1_0_0_n_n none
      (shapeCast S512x128 (View.readAt (Elt Ideal) v5 (Rect.unit (s := S1x512x1024) ![0, 0, o] S1x512x128.size i5).toLoadRect (v5.rep (Val := Elt Ideal) X1)) c5)
      (shapeCast S512x128 (View.readAt (Elt Ideal) v4 (Rect.unit (s := S1x512x1024) ![0, 0, o] S1x512x128.size i4).toLoadRect (v4.rep (Val := Elt Ideal) X0)) c4)
      (constant S512x512 .f32 0x00000000#32))
      (subf (F := Ideal) (φ := .f32)
        (broadcastTo S512x512 (shapeCast S1x512 (View.readAt (Elt Ideal) v7 (Rect.unit (s := S1x8x512) ![0, p, 0] S1x1x512.size i7).toLoadRect (v7.rep (Val := Elt Ideal) X3)) c7) b7)
        (broadcastTo S512x512 (shapeCast S512x1 (View.readAt (Elt Ideal) v8 (Rect.unit (s := S1x512x8) ![0, 0, p] S1x512x1.size i8).toLoadRect (v8.rep (Val := Elt Ideal) X4)) c8) b8)))
      cc (ix2 k q) = scores X0 X1 X3 X4 noBias (ix2 r' c') := by
  have e1 : colHead c' = h := Fin.ext (by show c'.val / 512 = h.val; omega)
  have e2 : colQuery c' = q := Fin.ext (by show c'.val % 512 = q.val; omega)
  have e3 : r' = k := Fin.ext (by omega)
  rw [shapeCast_self, gated v4 v5 v7 v8 X0 X1 X3 X4 o p i4 i5 i7 i8 c4 c5 c7 c8 b7 b8 h ho hp k q]
  show _ = score X0 X1 (colHead c') r' (colQuery c') + gate X3 X4 (colHead c') r' (colQuery c') + 0
  rw [add_zero, e1, e2, e3]

/-- A head's stored block of the score tile, with the mask's bias `B`. -/
theorem score_block_masked (B : S512x512.Idx → EReal) (o p : ℕ) (i4 i5 i7 i8 c4 c5 c7 c8 b7 b8 cc)
    (h : Fin 8) (ho : o = 128 * h.val) (hp : p = h.val) (k q : Fin 512) (r' : Fin 512) (c' : Fin 4096) (hr : r'.val = 0 + k.val) (hq : c'.val = 512 * h.val + q.val) :
    shapeCast S512x512 (addf (F := Ideal) (φ := .f32) (addf (F := Ideal) (φ := .f32) (matmul (F := Ideal) (φ₁ := .bf16) (φ₂ := .bf16) dot_S512x128_S512x128_S512x512_1_1_0_0_n_n none
      (shapeCast S512x128 (View.readAt (Elt Ideal) v5 (Rect.unit (s := S1x512x1024) ![0, 0, o] S1x512x128.size i5).toLoadRect (v5.rep (Val := Elt Ideal) X1)) c5)
      (shapeCast S512x128 (View.readAt (Elt Ideal) v4 (Rect.unit (s := S1x512x1024) ![0, 0, o] S1x512x128.size i4).toLoadRect (v4.rep (Val := Elt Ideal) X0)) c4)
      (constant S512x512 .f32 0x00000000#32))
      (subf (F := Ideal) (φ := .f32)
        (broadcastTo S512x512 (shapeCast S1x512 (View.readAt (Elt Ideal) v7 (Rect.unit (s := S1x8x512) ![0, p, 0] S1x1x512.size i7).toLoadRect (v7.rep (Val := Elt Ideal) X3)) c7) b7)
        (broadcastTo S512x512 (shapeCast S512x1 (View.readAt (Elt Ideal) v8 (Rect.unit (s := S1x512x8) ![0, 0, p] S1x512x1.size i8).toLoadRect (v8.rep (Val := Elt Ideal) X4)) c8) b8))) B)
      cc (ix2 k q) = scores X0 X1 X3 X4 (fun k q => B (ix2 k q)) (ix2 r' c') := by
  have e1 : colHead c' = h := Fin.ext (by show c'.val / 512 = h.val; omega)
  have e2 : colQuery c' = q := Fin.ext (by show c'.val % 512 = q.val; omega)
  have e3 : r' = k := Fin.ext (by omega)
  rw [shapeCast_self]
  refine (congrArg (· + B (ix2 k q)) (gated v4 v5 v7 v8 X0 X1 X3 X4 o p i4 i5 i7 i8 c4 c5 c7 c8 b7 b8 h ho hp k q)).trans ?_
  show score X0 X1 h k q + gate X3 X4 h k q + B (ix2 k q)
    = score X0 X1 (colHead c') r' (colQuery c') + gate X3 X4 (colHead c') r' (colQuery c') + B (ix2 r' (colQuery c'))
  rw [e1, e2, e3]

end

/-- The initial maximum, loaded back: it is the latent branch's. -/
theorem init_max_read (v : View sg .tc .vmem S1x4096 .f32) (i i') :
    v.readCov [(⟨Rect.unit (s := S1x4096) ![0, 0] S1x4096.size i, k0_pay65 (F := Ideal)⟩ : View.Piece (Elt Ideal) S1x4096 .f32)]
      (Rect.unit (s := S1x4096) ![0, 0] S1x4096.size i').toLoadRect = noMax :=
  Cert.Attn.init_max_read v i i'

/-- The zero fill, before the first head's store: it is the latent branch's. -/
theorem untouched_init (i) : ∀ (R : Fin 640) (q : Fin 512), 0 ≤ R.val →
    View.canon [(⟨Rect.unit (s := S640x512) ![0, 0] S640x512.size i, k0_pay66 (F := Ideal)⟩ : View.Piece (Elt Ideal) S640x512 .f32)] (ix2 R q) = noAcc (ix2 R q) :=
  Cert.Attn.untouched_init i

/-- The output block: it is put together as the latent branch's. -/
theorem output_block (A : S640x512.Idx → EReal) (f0 f1 f2 f3 f4 f5 f6 : FVec Ideal S64x512 .f32) (v73 : Vec Ideal S64x512 .f32) (v74 : Vec Ideal S1x512 .f32)
    (h0 : f0 = quotient A 0) (h1 : f1 = quotient A 1) (h2 : f2 = quotient A 2) (h3 : f3 = quotient A 3)
    (h4 : f4 = quotient A 4) (h5 : f5 = quotient A 5) (h6 : f6 = quotient A 6)
    (h7 : divf (F := Ideal) (φ := .f32) v73 (broadcastTo S64x512 v74 broadcasts_S1x512_S64x512) = quotient A 7) :
    k0_pay1 (F := Ideal) f0 f1 f2 f3 f4 f5 f6 v73 v74 = outBlock A :=
  Cert.Attn.output_block A f0 f1 f2 f3 f4 f5 f6 v73 v74 h0 h1 h2 h3 h4 h5 h6 h7

end Cert.Attn.Fox

end
-- ==== Proof.FoxRunA.lean ====
/- The forget-gate branch: the first grid point of each batch: its row of key blocks is this single masked tile, so the sums start from nothing
   and the output block is written at once. -/
module

public import proofs.«01_k».proof.Proof.FoxTile
public import proofs.«01_k».proof.Proof.Gen.Kernel2Ideal.Flash.Runs

@[expose] public section

noncomputable section

namespace Cert.Attn.Fox

open Idealize.ShloMosaic Idealize.ShloMosaic.TcCoe Idealize.ShloMosaic.ValueIdx Idealize.SL.Sem Cert.Kernel2Ideal Cert.Kernel2Ideal.Gen

variable (i : grid0.Coords) (arg4 arg5 : Memref sig .tc .vmem S1x512x1024 .bf16) (arg6 : Memref sig .tc .vmem S1x1x640x512 .bf16)
  (arg7 : Memref sig .tc .vmem S1x8x512 .f32) (arg8 : Memref sig .tc .vmem S1x512x8 .f32)
  (T0 T1 : S528.Idx → Elt Ideal .i32) (x0 x1 : S1x512x1024.Idx → EReal) (x2 : S1x1x640x512.Idx → EReal) (x3 : S1x8x512.Idx → EReal) (x4 : S1x512x8.Idx → EReal)

/-- The mask's bias at this grid point. -/
def biasA : Fin 512 → Fin 512 → EReal := fun k q => kernelRun0_A.sl.r_2 i T0 T1 (ix2 k q)

theorem scores_A : kernelRun0_A.sl.v193 i arg4 arg5 arg7 arg8 T0 T1 x0 x1 x3 x4 = scores x0 x1 x3 x4 (biasA i T0 T1) := by
  unfold kernelRun0_A.sl.v193
  rw [readCov_whole]
  unfold kernelRun0_A.sl.HS2_8
  exact canon_cols _ _ _ _ _ _ _ _ _ _ _ _ _ _ _ _ _
    (fun k q r' c' hr hc => score_block_masked _ _ _ _ x0 x1 x3 x4 _ 0 0 _ _ _ _ _ _ _ _ _ _ _ 0 rfl rfl k q r' c' hr hc)
    (fun k q r' c' hr hc => score_block_masked _ _ _ _ x0 x1 x3 x4 _ 128 1 _ _ _ _ _ _ _ _ _ _ _ 1 rfl rfl k q r' c' hr hc)
    (fun k q r' c' hr hc => score_block_masked _ _ _ _ x0 x1 x3 x4 _ 256 2 _ _ _ _ _ _ _ _ _ _ _ 2 rfl rfl k q r' c' hr hc)
    (fun k q r' c' hr hc => score_block_masked _ _ _ _ x0 x1 x3 x4 _ 384 3 _ _ _ _ _ _ _ _ _ _ _ 3 rfl rfl k q r' c' hr hc)
    (fun k q r' c' hr hc => score_block_masked _ _ _ _ x0 x1 x3 x4 _ 512 4 _ _ _ _ _ _ _ _ _ _ _ 4 rfl rfl k q r' c' hr hc)
    (fun k q r' c' hr hc => score_block_masked _ _ _ _ x0 x1 x3 x4 _ 640 5 _ _ _ _ _ _ _ _ _ _ _ 5 rfl rfl k q r' c' hr hc)
    (fun k q r' c' hr hc => score_block_masked _ _ _ _ x0 x1 x3 x4 _ 768 6 _ _ _ _ _ _ _ _ _ _ _ 6 rfl rfl k q r' c' hr hc)
    (fun k q r' c' hr hc => score_block_masked _ _ _ _ x0 x1 x3 x4 _ 896 7 _ _ _ _ _ _ _ _ _ _ _ 7 rfl rfl k q r' c' hr hc)

theorem start_A : kernelRun0_A.sl.v194 = noMax := by
  unfold kernelRun0_A.sl.v194 kernelRun0_A.sl.HS0_1
  exact init_max_read _ _ _

theorem max_A : kernelRun0_A.sl.v197 i arg4 arg5 arg7 arg8 T0 T1 x0 x1 x3 x4 = maxNew (scores x0 x1 x3 x4 (biasA i T0 T1)) noMax := by
  unfold kernelRun0_A.sl.v197 kernelRun0_A.sl.v196 kernelRun0_A.sl.v195
  rw [start_A, scores_A]
  exact max_step _ _ _ _ _ _

theorem scale_A : kernelRun0_A.sl.v199 i arg4 arg5 arg7 arg8 T0 T1 x0 x1 x3 x4 = scaleOf noMax (maxNew (scores x0 x1 x3 x4 (biasA i T0 T1)) noMax) := by
  unfold kernelRun0_A.sl.v199 kernelRun0_A.sl.v198
  rw [start_A, max_A]
  rfl

theorem weights_A : kernelRun0_A.sl.v206 i arg4 arg5 arg7 arg8 T0 T1 x0 x1 x3 x4
    = weights (scores x0 x1 x3 x4 (biasA i T0 T1)) (maxNew (scores x0 x1 x3 x4 (biasA i T0 T1)) noMax) := by
  unfold kernelRun0_A.sl.v206 kernelRun0_A.sl.v205 kernelRun0_A.sl.v204 kernelRun0_A.sl.v203
  rw [scores_A, max_A]
  exact weights_step _ _ _ _

set_option maxHeartbeats 2000000 in
theorem acc_stored_A : View.canon (kernelRun0_A.sl.HS1_9 i arg4 arg5 arg6 arg7 arg8 T0 T1 x0 x1 x2 x3 x4) = accStep (scores x0 x1 x3 x4 (biasA i T0 T1)) x2 noMax noAcc := by
  unfold accStep
  rw [← scale_A i arg4 arg5 arg7 arg8 T0 T1 x0 x1 x3 x4, ← weights_A i arg4 arg5 arg7 arg8 T0 T1 x0 x1 x3 x4]
  have u0 : ∀ (R : Fin 640) (q : Fin 512), 0 ≤ R.val → View.canon kernelRun0_A.sl.HS1_1 (ix2 R q) = noAcc (ix2 R q) := untouched_init _
  have u1 : ∀ (R : Fin 640) (q : Fin 512), 80 ≤ R.val → View.canon (kernelRun0_A.sl.HS1_2 i arg4 arg5 arg6 arg7 arg8 T0 T1 x0 x1 x2 x3 x4) (ix2 R q) = noAcc (ix2 R q) := untouched _ 0 _ _ u0
  have u2 : ∀ (R : Fin 640) (q : Fin 512), 160 ≤ R.val → View.canon (kernelRun0_A.sl.HS1_3 i arg4 arg5 arg6 arg7 arg8 T0 T1 x0 x1 x2 x3 x4) (ix2 R q) = noAcc (ix2 R q) := untouched _ 80 _ _ u1
  have u3 : ∀ (R : Fin 640) (q : Fin 512), 240 ≤ R.val → View.canon (kernelRun0_A.sl.HS1_4 i arg4 arg5 arg6 arg7 arg8 T0 T1 x0 x1 x2 x3 x4) (ix2 R q) = noAcc (ix2 R q) := untouched _ 160 _ _ u2
  have u4 : ∀ (R : Fin 640) (q : Fin 512), 320 ≤ R.val → View.canon (kernelRun0_A.sl.HS1_5 i arg4 arg5 arg6 arg7 arg8 T0 T1 x0 x1 x2 x3 x4) (ix2 R q) = noAcc (ix2 R q) := untouched _ 240 _ _ u3
  have u5 : ∀ (R : Fin 640) (q : Fin 512), 400 ≤ R.val → View.canon (kernelRun0_A.sl.HS1_6 i arg4 arg5 arg6 arg7 arg8 T0 T1 x0 x1 x2 x3 x4) (ix2 R q) = noAcc (ix2 R q) := untouched _ 320 _ _ u4
  have u6 : ∀ (R : Fin 640) (q : Fin 512), 480 ≤ R.val → View.canon (kernelRun0_A.sl.HS1_7 i arg4 arg5 arg6 arg7 arg8 T0 T1 x0 x1 x2 x3 x4) (ix2 R q) = noAcc (ix2 R q) := untouched _ 400 _ _ u5
  have u7 : ∀ (R : Fin 640) (q : Fin 512), 560 ≤ R.val → View.canon (kernelRun0_A.sl.HS1_8 i arg4 arg5 arg6 arg7 arg8 T0 T1 x0 x1 x2 x3 x4) (ix2 R q) = noAcc (ix2 R q) := untouched _ 480 _ _ u6
  exact canon_rows _ _ _ _ _ _ _ _ _ _ _ _ _ _ _ _ _ _
    (fun r q R q' hR hq => acc_block _ x2 _ _ _ _ 0 0 _ _ _ _ _ _ 0 rfl rfl r q R q' hR hq
      ((rows_readCov scM0_1.view kernelRun0_A.sl.HS1_1 0 _ r q q' R hR hq).trans (u0 R q' (by omega))))
    (fun r q R q' hR hq => acc_block _ x2 _ _ _ _ 80 512 _ _ _ _ _ _ 1 rfl rfl r q R q' hR hq
      ((rows_readCov scM0_1.view (kernelRun0_A.sl.HS1_2 i arg4 arg5 arg6 arg7 arg8 T0 T1 x0 x1 x2 x3 x4) 80 _ r q q' R hR hq).trans (u1 R q' (by omega))))
    (fun r q R q' hR hq => acc_block _ x2 _ _ _ _ 160 1024 _ _ _ _ _ _ 2 rfl rfl r q R q' hR hq
      ((rows_readCov scM0_1.view (kernelRun0_A.sl.HS1_3 i arg4 arg5 arg6 arg7 arg8 T0 T1 x0 x1 x2 x3 x4) 160 _ r q q' R hR hq).trans (u2 R q' (by omega))))
    (fun r q R q' hR hq => acc_block _ x2 _ _ _ _ 240 1536 _ _ _ _ _ _ 3 rfl rfl r q R q' hR hq
      ((rows_readCov scM0_1.view (kernelRun0_A.sl.HS1_4 i arg4 arg5 arg6 arg7 arg8 T0 T1 x0 x1 x2 x3 x4) 240 _ r q q' R hR hq).trans (u3 R q' (by omega))))
    (fun r q R q' hR hq => acc_block _ x2 _ _ _ _ 320 2048 _ _ _ _ _ _ 4 rfl rfl r q R q' hR hq
      ((rows_readCov scM0_1.view (kernelRun0_A.sl.HS1_5 i arg4 arg5 arg6 arg7 arg8 T0 T1 x0 x1 x2 x3 x4) 320 _ r q q' R hR hq).trans (u4 R q' (by omega))))
    (fun r q R q' hR hq => acc_block _ x2 _ _ _ _ 400 2560 _ _ _ _ _ _ 5 rfl rfl r q R q' hR hq
      ((rows_readCov scM0_1.view (kernelRun0_A.sl.HS1_6 i arg4 arg5 arg6 arg7 arg8 T0 T1 x0 x1 x2 x3 x4) 400 _ r q q' R hR hq).trans (u5 R q' (by omega))))
    (fun r q R q' hR hq => acc_block _ x2 _ _ _ _ 480 3072 _ _ _ _ _ _ 6 rfl rfl r q R q' hR hq
      ((rows_readCov scM0_1.view (kernelRun0_A.sl.HS1_7 i arg4 arg5 arg6 arg7 arg8 T0 T1 x0 x1 x2 x3 x4) 480 _ r q q' R hR hq).trans (u6 R q' (by omega))))
    (fun r q R q' hR hq => acc_block _ x2 _ _ _ _ 560 3584 _ _ _ _ _ _ 7 rfl rfl r q R q' hR hq
      ((rows_readCov scM0_1.view (kernelRun0_A.sl.HS1_8 i arg4 arg5 arg6 arg7 arg8 T0 T1 x0 x1 x2 x3 x4) 560 _ r q q' R hR hq).trans (u7 R q' (by omega))))

set_option maxHeartbeats 2000000 in
theorem out_stored_A : View.canon (kernelRun0_A.sl.HO5_1 i arg4 arg5 arg6 arg7 arg8 T0 T1 x0 x1 x2 x3 x4)
    = outBlock (accStep (scores x0 x1 x3 x4 (biasA i T0 T1)) x2 noMax noAcc) := by
  rw [← acc_stored_A i arg4 arg5 arg6 arg7 arg8 T0 T1 x0 x1 x2 x3 x4]
  unfold kernelRun0_A.sl.HO5_1
  rw [View.canon_unit_zero (by funext a; fin_cases a <;> rfl)]
  exact output_block _ _ _ _ _ _ _ _ _ _
    (quotient_block scM0_1.view _ 0 64 _ _ _ 0 rfl rfl)
    (quotient_block scM0_1.view _ 80 144 _ _ _ 1 rfl rfl)
    (quotient_block scM0_1.view _ 160 224 _ _ _ 2 rfl rfl)
    (quotient_block scM0_1.view _ 240 304 _ _ _ 3 rfl rfl)
    (quotient_block scM0_1.view _ 320 384 _ _ _ 4 rfl rfl)
    (quotient_block scM0_1.view _ 400 464 _ _ _ 5 rfl rfl)
    (quotient_block scM0_1.view _ 480 544 _ _ _ 6 rfl rfl)
    (quotient_block scM0_1.view _ 560 624 _ _ _ 7 rfl rfl)

end Cert.Attn.Fox

end
-- ==== Proof.FoxRunB.lean ====
/- The forget-gate branch: the grid points that start a query block's row away from the diagonal: the sums start from nothing and the scores
   need no mask. -/
module

public import proofs.«01_k».proof.Proof.FoxTile
public import proofs.«01_k».proof.Proof.Gen.Kernel2Ideal.Flash.Runs

@[expose] public section

noncomputable section

namespace Cert.Attn.Fox

open Idealize.ShloMosaic Idealize.ShloMosaic.TcCoe Idealize.ShloMosaic.ValueIdx Idealize.SL.Sem Cert.Kernel2Ideal Cert.Kernel2Ideal.Gen

variable (arg4 arg5 : Memref sig .tc .vmem S1x512x1024 .bf16) (arg6 : Memref sig .tc .vmem S1x1x640x512 .bf16)
  (arg7 : Memref sig .tc .vmem S1x8x512 .f32) (arg8 : Memref sig .tc .vmem S1x512x8 .f32)
  (x0 x1 : S1x512x1024.Idx → EReal) (x2 : S1x1x640x512.Idx → EReal) (x3 : S1x8x512.Idx → EReal) (x4 : S1x512x8.Idx → EReal)

theorem scores_B : kernelRun0_B.sl.v171 arg4 arg5 arg7 arg8 x0 x1 x3 x4 = scores x0 x1 x3 x4 noBias := by
  unfold kernelRun0_B.sl.v171
  rw [readCov_whole]
  unfold kernelRun0_B.sl.HS2_8
  exact canon_cols _ _ _ _ _ _ _ _ _ _ _ _ _ _ _ _ _
    (fun k q r' c' hr hc => score_block _ _ _ _ x0 x1 x3 x4 0 0 _ _ _ _ _ _ _ _ _ _ _ 0 rfl rfl k q r' c' hr hc)
    (fun k q r' c' hr hc => score_block _ _ _ _ x0 x1 x3 x4 128 1 _ _ _ _ _ _ _ _ _ _ _ 1 rfl rfl k q r' c' hr hc)
    (fun k q r' c' hr hc => score_block _ _ _ _ x0 x1 x3 x4 256 2 _ _ _ _ _ _ _ _ _ _ _ 2 rfl rfl k q r' c' hr hc)
    (fun k q r' c' hr hc => score_block _ _ _ _ x0 x1 x3 x4 384 3 _ _ _ _ _ _ _ _ _ _ _ 3 rfl rfl k q r' c' hr hc)
    (fun k q r' c' hr hc => score_block _ _ _ _ x0 x1 x3 x4 512 4 _ _ _ _ _ _ _ _ _ _ _ 4 rfl rfl k q r' c' hr hc)
    (fun k q r' c' hr hc => score_block _ _ _ _ x0 x1 x3 x4 640 5 _ _ _ _ _ _ _ _ _ _ _ 5 rfl rfl k q r' c' hr hc)
    (fun k q r' c' hr hc => score_block _ _ _ _ x0 x1 x3 x4 768 6 _ _ _ _ _ _ _ _ _ _ _ 6 rfl rfl k q r' c' hr hc)
    (fun k q r' c' hr hc => score_block _ _ _ _ x0 x1 x3 x4 896 7 _ _ _ _ _ _ _ _ _ _ _ 7 rfl rfl k q r' c' hr hc)

theorem start_B : kernelRun0_B.sl.v172 = noMax := by
  unfold kernelRun0_B.sl.v172 kernelRun0_B.sl.HS0_1
  exact init_max_read _ _ _

theorem max_B : kernelRun0_B.sl.v175 arg4 arg5 arg7 arg8 x0 x1 x3 x4 = maxNew (scores x0 x1 x3 x4 noBias) noMax := by
  unfold kernelRun0_B.sl.v175 kernelRun0_B.sl.v174 kernelRun0_B.sl.v173
  rw [start_B, scores_B]
  exact max_step _ _ _ _ _ _

theorem scale_B : kernelRun0_B.sl.v177 arg4 arg5 arg7 arg8 x0 x1 x3 x4 = scaleOf noMax (maxNew (scores x0 x1 x3 x4 noBias) noMax) := by
  unfold kernelRun0_B.sl.v177 kernelRun0_B.sl.v176
  rw [start_B, max_B]
  rfl

theorem weights_B : kernelRun0_B.sl.v184 arg4 arg5 arg7 arg8 x0 x1 x3 x4 = weights (scores x0 x1 x3 x4 noBias) (maxNew (scores x0 x1 x3 x4 noBias) noMax) := by
  unfold kernelRun0_B.sl.v184 kernelRun0_B.sl.v183 kernelRun0_B.sl.v182 kernelRun0_B.sl.v181
  rw [scores_B, max_B]
  exact weights_step _ _ _ _

theorem max_stored_B : View.canon (kernelRun0_B.sl.HS0_2 arg4 arg5 arg7 arg8 x0 x1 x3 x4) = maxNew (scores x0 x1 x3 x4 noBias) noMax := by
  unfold kernelRun0_B.sl.HS0_2 kernelRun0_B.sl.v180
  rw [shapeCast_self, max_B]
  exact View.canon_cons_unit_zero (by funext a; fin_cases a <;> rfl) _ _ _

set_option maxHeartbeats 2000000 in
theorem acc_stored_B : View.canon (kernelRun0_B.sl.HS1_9 arg4 arg5 arg6 arg7 arg8 x0 x1 x2 x3 x4) = accStep (scores x0 x1 x3 x4 noBias) x2 noMax noAcc := by
  unfold accStep
  rw [← scale_B arg4 arg5 arg7 arg8 x0 x1 x3 x4, ← weights_B arg4 arg5 arg7 arg8 x0 x1 x3 x4]
  have u0 : ∀ (R : Fin 640) (q : Fin 512), 0 ≤ R.val → View.canon kernelRun0_B.sl.HS1_1 (ix2 R q) = noAcc (ix2 R q) := untouched_init _
  have u1 : ∀ (R : Fin 640) (q : Fin 512), 80 ≤ R.val → View.canon (kernelRun0_B.sl.HS1_2 arg4 arg5 arg6 arg7 arg8 x0 x1 x2 x3 x4) (ix2 R q) = noAcc (ix2 R q) := untouched _ 0 _ _ u0
  have u2 : ∀ (R : Fin 640) (q : Fin 512), 160 ≤ R.val → View.canon (kernelRun0_B.sl.HS1_3 arg4 arg5 arg6 arg7 arg8 x0 x1 x2 x3 x4) (ix2 R q) = noAcc (ix2 R q) := untouched _ 80 _ _ u1
  have u3 : ∀ (R : Fin 640) (q : Fin 512), 240 ≤ R.val → View.canon (kernelRun0_B.sl.HS1_4 arg4 arg5 arg6 arg7 arg8 x0 x1 x2 x3 x4) (ix2 R q) = noAcc (ix2 R q) := untouched _ 160 _ _ u2
  have u4 : ∀ (R : Fin 640) (q : Fin 512), 320 ≤ R.val → View.canon (kernelRun0_B.sl.HS1_5 arg4 arg5 arg6 arg7 arg8 x0 x1 x2 x3 x4) (ix2 R q) = noAcc (ix2 R q) := untouched _ 240 _ _ u3
  have u5 : ∀ (R : Fin 640) (q : Fin 512), 400 ≤ R.val → View.canon (kernelRun0_B.sl.HS1_6 arg4 arg5 arg6 arg7 arg8 x0 x1 x2 x3 x4) (ix2 R q) = noAcc (ix2 R q) := untouched _ 320 _ _ u4
  have u6 : ∀ (R : Fin 640) (q : Fin 512), 480 ≤ R.val → View.canon (kernelRun0_B.sl.HS1_7 arg4 arg5 arg6 arg7 arg8 x0 x1 x2 x3 x4) (ix2 R q) = noAcc (ix2 R q) := untouched _ 400 _ _ u5
  have u7 : ∀ (R : Fin 640) (q : Fin 512), 560 ≤ R.val → View.canon (kernelRun0_B.sl.HS1_8 arg4 arg5 arg6 arg7 arg8 x0 x1 x2 x3 x4) (ix2 R q) = noAcc (ix2 R q) := untouched _ 480 _ _ u6
  exact canon_rows _ _ _ _ _ _ _ _ _ _ _ _ _ _ _ _ _ _
    (fun r q R q' hR hq => acc_block _ x2 _ _ _ _ 0 0 _ _ _ _ _ _ 0 rfl rfl r q R q' hR hq
      ((rows_readCov scM0_1.view kernelRun0_B.sl.HS1_1 0 _ r q q' R hR hq).trans (u0 R q' (by omega))))
    (fun r q R q' hR hq => acc_block _ x2 _ _ _ _ 80 512 _ _ _ _ _ _ 1 rfl rfl r q R q' hR hq
      ((rows_readCov scM0_1.view (kernelRun0_B.sl.HS1_2 arg4 arg5 arg6 arg7 arg8 x0 x1 x2 x3 x4) 80 _ r q q' R hR hq).trans (u1 R q' (by omega))))
    (fun r q R q' hR hq => acc_block _ x2 _ _ _ _ 160 1024 _ _ _ _ _ _ 2 rfl rfl r q R q' hR hq
      ((rows_readCov scM0_1.view (kernelRun0_B.sl.HS1_3 arg4 arg5 arg6 arg7 arg8 x0 x1 x2 x3 x4) 160 _ r q q' R hR hq).trans (u2 R q' (by omega))))
    (fun r q R q' hR hq => acc_block _ x2 _ _ _ _ 240 1536 _ _ _ _ _ _ 3 rfl rfl r q R q' hR hq
      ((rows_readCov scM0_1.view (kernelRun0_B.sl.HS1_4 arg4 arg5 arg6 arg7 arg8 x0 x1 x2 x3 x4) 240 _ r q q' R hR hq).trans (u3 R q' (by omega))))
    (fun r q R q' hR hq => acc_block _ x2 _ _ _ _ 320 2048 _ _ _ _ _ _ 4 rfl rfl r q R q' hR hq
      ((rows_readCov scM0_1.view (kernelRun0_B.sl.HS1_5 arg4 arg5 arg6 arg7 arg8 x0 x1 x2 x3 x4) 320 _ r q q' R hR hq).trans (u4 R q' (by omega))))
    (fun r q R q' hR hq => acc_block _ x2 _ _ _ _ 400 2560 _ _ _ _ _ _ 5 rfl rfl r q R q' hR hq
      ((rows_readCov scM0_1.view (kernelRun0_B.sl.HS1_6 arg4 arg5 arg6 arg7 arg8 x0 x1 x2 x3 x4) 400 _ r q q' R hR hq).trans (u5 R q' (by omega))))
    (fun r q R q' hR hq => acc_block _ x2 _ _ _ _ 480 3072 _ _ _ _ _ _ 6 rfl rfl r q R q' hR hq
      ((rows_readCov scM0_1.view (kernelRun0_B.sl.HS1_7 arg4 arg5 arg6 arg7 arg8 x0 x1 x2 x3 x4) 480 _ r q q' R hR hq).trans (u6 R q' (by omega))))
    (fun r q R q' hR hq => acc_block _ x2 _ _ _ _ 560 3584 _ _ _ _ _ _ 7 rfl rfl r q R q' hR hq
      ((rows_readCov scM0_1.view (kernelRun0_B.sl.HS1_8 arg4 arg5 arg6 arg7 arg8 x0 x1 x2 x3 x4) 560 _ r q q' R hR hq).trans (u7 R q' (by omega))))

end Cert.Attn.Fox

end
-- ==== Proof.FoxRunC.lean ====
/- The forget-gate branch: the grid points on the diagonal that end a query block's row: the scores are masked, the sums are carried over and
   the output block is written. -/
module

public import proofs.«01_k».proof.Proof.FoxTile
public import proofs.«01_k».proof.Proof.Gen.Kernel2Ideal.Flash.Runs

@[expose] public section

noncomputable section

namespace Cert.Attn.Fox

open Idealize.ShloMosaic Idealize.ShloMosaic.TcCoe Idealize.ShloMosaic.ValueIdx Idealize.SL.Sem Cert.Kernel2Ideal Cert.Kernel2Ideal.Gen

variable (c : Dev nD) (i : grid0.Coords) (arg4 arg5 : Memref sig .tc .vmem S1x512x1024 .bf16) (arg6 : Memref sig .tc .vmem S1x1x640x512 .bf16)
  (arg7 : Memref sig .tc .vmem S1x8x512 .f32) (arg8 : Memref sig .tc .vmem S1x512x8 .f32)
  (T0 T1 : S528.Idx → Elt Ideal .i32) (x0 x1 : S1x512x1024.Idx → EReal) (x2 : S1x1x640x512.Idx → EReal) (x3 : S1x8x512.Idx → EReal) (x4 : S1x512x8.Idx → EReal)
  (xa0 : Buf (Elt Ideal) ((c : Thread nD τ).loc cc0_scratch0)) (xa1 : Buf (Elt Ideal) ((c : Thread nD τ).loc cc0_scratch1))

/-- The mask's bias at this grid point. -/
def biasC : Fin 512 → Fin 512 → EReal := fun k q => kernelRun0_C.sl.r_2 i T0 T1 (ix2 k q)

theorem scores_C : kernelRun0_C.sl.v193 i arg4 arg5 arg7 arg8 T0 T1 x0 x1 x3 x4 = scores x0 x1 x3 x4 (biasC i T0 T1) := by
  unfold kernelRun0_C.sl.v193
  rw [readCov_whole]
  unfold kernelRun0_C.sl.HS2_8
  exact canon_cols _ _ _ _ _ _ _ _ _ _ _ _ _ _ _ _ _
    (fun k q r' c' hr hc => score_block_masked _ _ _ _ x0 x1 x3 x4 _ 0 0 _ _ _ _ _ _ _ _ _ _ _ 0 rfl rfl k q r' c' hr hc)
    (fun k q r' c' hr hc => score_block_masked _ _ _ _ x0 x1 x3 x4 _ 128 1 _ _ _ _ _ _ _ _ _ _ _ 1 rfl rfl k q r' c' hr hc)
    (fun k q r' c' hr hc => score_block_masked _ _ _ _ x0 x1 x3 x4 _ 256 2 _ _ _ _ _ _ _ _ _ _ _ 2 rfl rfl k q r' c' hr hc)
    (fun k q r' c' hr hc => score_block_masked _ _ _ _ x0 x1 x3 x4 _ 384 3 _ _ _ _ _ _ _ _ _ _ _ 3 rfl rfl k q r' c' hr hc)
    (fun k q r' c' hr hc => score_block_masked _ _ _ _ x0 x1 x3 x4 _ 512 4 _ _ _ _ _ _ _ _ _ _ _ 4 rfl rfl k q r' c' hr hc)
    (fun k q r' c' hr hc => score_block_masked _ _ _ _ x0 x1 x3 x4 _ 640 5 _ _ _ _ _ _ _ _ _ _ _ 5 rfl rfl k q r' c' hr hc)
    (fun k q r' c' hr hc => score_block_masked _ _ _ _ x0 x1 x3 x4 _ 768 6 _ _ _ _ _ _ _ _ _ _ _ 6 rfl rfl k q r' c' hr hc)
    (fun k q r' c' hr hc => score_block_masked _ _ _ _ x0 x1 x3 x4 _ 896 7 _ _ _ _ _ _ _ _ _ _ _ 7 rfl rfl k q r' c' hr hc)

theorem max_C : kernelRun0_C.sl.v197 c i arg4 arg5 arg7 arg8 T0 T1 x0 x1 x3 x4 xa0 = maxNew (scores x0 x1 x3 x4 (biasC i T0 T1)) (scM0_0.view.read (Elt Ideal) xa0) := by
  unfold kernelRun0_C.sl.v197 kernelRun0_C.sl.v196 kernelRun0_C.sl.v195
  rw [View.readAt_full, scores_C]
  exact max_step _ _ _ _ _ _

theorem scale_C : kernelRun0_C.sl.v199 c i arg4 arg5 arg7 arg8 T0 T1 x0 x1 x3 x4 xa0
    = scaleOf (scM0_0.view.read (Elt Ideal) xa0) (maxNew (scores x0 x1 x3 x4 (biasC i T0 T1)) (scM0_0.view.read (Elt Ideal) xa0)) := by
  unfold kernelRun0_C.sl.v199 kernelRun0_C.sl.v198
  rw [View.readAt_full, max_C]
  rfl

theorem weights_C : kernelRun0_C.sl.v206 c i arg4 arg5 arg7 arg8 T0 T1 x0 x1 x3 x4 xa0
    = weights (scores x0 x1 x3 x4 (biasC i T0 T1)) (maxNew (scores x0 x1 x3 x4 (biasC i T0 T1)) (scM0_0.view.read (Elt Ideal) xa0)) := by
  unfold kernelRun0_C.sl.v206 kernelRun0_C.sl.v205 kernelRun0_C.sl.v204 kernelRun0_C.sl.v203
  rw [scores_C, max_C]
  exact weights_step _ _ _ _

set_option maxHeartbeats 2000000 in
theorem acc_stored_C : View.canon (kernelRun0_C.sl.HS1_8 c i arg4 arg5 arg6 arg7 arg8 T0 T1 x0 x1 x2 x3 x4 xa0 xa1)
    = accStep (scores x0 x1 x3 x4 (biasC i T0 T1)) x2 (scM0_0.view.read (Elt Ideal) xa0) (scM0_1.view.read (Elt Ideal) xa1) := by
  unfold accStep
  rw [← scale_C c i arg4 arg5 arg7 arg8 T0 T1 x0 x1 x3 x4 xa0, ← weights_C c i arg4 arg5 arg7 arg8 T0 T1 x0 x1 x3 x4 xa0]
  unfold kernelRun0_C.sl.HS1_8
  exact canon_rows _ _ _ _ _ _ _ _ _ _ _ _ _ _ _ _ _ _
    (fun r q R q' hR hq => acc_block _ x2 _ _ _ _ 0 0 _ _ _ _ _ _ 0 rfl rfl r q R q' hR hq (rows_read scM0_1.view xa1 0 _ r q q' R hR hq))
    (fun r q R q' hR hq => acc_block _ x2 _ _ _ _ 80 512 _ _ _ _ _ _ 1 rfl rfl r q R q' hR hq (rows_read scM0_1.view xa1 80 _ r q q' R hR hq))
    (fun r q R q' hR hq => acc_block _ x2 _ _ _ _ 160 1024 _ _ _ _ _ _ 2 rfl rfl r q R q' hR hq (rows_read scM0_1.view xa1 160 _ r q q' R hR hq))
    (fun r q R q' hR hq => acc_block _ x2 _ _ _ _ 240 1536 _ _ _ _ _ _ 3 rfl rfl r q R q' hR hq (rows_read scM0_1.view xa1 240 _ r q q' R hR hq))
    (fun r q R q' hR hq => acc_block _ x2 _ _ _ _ 320 2048 _ _ _ _ _ _ 4 rfl rfl r q R q' hR hq (rows_read scM0_1.view xa1 320 _ r q q' R hR hq))
    (fun r q R q' hR hq => acc_block _ x2 _ _ _ _ 400 2560 _ _ _ _ _ _ 5 rfl rfl r q R q' hR hq (rows_read scM0_1.view xa1 400 _ r q q' R hR hq))
    (fun r q R q' hR hq => acc_block _ x2 _ _ _ _ 480 3072 _ _ _ _ _ _ 6 rfl rfl r q R q' hR hq (rows_read scM0_1.view xa1 480 _ r q q' R hR hq))
    (fun r q R q' hR hq => acc_block _ x2 _ _ _ _ 560 3584 _ _ _ _ _ _ 7 rfl rfl r q R q' hR hq (rows_read scM0_1.view xa1 560 _ r q q' R hR hq))

set_option maxHeartbeats 2000000 in
theorem out_stored_C : View.canon (kernelRun0_C.sl.HO5_1 c i arg4 arg5 arg6 arg7 arg8 T0 T1 x0 x1 x2 x3 x4 xa0 xa1)
    = outBlock (accStep (scores x0 x1 x3 x4 (biasC i T0 T1)) x2 (scM0_0.view.read (Elt Ideal) xa0) (scM0_1.view.read (Elt Ideal) xa1)) := by
  rw [← acc_stored_C c i arg4 arg5 arg6 arg7 arg8 T0 T1 x0 x1 x2 x3 x4 xa0 xa1]
  unfold kernelRun0_C.sl.HO5_1
  rw [View.canon_unit_zero (by funext a; fin_cases a <;> rfl)]
  exact output_block _ _ _ _ _ _ _ _ _ _
    (quotient_block scM0_1.view _ 0 64 _ _ _ 0 rfl rfl)
    (quotient_block scM0_1.view _ 80 144 _ _ _ 1 rfl rfl)
    (quotient_block scM0_1.view _ 160 224 _ _ _ 2 rfl rfl)
    (quotient_block scM0_1.view _ 240 304 _ _ _ 3 rfl rfl)
    (quotient_block scM0_1.view _ 320 384 _ _ _ 4 rfl rfl)
    (quotient_block scM0_1.view _ 400 464 _ _ _ 5 rfl rfl)
    (quotient_block scM0_1.view _ 480 544 _ _ _ 6 rfl rfl)
    (quotient_block scM0_1.view _ 560 624 _ _ _ 7 rfl rfl)

end Cert.Attn.Fox

end
-- ==== Proof.FoxRunD.lean ====
/- The forget-gate branch: the grid points in the middle of a query block's row, away from the diagonal: the scores need no mask and the sums
   are carried over. -/
module

public import proofs.«01_k».proof.Proof.FoxTile
public import proofs.«01_k».proof.Proof.Gen.Kernel2Ideal.Flash.Runs

@[expose] public section

noncomputable section

namespace Cert.Attn.Fox

open Idealize.ShloMosaic Idealize.ShloMosaic.TcCoe Idealize.ShloMosaic.ValueIdx Idealize.SL.Sem Cert.Kernel2Ideal Cert.Kernel2Ideal.Gen

variable (c : Dev nD) (arg4 arg5 : Memref sig .tc .vmem S1x512x1024 .bf16) (arg6 : Memref sig .tc .vmem S1x1x640x512 .bf16)
  (arg7 : Memref sig .tc .vmem S1x8x512 .f32) (arg8 : Memref sig .tc .vmem S1x512x8 .f32)
  (x0 x1 : S1x512x1024.Idx → EReal) (x2 : S1x1x640x512.Idx → EReal) (x3 : S1x8x512.Idx → EReal) (x4 : S1x512x8.Idx → EReal)
  (xa0 : Buf (Elt Ideal) ((c : Thread nD τ).loc cc0_scratch0)) (xa1 : Buf (Elt Ideal) ((c : Thread nD τ).loc cc0_scratch1))

theorem scores_D : kernelRun0_D.sl.v171 arg4 arg5 arg7 arg8 x0 x1 x3 x4 = scores x0 x1 x3 x4 noBias := by
  unfold kernelRun0_D.sl.v171
  rw [readCov_whole]
  unfold kernelRun0_D.sl.HS2_8
  exact canon_cols _ _ _ _ _ _ _ _ _ _ _ _ _ _ _ _ _
    (fun k q r' c' hr hc => score_block _ _ _ _ x0 x1 x3 x4 0 0 _ _ _ _ _ _ _ _ _ _ _ 0 rfl rfl k q r' c' hr hc)
    (fun k q r' c' hr hc => score_block _ _ _ _ x0 x1 x3 x4 128 1 _ _ _ _ _ _ _ _ _ _ _ 1 rfl rfl k q r' c' hr hc)
    (fun k q r' c' hr hc => score_block _ _ _ _ x0 x1 x3 x4 256 2 _ _ _ _ _ _ _ _ _ _ _ 2 rfl rfl k q r' c' hr hc)
    (fun k q r' c' hr hc => score_block _ _ _ _ x0 x1 x3 x4 384 3 _ _ _ _ _ _ _ _ _ _ _ 3 rfl rfl k q r' c' hr hc)
    (fun k q r' c' hr hc => score_block _ _ _ _ x0 x1 x3 x4 512 4 _ _ _ _ _ _ _ _ _ _ _ 4 rfl rfl k q r' c' hr hc)
    (fun k q r' c' hr hc => score_block _ _ _ _ x0 x1 x3 x4 640 5 _ _ _ _ _ _ _ _ _ _ _ 5 rfl rfl k q r' c' hr hc)
    (fun k q r' c' hr hc => score_block _ _ _ _ x0 x1 x3 x4 768 6 _ _ _ _ _ _ _ _ _ _ _ 6 rfl rfl k q r' c' hr hc)
    (fun k q r' c' hr hc => score_block _ _ _ _ x0 x1 x3 x4 896 7 _ _ _ _ _ _ _ _ _ _ _ 7 rfl rfl k q r' c' hr hc)

theorem max_D : kernelRun0_D.sl.v175 c arg4 arg5 arg7 arg8 x0 x1 x3 x4 xa0 = maxNew (scores x0 x1 x3 x4 noBias) (scM0_0.view.read (Elt Ideal) xa0) := by
  unfold kernelRun0_D.sl.v175 kernelRun0_D.sl.v174 kernelRun0_D.sl.v173
  rw [View.readAt_full, scores_D]
  exact max_step _ _ _ _ _ _

theorem scale_D : kernelRun0_D.sl.v177 c arg4 arg5 arg7 arg8 x0 x1 x3 x4 xa0
    = scaleOf (scM0_0.view.read (Elt Ideal) xa0) (maxNew (scores x0 x1 x3 x4 noBias) (scM0_0.view.read (Elt Ideal) xa0)) := by
  unfold kernelRun0_D.sl.v177 kernelRun0_D.sl.v176
  rw [View.readAt_full, max_D]
  rfl

theorem weights_D : kernelRun0_D.sl.v184 c arg4 arg5 arg7 arg8 x0 x1 x3 x4 xa0
    = weights (scores x0 x1 x3 x4 noBias) (maxNew (scores x0 x1 x3 x4 noBias) (scM0_0.view.read (Elt Ideal) xa0)) := by
  unfold kernelRun0_D.sl.v184 kernelRun0_D.sl.v183 kernelRun0_D.sl.v182 kernelRun0_D.sl.v181
  rw [scores_D, max_D]
  exact weights_step _ _ _ _

theorem max_stored_D : View.canon (kernelRun0_D.sl.HS0_1 c arg4 arg5 arg7 arg8 x0 x1 x3 x4 xa0) = maxNew (scores x0 x1 x3 x4 noBias) (scM0_0.view.read (Elt Ideal) xa0) := by
  unfold kernelRun0_D.sl.HS0_1 kernelRun0_D.sl.v180
  rw [shapeCast_self, max_D]
  exact View.canon_unit_zero (by funext a; fin_cases a <;> rfl) _ _

set_option maxHeartbeats 2000000 in
theorem acc_stored_D : View.canon (kernelRun0_D.sl.HS1_8 c arg4 arg5 arg6 arg7 arg8 x0 x1 x2 x3 x4 xa0 xa1)
    = accStep (scores x0 x1 x3 x4 noBias) x2 (scM0_0.view.read (Elt Ideal) xa0) (scM0_1.view.read (Elt Ideal) xa1) := by
  unfold accStep
  rw [← scale_D c arg4 arg5 arg7 arg8 x0 x1 x3 x4 xa0, ← weights_D c arg4 arg5 arg7 arg8 x0 x1 x3 x4 xa0]
  unfold kernelRun0_D.sl.HS1_8
  exact canon_rows _ _ _ _ _ _ _ _ _ _ _ _ _ _ _ _ _ _
    (fun r q R q' hR hq => acc_block _ x2 _ _ _ _ 0 0 _ _ _ _ _ _ 0 rfl rfl r q R q' hR hq (rows_read scM0_1.view xa1 0 _ r q q' R hR hq))
    (fun r q R q' hR hq => acc_block _ x2 _ _ _ _ 80 512 _ _ _ _ _ _ 1 rfl rfl r q R q' hR hq (rows_read scM0_1.view xa1 80 _ r q q' R hR hq))
    (fun r q R q' hR hq => acc_block _ x2 _ _ _ _ 160 1024 _ _ _ _ _ _ 2 rfl rfl r q R q' hR hq (rows_read scM0_1.view xa1 160 _ r q q' R hR hq))
    (fun r q R q' hR hq => acc_block _ x2 _ _ _ _ 240 1536 _ _ _ _ _ _ 3 rfl rfl r q R q' hR hq (rows_read scM0_1.view xa1 240 _ r q q' R hR hq))
    (fun r q R q' hR hq => acc_block _ x2 _ _ _ _ 320 2048 _ _ _ _ _ _ 4 rfl rfl r q R q' hR hq (rows_read scM0_1.view xa1 320 _ r q q' R hR hq))
    (fun r q R q' hR hq => acc_block _ x2 _ _ _ _ 400 2560 _ _ _ _ _ _ 5 rfl rfl r q R q' hR hq (rows_read scM0_1.view xa1 400 _ r q q' R hR hq))
    (fun r q R q' hR hq => acc_block _ x2 _ _ _ _ 480 3072 _ _ _ _ _ _ 6 rfl rfl r q R q' hR hq (rows_read scM0_1.view xa1 480 _ r q q' R hR hq))
    (fun r q R q' hR hq => acc_block _ x2 _ _ _ _ 560 3584 _ _ _ _ _ _ 7 rfl rfl r q R q' hR hq (rows_read scM0_1.view xa1 560 _ r q q' R hR hq))

end Cert.Attn.Fox

end
-- ==== Proof.FoxRuns.lean ====
/- What each kind of grid point leaves in the running maximum, the accumulator and the output block, from the staged
   blocks and from what was there before. -/
module

public import proofs.«01_k».proof.Proof.FoxRunA
public import proofs.«01_k».proof.Proof.FoxRunB
public import proofs.«01_k».proof.Proof.FoxRunC
public import proofs.«01_k».proof.Proof.FoxRunD

@[expose] public section

noncomputable section

namespace Cert.Attn.Fox

open Idealize.ShloMosaic Idealize.ShloMosaic.TcCoe Idealize.ShloMosaic.ValueIdx Idealize.SL.Sem Cert.Kernel2Ideal Cert.Kernel2Ideal.Gen

variable (c : Dev nD) (i : grid0.Coords) (arg4 : Memref sig .tc .vmem S1x512x1024 .bf16) (harg4 : arg4.IsWhole) (arg5 : Memref sig .tc .vmem S1x512x1024 .bf16)
  (harg5 : arg5.IsWhole) (arg6 : Memref sig .tc .vmem S1x1x640x512 .bf16) (harg6 : arg6.IsWhole) (arg7 : Memref sig .tc .vmem S1x8x512 .f32) (harg7 : arg7.IsWhole)
  (arg8 : Memref sig .tc .vmem S1x512x8 .f32) (harg8 : arg8.IsWhole) (arg9 : Memref sig .tc .vmem S1x512x512 .f32) (harg9 : arg9.IsWhole)
  (T0 T1 : S528.Idx → Elt Ideal .i32) (x0 x1 : S1x512x1024.Idx → EReal) (x2 : S1x1x640x512.Idx → EReal) (x3 : S1x8x512.Idx → EReal) (x4 : S1x512x8.Idx → EReal)
  (xa0 : Buf (Elt Ideal) ((c : Thread nD τ).loc cc0_scratch0)) (xa1 : Buf (Elt Ideal) ((c : Thread nD τ).loc cc0_scratch1))

theorem run_max_D (h0) (h1) (h2) (h3) :
    scM0_0.view.read (Elt Ideal) (kernelRun0_D c i arg4 harg4 arg5 harg5 arg6 harg6 arg7 harg7 arg8 harg8 arg9 harg9 T0 T1 x0 x1 x2 x3 x4 xa0 xa1 h0 h1 h2 h3).1
      = maxNew (scores x0 x1 x3 x4 noBias) (scM0_0.view.read (Elt Ideal) xa0) := by
  unfold kernelRun0_D
  dsimp only
  exact (View.read_writes_junk_eq_canon scM0_0.view (kernelRun0_D.sl.HS0_1 c arg4 arg5 arg7 arg8 x0 x1 x3 x4 xa0)).trans (max_stored_D c _ _ _ _ _ _ _ _ _)

theorem run_acc_D (h0) (h1) (h2) (h3) :
    scM0_1.view.read (Elt Ideal) (kernelRun0_D c i arg4 harg4 arg5 harg5 arg6 harg6 arg7 harg7 arg8 harg8 arg9 harg9 T0 T1 x0 x1 x2 x3 x4 xa0 xa1 h0 h1 h2 h3).2.1
      = accStep (scores x0 x1 x3 x4 noBias) x2 (scM0_0.view.read (Elt Ideal) xa0) (scM0_1.view.read (Elt Ideal) xa1) := by
  unfold kernelRun0_D
  dsimp only
  exact (View.read_writes_junk_eq_canon scM0_1.view (kernelRun0_D.sl.HS1_8 c arg4 arg5 arg6 arg7 arg8 x0 x1 x2 x3 x4 xa0 xa1)).trans (acc_stored_D c _ _ _ _ _ _ _ _ _ _ _ _)

theorem run_max_B (h0) (h1) (h2) (h3) :
    scM0_0.view.read (Elt Ideal) (kernelRun0_B c i arg4 harg4 arg5 harg5 arg6 harg6 arg7 harg7 arg8 harg8 arg9 harg9 T0 T1 x0 x1 x2 x3 x4 h0 h1 h2 h3).1
      = maxNew (scores x0 x1 x3 x4 noBias) noMax := by
  unfold kernelRun0_B
  dsimp only
  exact (View.read_writes_junk_eq_canon scM0_0.view (kernelRun0_B.sl.HS0_2 arg4 arg5 arg7 arg8 x0 x1 x3 x4)).trans (max_stored_B _ _ _ _ _ _ _ _)

theorem run_acc_B (h0) (h1) (h2) (h3) :
    scM0_1.view.read (Elt Ideal) (kernelRun0_B c i arg4 harg4 arg5 harg5 arg6 harg6 arg7 harg7 arg8 harg8 arg9 harg9 T0 T1 x0 x1 x2 x3 x4 h0 h1 h2 h3).2.1
      = accStep (scores x0 x1 x3 x4 noBias) x2 noMax noAcc := by
  unfold kernelRun0_B
  dsimp only
  exact (View.read_writes_junk_eq_canon scM0_1.view (kernelRun0_B.sl.HS1_9 arg4 arg5 arg6 arg7 arg8 x0 x1 x2 x3 x4)).trans (acc_stored_B _ _ _ _ _ _ _ _ _ _)

theorem run_out_A (h0) (h1) (h2) (h3) :
    out0_A_5 c i arg4 harg4 arg5 harg5 arg6 harg6 arg7 harg7 arg8 harg8 arg9 harg9 T0 T1 x0 x1 x2 x3 x4 h0 h1 h2 h3
      = outBlock (accStep (scores x0 x1 x3 x4 (biasA i T0 T1)) x2 noMax noAcc) := by
  unfold out0_A_5 kernelRun0_A
  exact (View.read_writes_junk_eq_canon _ _).trans (out_stored_A _ _ _ _ _ _ _ _ _ _ _ _ _)

theorem run_out_C (h0) (h1) (h2) (h3) :
    out0_C_5 c i arg4 harg4 arg5 harg5 arg6 harg6 arg7 harg7 arg8 harg8 arg9 harg9 T0 T1 x0 x1 x2 x3 x4 xa0 xa1 h0 h1 h2 h3
      = outBlock (accStep (scores x0 x1 x3 x4 (biasC i T0 T1)) x2 (scM0_0.view.read (Elt Ideal) xa0) (scM0_1.view.read (Elt Ideal) xa1)) := by
  unfold out0_C_5 kernelRun0_C
  exact (View.read_writes_junk_eq_canon _ _).trans (out_stored_C c _ _ _ _ _ _ _ _ _ _ _ _ _ _ _)

end Cert.Attn.Fox

end
-- ==== Proof.FoxSteps.lean ====
/- What one grid point does to the running maximum, the accumulator and the output block, by the four kinds of grid
   points. -/
module

public import proofs.«01_k».proof.Proof.FoxRuns
public import proofs.«01_k».proof.Proof.Gen.Kernel2Ideal.Flash

@[expose] public section

noncomputable section

namespace Cert.Attn.Fox

open Idealize.ShloMosaic Idealize.ShloMosaic.TcCoe Idealize.ShloMosaic.ValueIdx Idealize.SL.Sem Cert.Kernel2Ideal Cert.Kernel2Ideal.Gen

variable (ch : Fin 1) (m : (ℓ : Loc nD τ sig) → Buf (Elt Ideal) ℓ) (ρ : Dev nD → PrngReg) (c : Dev nD)

/-- The blocks of queries, keys, values and biases that grid point `t` works on. -/
def Xq (t : Fin (cfgA ch).N) : S1x512x1024.Idx → EReal := iblk ch m ρ c (0 : Fin 6) t
def Xk (t : Fin (cfgA ch).N) : S1x512x1024.Idx → EReal := iblk ch m ρ c (1 : Fin 6) t
def Xv (t : Fin (cfgA ch).N) : S1x1x640x512.Idx → EReal := iblk ch m ρ c (2 : Fin 6) t
def Xqb (t : Fin (cfgA ch).N) : S1x8x512.Idx → EReal := iblk ch m ρ c (3 : Fin 6) t
def Xkb (t : Fin (cfgA ch).N) : S1x512x8.Idx → EReal := iblk ch m ρ c (4 : Fin 6) t

/-- The running maximum and the accumulator in a state of the buffers. -/
abbrev State : Type := (S1x512x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
def maxOf (s : State c) : S1x4096.Idx → EReal := scM0_0.view.read (Elt Ideal) s.2.1
def accOf (s : State c) : S640x512.Idx → EReal := scM0_1.view.read (Elt Ideal) s.2.2.1

theorem max_at_B (t : Fin (cfgA ch).N) (q0 : P0_0 ch t) (q1 : P0_1 ch t) :
    maxOf c (traj0 ch m ρ c t.val t.isLt) = maxNew (scores (Xq ch m ρ c t) (Xk ch m ρ c t) (Xqb ch m ρ c t) (Xkb ch m ρ c t) noBias) noMax := by
  rw [traj0_eq, step0_B ch m ρ c t _ q0 q1]
  unfold maxOf
  dsimp only
  exact run_max_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch)
    (iblk ch m ρ c (0 : Fin 6) t) (iblk ch m ρ c (1 : Fin 6) t) (iblk ch m ρ c (2 : Fin 6) t) (iblk ch m ρ c (3 : Fin 6) t) (iblk ch m ρ c (4 : Fin 6) t) _ _ _ _

theorem acc_at_B (t : Fin (cfgA ch).N) (q0 : P0_0 ch t) (q1 : P0_1 ch t) :
    accOf c (traj0 ch m ρ c t.val t.isLt) = accStep (scores (Xq ch m ρ c t) (Xk ch m ρ c t) (Xqb ch m ρ c t) (Xkb ch m ρ c t) noBias) (Xv ch m ρ c t) noMax noAcc := by
  rw [traj0_eq, step0_B ch m ρ c t _ q0 q1]
  unfold accOf
  dsimp only
  exact run_acc_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch)
    (iblk ch m ρ c (0 : Fin 6) t) (iblk ch m ρ c (1 : Fin 6) t) (iblk ch m ρ c (2 : Fin 6) t) (iblk ch m ρ c (3 : Fin 6) t) (iblk ch m ρ c (4 : Fin 6) t) _ _ _ _

theorem max_at_D (t : Fin (cfgA ch).N) (q0 : ¬P0_0 ch t) (q1 : P0_1 ch t) :
    maxOf c (traj0 ch m ρ c t.val t.isLt)
      = maxNew (scores (Xq ch m ρ c t) (Xk ch m ρ c t) (Xqb ch m ρ c t) (Xkb ch m ρ c t) noBias) (maxOf c (prev0 ch m ρ c t)) := by
  rw [traj0_eq, step0_D ch m ρ c t _ q0 q1]
  generalize prev0 ch m ρ c t = p
  unfold maxOf
  dsimp only
  exact run_max_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch)
    (iblk ch m ρ c (0 : Fin 6) t) (iblk ch m ρ c (1 : Fin 6) t) (iblk ch m ρ c (2 : Fin 6) t) (iblk ch m ρ c (3 : Fin 6) t) (iblk ch m ρ c (4 : Fin 6) t) p.2.1 p.2.2.1 _ _ _ _

theorem acc_at_D (t : Fin (cfgA ch).N) (q0 : ¬P0_0 ch t) (q1 : P0_1 ch t) :
    accOf c (traj0 ch m ρ c t.val t.isLt)
      = accStep (scores (Xq ch m ρ c t) (Xk ch m ρ c t) (Xqb ch m ρ c t) (Xkb ch m ρ c t) noBias) (Xv ch m ρ c t) (maxOf c (prev0 ch m ρ c t)) (accOf c (prev0 ch m ρ c t)) := by
  rw [traj0_eq, step0_D ch m ρ c t _ q0 q1]
  generalize prev0 ch m ρ c t = p
  unfold accOf
  dsimp only
  exact run_acc_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch)
    (iblk ch m ρ c (0 : Fin 6) t) (iblk ch m ρ c (1 : Fin 6) t) (iblk ch m ρ c (2 : Fin 6) t) (iblk ch m ρ c (3 : Fin 6) t) (iblk ch m ρ c (4 : Fin 6) t) p.2.1 p.2.2.1 _ _ _ _

theorem out_at_A (t : Fin (cfgA ch).N) (q0 : P0_0 ch t) (q1 : ¬P0_1 ch t) :
    (traj0 ch m ρ c t.val t.isLt).1 = outBlock (accStep (scores (Xq ch m ρ c t) (Xk ch m ρ c t) (Xqb ch m ρ c t) (Xkb ch m ρ c t) (biasA (crd ch t) (pinT_0 ch) (pinT_1 ch))) (Xv ch m ρ c t) noMax noAcc) := by
  rw [traj0_eq, step0_A ch m ρ c t _ q0 q1]
  dsimp only
  exact run_out_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch)
    (iblk ch m ρ c (0 : Fin 6) t) (iblk ch m ρ c (1 : Fin 6) t) (iblk ch m ρ c (2 : Fin 6) t) (iblk ch m ρ c (3 : Fin 6) t) (iblk ch m ρ c (4 : Fin 6) t) _ _ _ _

theorem out_at_C (t : Fin (cfgA ch).N) (q0 : ¬P0_0 ch t) (q1 : ¬P0_1 ch t) :
    (traj0 ch m ρ c t.val t.isLt).1 = outBlock (accStep (scores (Xq ch m ρ c t) (Xk ch m ρ c t) (Xqb ch m ρ c t) (Xkb ch m ρ c t) (biasC (crd ch t) (pinT_0 ch) (pinT_1 ch))) (Xv ch m ρ c t)
      (maxOf c (prev0 ch m ρ c t)) (accOf c (prev0 ch m ρ c t))) := by
  rw [traj0_eq, step0_C ch m ρ c t _ q0 q1]
  generalize prev0 ch m ρ c t = p
  dsimp only
  exact run_out_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch)
    (iblk ch m ρ c (0 : Fin 6) t) (iblk ch m ρ c (1 : Fin 6) t) (iblk ch m ρ c (2 : Fin 6) t) (iblk ch m ρ c (3 : Fin 6) t) (iblk ch m ρ c (4 : Fin 6) t) p.2.1 p.2.2.1 _ _ _ _

end Cert.Attn.Fox

end
-- ==== Proof.FoxBlocks.lean ====
/- The forget-gate branch: the blocks of queries, keys, values and biases a grid point works on, as parts of the arrays they are cut from. -/
module

public import proofs.«01_k».proof.Proof.FoxPoints
public import proofs.«01_k».proof.Proof.Softmax
public import proofs.«01_k».proof.Proof.FoxSteps

@[expose] public section

noncomputable section

namespace Cert.Attn.Fox

open Idealize.ShloMosaic Idealize.ShloMosaic.TcCoe Idealize.ShloMosaic.ValueIdx Idealize.SL.Sem Cert.Kernel2Ideal Cert.Kernel2Ideal.Gen
open Idealize.ShloMosaic.Pipeline

variable (m : (ℓ : Loc nD τ sig) → Buf (Elt Ideal) ℓ) (ρ : Dev nD → PrngReg) (c : Dev nD)

/-- The arrays of queries, keys and (transposed) values. -/
def qArr : S2x16384x1024.Idx → EReal := m ((c : Thread nD τ).loc main_arg2)
def kArr : S2x16384x1024.Idx → EReal := m ((c : Thread nD τ).loc main_arg3)
def vArr : S2x32x640x512.Idx → EReal := m ((c : Thread nD τ).loc main_arg4)

/-- The arrays of biases: one per query and one per key, by head. -/
def qbArr : S2x8x16384.Idx → EReal := m ((c : Thread nD τ).loc main_arg5)
def kbArr : S2x16384x8.Idx → EReal := m ((c : Thread nD τ).loc main_arg6)

/-- A grid point's batch, block of queries, block of keys. -/
def bat (t : Fin (cfgA c0).N) : Fin 2 := ⟨t.val / 528, by have h : t.val < 1056 := t.isLt; omega⟩
def qBlk (t : Fin (cfgA c0).N) : Fin 32 := ⟨(qWord t).toNat, (at_point t).2.1⟩
def kBlk (t : Fin (cfgA c0).N) : Fin 32 := ⟨(kWord t).toNat, lt_of_le_of_lt (at_point t).1 (at_point t).2.1⟩

theorem Xq_apply (t : Fin (cfgA c0).N) (r : Fin 512) (l : Fin 1024) :
    Xq c0 m ρ c t (ix3 0 r l) = qArr m c (ix3 (bat t) (pos (qBlk t) r) l) := by
  have e : ∀ a : Fin 3, ((cfgA c0).win (0 : Fin 6)).index t a = (![t.val / 528, (qWord t).toNat, 0] : Fin 3 → Nat) a := (at_point t).2.2.2.2.1
  have e0 : ((cfgA c0).win (0 : Fin 6)).index t (0 : Fin 3) = t.val / 528 := e 0
  have e1 : ((cfgA c0).win (0 : Fin 6)).index t (1 : Fin 3) = (qWord t).toNat := e 1
  have e2 : ((cfgA c0).win (0 : Fin 6)).index t (2 : Fin 3) = 0 := e 2
  unfold Xq iblk qArr
  show m ((c : Thread nD τ).loc main_arg2) ((((cfgA c0).win (0 : Fin 6)).blk t).view.emb (ix3 0 r l)) = _
  refine congrArg (m ((c : Thread nD τ).loc main_arg2)) ?_
  funext a
  apply Fin.ext
  fin_cases a
  · blk_simp; exact e0
  · blk_simp
    refine (congrArg (fun n => n * 512 + r.val) e1).trans ?_
    show (qWord t).toNat * 512 + r.val = 512 * (qWord t).toNat + r.val
    omega
  · blk_simp
    refine (congrArg (fun n => n * 1024 + l.val) e2).trans ?_
    show 0 * 1024 + l.val = l.val
    omega

theorem Xk_apply (t : Fin (cfgA c0).N) (r : Fin 512) (l : Fin 1024) :
    Xk c0 m ρ c t (ix3 0 r l) = kArr m c (ix3 (bat t) (pos (kBlk t) r) l) := by
  have e : ∀ a : Fin 3, ((cfgA c0).win (1 : Fin 6)).index t a = (![t.val / 528, (kWord t).toNat, 0] : Fin 3 → Nat) a := (at_point t).2.2.2.2.2.1
  have e0 : ((cfgA c0).win (1 : Fin 6)).index t (0 : Fin 3) = t.val / 528 := e 0
  have e1 : ((cfgA c0).win (1 : Fin 6)).index t (1 : Fin 3) = (kWord t).toNat := e 1
  have e2 : ((cfgA c0).win (1 : Fin 6)).index t (2 : Fin 3) = 0 := e 2
  unfold Xk iblk kArr
  show m ((c : Thread nD τ).loc main_arg3) ((((cfgA c0).win (1 : Fin 6)).blk t).view.emb (ix3 0 r l)) = _
  refine congrArg (m ((c : Thread nD τ).loc main_arg3)) ?_
  funext a
  apply Fin.ext
  fin_cases a
  · blk_simp; exact e0
  · blk_simp
    refine (congrArg (fun n => n * 512 + r.val) e1).trans ?_
    show (kWord t).toNat * 512 + r.val = 512 * (kWord t).toNat + r.val
    omega
  · blk_simp
    refine (congrArg (fun n => n * 1024 + l.val) e2).trans ?_
    show 0 * 1024 + l.val = l.val
    omega

theorem Xv_apply (t : Fin (cfgA c0).N) (R : Fin 640) (k : Fin 512) :
    Xv c0 m ρ c t (ix4 0 0 R k) = vArr m c (ix4 (bat t) (kBlk t) R k) := by
  have e : ∀ a : Fin 4, ((cfgA c0).win (2 : Fin 6)).index t a = (![t.val / 528, (kWord t).toNat, 0, 0] : Fin 4 → Nat) a := (at_point t).2.2.2.2.2.2.1
  have e0 : ((cfgA c0).win (2 : Fin 6)).index t (0 : Fin 4) = t.val / 528 := e 0
  have e1 : ((cfgA c0).win (2 : Fin 6)).index t (1 : Fin 4) = (kWord t).toNat := e 1
  have e2 : ((cfgA c0).win (2 : Fin 6)).index t (2 : Fin 4) = 0 := e 2
  have e3 : ((cfgA c0).win (2 : Fin 6)).index t (3 : Fin 4) = 0 := e 3
  unfold Xv iblk vArr
  show m ((c : Thread nD τ).loc main_arg4) ((((cfgA c0).win (2 : Fin 6)).blk t).view.emb (ix4 0 0 R k)) = _
  refine congrArg (m ((c : Thread nD τ).loc main_arg4)) ?_
  funext a
  apply Fin.ext
  fin_cases a
  · blk_simp; exact e0
  · blk_simp; exact e1
  · blk_simp
    refine (congrArg (fun n => n * 640 + R.val) e2).trans ?_
    show 0 * 640 + R.val = R.val
    omega
  · blk_simp
    refine (congrArg (fun n => n * 512 + k.val) e3).trans ?_
    show 0 * 512 + k.val = k.val
    omega

theorem Xqb_apply (t : Fin (cfgA c0).N) (h : Fin 8) (q : Fin 512) :
    Xqb c0 m ρ c t (ix3 0 h q) = qbArr m c (ix3 (bat t) h (pos (qBlk t) q)) := by
  have e : ∀ a : Fin 3, ((cfgA c0).win (3 : Fin 6)).index t a = (![t.val / 528, 0, (qWord t).toNat] : Fin 3 → Nat) a := (at_point t).2.2.2.2.2.2.2.1
  have e0 : ((cfgA c0).win (3 : Fin 6)).index t (0 : Fin 3) = t.val / 528 := e 0
  have e1 : ((cfgA c0).win (3 : Fin 6)).index t (1 : Fin 3) = 0 := e 1
  have e2 : ((cfgA c0).win (3 : Fin 6)).index t (2 : Fin 3) = (qWord t).toNat := e 2
  unfold Xqb iblk qbArr
  show m ((c : Thread nD τ).loc main_arg5) ((((cfgA c0).win (3 : Fin 6)).blk t).view.emb (ix3 0 h q)) = _
  refine congrArg (m ((c : Thread nD τ).loc main_arg5)) ?_
  funext a
  apply Fin.ext
  fin_cases a
  · blk_simp; exact e0
  · blk_simp
    refine (congrArg (fun n => n * 8 + h.val) e1).trans ?_
    show 0 * 8 + h.val = h.val
    omega
  · blk_simp
    refine (congrArg (fun n => n * 512 + q.val) e2).trans ?_
    show (qWord t).toNat * 512 + q.val = 512 * (qWord t).toNat + q.val
    omega

theorem Xkb_apply (t : Fin (cfgA c0).N) (k : Fin 512) (h : Fin 8) :
    Xkb c0 m ρ c t (ix3 0 k h) = kbArr m c (ix3 (bat t) (pos (kBlk t) k) h) := by
  have e : ∀ a : Fin 3, ((cfgA c0).win (4 : Fin 6)).index t a = (![t.val / 528, (kWord t).toNat, 0] : Fin 3 → Nat) a := (at_point t).2.2.2.2.2.2.2.2.1
  have e0 : ((cfgA c0).win (4 : Fin 6)).index t (0 : Fin 3) = t.val / 528 := e 0
  have e1 : ((cfgA c0).win (4 : Fin 6)).index t (1 : Fin 3) = (kWord t).toNat := e 1
  have e2 : ((cfgA c0).win (4 : Fin 6)).index t (2 : Fin 3) = 0 := e 2
  unfold Xkb iblk kbArr
  show m ((c : Thread nD τ).loc main_arg6) ((((cfgA c0).win (4 : Fin 6)).blk t).view.emb (ix3 0 k h)) = _
  refine congrArg (m ((c : Thread nD τ).loc main_arg6)) ?_
  funext a
  apply Fin.ext
  fin_cases a
  · blk_simp; exact e0
  · blk_simp
    refine (congrArg (fun n => n * 512 + k.val) e1).trans ?_
    show (kWord t).toNat * 512 + k.val = 512 * (kWord t).toNat + k.val
    omega
  · blk_simp
    refine (congrArg (fun n => n * 8 + h.val) e2).trans ?_
    show 0 * 8 + h.val = h.val
    omega

/-- Where an element of a grid point's output block lands. -/
theorem out_emb (t : Fin (cfgA c0).N) (r l : Fin 512) :
    (((cfgA c0).win (5 : Fin 6)).blk t).view.emb (ix3 0 r l) = ix3 (bat t) (pos (qBlk t) r) l := by
  have e : ∀ a : Fin 3, ((cfgA c0).win (5 : Fin 6)).index t a = (![t.val / 528, (qWord t).toNat, 0] : Fin 3 → Nat) a := (at_point t).2.2.2.2.2.2.2.2.2.1
  have e0 : ((cfgA c0).win (5 : Fin 6)).index t (0 : Fin 3) = t.val / 528 := e 0
  have e1 : ((cfgA c0).win (5 : Fin 6)).index t (1 : Fin 3) = (qWord t).toNat := e 1
  have e2 : ((cfgA c0).win (5 : Fin 6)).index t (2 : Fin 3) = 0 := e 2
  funext a
  apply Fin.ext
  fin_cases a
  · blk_simp; exact e0
  · blk_simp
    refine (congrArg (fun n => n * 512 + r.val) e1).trans ?_
    show (qWord t).toNat * 512 + r.val = 512 * (qWord t).toNat + r.val
    omega
  · blk_simp
    refine (congrArg (fun n => n * 512 + l.val) e2).trans ?_
    show 0 * 512 + l.val = l.val
    omega

end Cert.Attn.Fox

end
-- ==== Proof.FoxMask.lean ====
/- The forget-gate branch's mask: a query sees its own position and the positions before it. -/
module

public import proofs.«01_k».proof.Proof.FoxBlocks
public import proofs.«01_k».proof.Proof.Mask

@[expose] public section

noncomputable section

namespace Cert.Attn.Fox

open Idealize.ShloMosaic Idealize.ShloMosaic.TcCoe Idealize.ShloMosaic.ValueIdx Idealize.SL.Sem Cert.Kernel2Ideal Cert.Kernel2Ideal.Gen

/-- Key `k` is seen by query `q`. -/
abbrev Sees (q k : Fin 16384) : Prop := k.val ≤ q.val

/-- The bias of the masked path: nothing where the query sees the key, −∞ elsewhere. -/
theorem bias_apply (v5 v6 : BitVec 32) (I J : Fin 32) (h5 : v5.toNat = 512 * I.val) (h6 : v6.toNat = 512 * J.val) (k q : Fin 512) :
    k0_pay29 (F := Ideal) v5 v6 (ix2 k q) = if Sees (pos I q) (pos J k) then (0 : EReal) else ⊥ := by
  have hk : (v6 + BitVec.ofNat 32 k.val).toNat = 512 * J.val + k.val := by
    rw [BitVec.toNat_add, h6, BitVec.toNat_ofNat]; omega
  have hq : (v5 + BitVec.ofNat 32 q.val).toNat = 512 * I.val + q.val := by
    rw [BitVec.toNat_add, h5, BitVec.toNat_ofNat]; omega
  have hsle : IntOp.cmpi .sle (v6 + BitVec.ofNat 32 k.val) (v5 + BitVec.ofNat 32 q.val)
      = if (512 * J.val + k.val) ≤ 512 * I.val + q.val then 1#1 else 0#1 := by
    rw [sle_small _ _ (by omega) (by omega), hk, hq]
  have hslt : IntOp.cmpi .slt (v6 + BitVec.ofNat 32 k.val) 16384#32 = 1#1 := by
    have : (16384#32).toNat = 16384 := rfl
    exact slt_small _ _ (by omega) (by omega) (by omega)
  have e0 : iota .tc S512x512 32 [0] iota_S512x512_d0_w32 (ix2 k q) = BitVec.ofNat 32 k.val := iota_single_apply _ _ _ _ _ _
  have e1 : iota .tc S512x512 32 [1] iota_S512x512_d1_w32 (ix2 k q) = BitVec.ofNat 32 q.val := iota_single_apply _ _ _ _ _ _
  have hn : (Named.named (F := Ideal) (φ := .f32) κ "neg" 0xF149F2CA#32 : EReal) = ⊥ := neg_bot
  show (if IntOp.cmpi .sle (v6 + iota .tc S512x512 32 [0] iota_S512x512_d0_w32 (ix2 k q)) (v5 + iota .tc S512x512 32 [1] iota_S512x512_d1_w32 (ix2 k q)) = 1#1 then
      (if IntOp.cmpi .slt (v6 + iota .tc S512x512 32 [0] iota_S512x512_d0_w32 (ix2 k q)) 16384#32 = 1#1 then (Ideal.ofBits .f32 0x00000000#32 : EReal)
        else Named.named (F := Ideal) (φ := .f32) κ "neg" 0xF149F2CA#32) else Named.named (F := Ideal) (φ := .f32) κ "neg" 0xF149F2CA#32) = _
  rw [e0, e1, hn]
  rw [hsle, hslt]
  have hz : (Ideal.ofBits .f32 0x00000000#32 : EReal) = 0 := by simp [Ideal.ofBits, Ideal.ieee]
  by_cases h : Sees (pos I q) (pos J k)
  · have : (512 * J.val + k.val) ≤ 512 * I.val + q.val := h
    rw [if_pos h, if_pos this, if_pos rfl, if_pos rfl, hz]
  · have : ¬ (512 * J.val + k.val) ≤ 512 * I.val + q.val := h
    rw [if_neg h, if_neg this, if_neg (by decide)]

theorem biasA_apply (t : Fin (cfgA c0).N) (k q : Fin 512) :
    biasA (crd c0 t) (pinT_0 c0) (pinT_1 c0) k q = if Sees (pos (qBlk t) q) (pos (kBlk t) k) then (0 : EReal) else ⊥ := by
  unfold biasA
  refine bias_apply _ _ (qBlk t) (kBlk t) ?_ ?_ k q
  · show (qWord t * 512#32 + 0#32).toNat = _
    rw [BitVec.add_zero]
    exact mul_block _ _ rfl (qBlk t).isLt
  · exact mul_block (kWord t) _ rfl (kBlk t).isLt

theorem biasC_apply (t : Fin (cfgA c0).N) (k q : Fin 512) :
    biasC (crd c0 t) (pinT_0 c0) (pinT_1 c0) k q = if Sees (pos (qBlk t) q) (pos (kBlk t) k) then (0 : EReal) else ⊥ := by
  unfold biasC
  refine bias_apply _ _ (qBlk t) (kBlk t) ?_ ?_ k q
  · show (qWord t * 512#32 + 0#32).toNat = _
    rw [BitVec.add_zero]
    exact mul_block _ _ rfl (qBlk t).isLt
  · exact mul_block (kWord t) _ rfl (kBlk t).isLt

end Cert.Attn.Fox

end
-- ==== Proof.FoxRows.lean ====
/- The forget-gate branch's rows of tiles: after the key blocks 0 … j of a query block, the running maximum and the accumulator hold the softmax's
   state over those keys; the last tile of the row leaves the attention in the output block. -/
module

public import proofs.«01_k».proof.Proof.FoxMask
public import proofs.«01_k».proof.Proof.Rows

@[expose] public section

noncomputable section

namespace Cert.Attn.Fox

open Idealize.ShloMosaic Idealize.ShloMosaic.TcCoe Idealize.ShloMosaic.ValueIdx Idealize.SL.Sem Cert.Kernel2Ideal Cert.Kernel2Ideal.Gen

/-- The masked scores of a query: the products, the query's bias added and the key's subtracted. -/
def masked (Q K : S2x16384x1024.Idx → EReal) (qb : S2x8x16384.Idx → EReal) (kb : S2x16384x8.Idx → EReal)
    (b : Fin 2) (p : Fin 16384) (h : Fin 8) : Fin 16384 → EReal :=
  fun k => if Sees p k then dotQK Q K b p h k + (qb (ix3 b h p) - kb (ix3 b k h)) else ⊥

variable (m : (ℓ : Loc nD τ sig) → Buf (Elt Ideal) ℓ) (ρ : Dev nD → PrngReg) (c : Dev nD)

/-- The scores of the columns of a grid point's score tile: each column is one query of one head. -/
def colScores (b : Fin 2) (i : Fin 32) (x : Fin 4096) : Fin 16384 → EReal :=
  masked (qArr m c) (kArr m c) (qbArr m c) (kbArr m c) b (pos i (colQuery x)) (colHead x)

/-- A grid point's products of keys and queries. -/
theorem score_at (t : Fin (cfgA c0).N) (h : Fin 8) (k q : Fin 512) :
    score (Xq c0 m ρ c t) (Xk c0 m ρ c t) h k q = dotQK (qArr m c) (kArr m c) (bat t) (pos (qBlk t) q) h (pos (kBlk t) k) := by
  unfold score dotQK
  refine Finset.sum_congr rfl fun d _ => ?_
  rw [Xq_apply, Xk_apply]

/-- A grid point's biases. -/
theorem gate_at (t : Fin (cfgA c0).N) (h : Fin 8) (k q : Fin 512) :
    gate (Xqb c0 m ρ c t) (Xkb c0 m ρ c t) h k q
      = qbArr m c (ix3 (bat t) h (pos (qBlk t) q)) - kbArr m c (ix3 (bat t) (pos (kBlk t) k) h) := by
  unfold gate
  rw [Xqb_apply, Xkb_apply]

/-- The tile with the mask. -/
theorem masked_tile (t : Fin (cfgA c0).N) (bias : Fin 512 → Fin 512 → EReal)
    (hb : ∀ k q, bias k q = if Sees (pos (qBlk t) q) (pos (kBlk t) k) then (0 : EReal) else ⊥) (k : Fin 512) (x : Fin 4096) :
    scores (Xq c0 m ρ c t) (Xk c0 m ρ c t) (Xqb c0 m ρ c t) (Xkb c0 m ρ c t) bias (ix2 k x) = colScores m c (bat t) (qBlk t) x (pos (kBlk t) k) := by
  show score (Xq c0 m ρ c t) (Xk c0 m ρ c t) (colHead x) k (colQuery x) + gate (Xqb c0 m ρ c t) (Xkb c0 m ρ c t) (colHead x) k (colQuery x) + bias k (colQuery x) = _
  rw [score_at, gate_at, hb]
  unfold colScores masked
  by_cases h : Sees (pos (qBlk t) (colQuery x)) (pos (kBlk t) k)
  · rw [if_pos h, if_pos h, add_zero]
  · rw [if_neg h, if_neg h, EReal.add_bot]

/-- The tile without a mask, whose keys all come before its queries. -/
theorem clear_tile (t : Fin (cfgA c0).N) (hlt : (kBlk t).val < (qBlk t).val) (k : Fin 512) (x : Fin 4096) :
    scores (Xq c0 m ρ c t) (Xk c0 m ρ c t) (Xqb c0 m ρ c t) (Xkb c0 m ρ c t) noBias (ix2 k x) = colScores m c (bat t) (qBlk t) x (pos (kBlk t) k) := by
  refine masked_tile m ρ c t noBias (fun k q => ?_) k x
  have h : Sees (pos (qBlk t) q) (pos (kBlk t) k) := by
    show 512 * (kBlk t).val + k.val ≤ 512 * (qBlk t).val + q.val
    omega
  rw [if_pos h]; rfl

theorem values_at (t : Fin (cfgA c0).N) (R : Fin 640) (k : Fin 512) :
    Xv c0 m ρ c t (ix4 0 0 R k) = values (vArr m c) (bat t) R (pos (kBlk t) k) := by
  rw [Xv_apply, values_pos]

/-- No column's score is +∞. -/
abbrev Tame : Prop := ∀ b i x k, colScores m c b i x k ≠ ⊤

/-- The state a grid point's row of tiles has reached after the first `n` key blocks. -/
abbrev topState (b : Fin 2) (i : Fin 32) (n : Nat) : S1x4096.Idx → EReal := fun y => topOf (colScores m c b i (y 1)) n
abbrev sumState (b : Fin 2) (i : Fin 32) (n : Nat) : S640x512.Idx → EReal :=
  fun y => sumOf (colScores m c b i (colOf (y 0) (y 1))) (values (vArr m c) b (y 0)) n

/-- The state before a grid point that is not the first of its row is the state after the point before it. -/
theorem prev_is (t : Fin (cfgA c0).N) (h : t.val ≠ 0) : prev0 c0 m ρ c t = traj0 c0 m ρ c (before t).val (before t).isLt := by
  unfold prev0; rw [dif_neg h]

/-- The running maximum and the accumulator along a row. -/
theorem row_state (hT : Tame m c) : ∀ (n : Nat) (t : Fin (cfgA c0).N), t.val = n → (kBlk t).val < (qBlk t).val →
    maxOf c (traj0 c0 m ρ c t.val t.isLt) = topState m c (bat t) (qBlk t) ((kBlk t).val + 1)
      ∧ accOf c (traj0 c0 m ρ c t.val t.isLt) = sumState m c (bat t) (qBlk t) ((kBlk t).val + 1) := by
  intro n
  induction n using Nat.strong_induction_on with
  | _ n ih =>
    intro t htn hlt
    obtain ⟨-, -, h0, h1, -, -, -, -, -, -, hprev⟩ := at_point t
    have q1 : P0_1 c0 t := h1.mpr hlt
    by_cases hz : (kWord t).toNat = 0
    · have hz' : (kBlk t).val = 0 := hz
      have q0 : P0_0 c0 t := h0.mpr hz
      have e1 := tile_max (colScores m c (bat t) (qBlk t)) (kBlk t) _ (clear_tile m ρ c t hlt)
      have e2 := tile_acc (colScores m c (bat t) (qBlk t)) (hT _ _) (values (vArr m c) (bat t)) (kBlk t) _ _ (clear_tile m ρ c t hlt) (values_at m ρ c t)
      rw [hz', ← noMax_top] at e1
      rw [hz', ← noMax_top, ← noAcc_sum] at e2
      rw [max_at_B c0 m ρ c t q0 q1, acc_at_B c0 m ρ c t q0 q1, hz']
      exact ⟨e1, e2⟩
    · have q0 : ¬P0_0 c0 t := fun h => hz (h0.mp h)
      obtain ⟨ht, hbat, hq, hk⟩ := hprev hz
      have hb : bat (before t) = bat t := Fin.ext hbat
      have hqb : qBlk (before t) = qBlk t := Fin.ext hq
      have hkb : (kBlk (before t)).val + 1 = (kBlk t).val := hk
      obtain ⟨i1, i2⟩ := ih (before t).val (by show t.val - 1 < n; omega) (before t) rfl (by rw [hqb]; omega)
      rw [hb, hqb, hkb] at i1 i2
      rw [max_at_D c0 m ρ c t q0 q1, acc_at_D c0 m ρ c t q0 q1, prev_is m ρ c t ht, i1, i2]
      exact ⟨tile_max (colScores m c (bat t) (qBlk t)) (kBlk t) _ (clear_tile m ρ c t hlt),
        tile_acc (colScores m c (bat t) (qBlk t)) (hT _ _) (values (vArr m c) (bat t)) (kBlk t) _ _ (clear_tile m ρ c t hlt) (values_at m ρ c t)⟩

/-- The output block the last tile of a row leaves. -/
theorem row_output (hT : Tame m c) (t : Fin (cfgA c0).N) (hd : ¬ P0_1 c0 t) :
    (kBlk t).val = (qBlk t).val ∧
    (traj0 c0 m ρ c t.val t.isLt).1 = outBlock (sumState m c (bat t) (qBlk t) ((qBlk t).val + 1)) := by
  obtain ⟨hle, -, h0, h1, -, -, -, -, -, -, hprev⟩ := at_point t
  have hge : ¬ (kWord t).toNat < (qWord t).toNat := fun h => hd (h1.mpr h)
  have hkq : (kBlk t).val = (qBlk t).val := by
    show (kWord t).toNat = (qWord t).toNat
    omega
  refine ⟨hkq, ?_⟩
  rw [← hkq]
  by_cases hz : (kWord t).toNat = 0
  · have hz' : (kBlk t).val = 0 := hz
    have q0 : P0_0 c0 t := h0.mpr hz
    have e2 := tile_acc (colScores m c (bat t) (qBlk t)) (hT _ _) (values (vArr m c) (bat t)) (kBlk t) _ _
      (masked_tile m ρ c t _ (biasA_apply t)) (values_at m ρ c t)
    rw [hz', ← noMax_top, ← noAcc_sum] at e2
    rw [out_at_A c0 m ρ c t q0 hd, hz']
    exact congrArg outBlock e2
  · have q0 : ¬P0_0 c0 t := fun h => hz (h0.mp h)
    obtain ⟨ht, hbat, hq, hk⟩ := hprev hz
    have hb : bat (before t) = bat t := Fin.ext hbat
    have hqb : qBlk (before t) = qBlk t := Fin.ext hq
    have hkb : (kBlk (before t)).val + 1 = (kBlk t).val := hk
    obtain ⟨i1, i2⟩ := row_state m ρ c hT (before t).val (before t) rfl (by rw [hqb]; omega)
    rw [hb, hqb, hkb] at i1 i2
    rw [out_at_C c0 m ρ c t q0 hd, prev_is m ρ c t ht, i1, i2]
    exact congrArg outBlock (tile_acc (colScores m c (bat t) (qBlk t)) (hT _ _) (values (vArr m c) (bat t)) (kBlk t) _ _
      (masked_tile m ρ c t _ (biasC_apply t)) (values_at m ρ c t))

end Cert.Attn.Fox

end
-- ==== Proof.FoxKernelValue.lean ====
/- What the forget-gate kernel computes: its output array is the masked attention of its queries, keys, values and biases. -/
module

public import proofs.«01_k».proof.Proof.FoxRows
public import proofs.«01_k».proof.Proof.KernelValue

@[expose] public section

noncomputable section

namespace Cert.Attn.Fox

open Idealize.ShloMosaic Idealize.ShloMosaic.TcCoe Idealize.ShloMosaic.ValueIdx Idealize.SL.Sem Cert.Kernel2Ideal Cert.Kernel2Ideal.Gen
open Idealize.ShloMosaic.Pipeline

/-- The weighted sum of a query's values … -/
def numer (Q K : S2x16384x1024.Idx → EReal) (V : S2x32x640x512.Idx → EReal) (qb : S2x8x16384.Idx → EReal) (kb : S2x16384x8.Idx → EReal)
    (b : Fin 2) (p : Fin 16384) (h : Fin 8) (d : Fin 64) : EReal :=
  ∑ k, values V b (row h (val80 d)) k * Ideal.exp2 (masked Q K qb kb b p h k - Finset.univ.sup (masked Q K qb kb b p h))

/-- … the sum of its weights … -/
def denom (Q K : S2x16384x1024.Idx → EReal) (qb : S2x8x16384.Idx → EReal) (kb : S2x16384x8.Idx → EReal)
    (b : Fin 2) (p : Fin 16384) (h : Fin 8) : EReal :=
  ∑ k, Ideal.exp2 (masked Q K qb kb b p h k - Finset.univ.sup (masked Q K qb kb b p h))

/-- … and the attention: their quotient. -/
def attention (Q K : S2x16384x1024.Idx → EReal) (V : S2x32x640x512.Idx → EReal) (qb : S2x8x16384.Idx → EReal) (kb : S2x16384x8.Idx → EReal) :
    S2x16384x512.Idx → EReal :=
  fun y => Ideal.div (numer Q K V qb kb (y 0) (y 1) (outHead (y 2)) (outVal (y 2))) (denom Q K qb kb (y 0) (y 1) (outHead (y 2)))

section
variable (Q K : S2x16384x1024.Idx → EReal) (qb : S2x8x16384.Idx → EReal) (kb : S2x16384x8.Idx → EReal)
  (hQ : ∀ i, Q i ≠ ⊤ ∧ Q i ≠ ⊥) (hK : ∀ i, K i ≠ ⊤ ∧ K i ≠ ⊥) (hq : ∀ i, qb i ≠ ⊤ ∧ qb i ≠ ⊥) (hk : ∀ i, kb i ≠ ⊤ ∧ kb i ≠ ⊥)
include hQ hK hq hk

/-- A gated score is real. -/
theorem gated_real (b : Fin 2) (p : Fin 16384) (h : Fin 8) (k : Fin 16384) :
    ∃ r : ℝ, dotQK Q K b p h k + (qb (ix3 b h p) - kb (ix3 b k h)) = (r : EReal) := by
  obtain ⟨r, hr⟩ := dotQK_real Q K hQ hK b p h k
  refine ⟨r + ((qb (ix3 b h p)).toReal - (kb (ix3 b k h)).toReal), ?_⟩
  rw [hr, EReal.coe_add, EReal.coe_sub, EReal.coe_toReal (hq _).1 (hq _).2, EReal.coe_toReal (hk _).1 (hk _).2]

theorem masked_ne_top (b : Fin 2) (p : Fin 16384) (h : Fin 8) (k : Fin 16384) : masked Q K qb kb b p h k ≠ ⊤ := by
  obtain ⟨r, hr⟩ := gated_real Q K qb kb hQ hK hq hk b p h k
  unfold masked
  by_cases hs : Sees p k
  · rw [if_pos hs, hr]; exact EReal.coe_ne_top _
  · rw [if_neg hs]; exact bot_ne_top

theorem masked_self (b : Fin 2) (p : Fin 16384) (h : Fin 8) : masked Q K qb kb b p h p ≠ ⊥ := by
  obtain ⟨r, hr⟩ := gated_real Q K qb kb hQ hK hq hk b p h p
  unfold masked
  rw [if_pos (le_refl _), hr]; exact EReal.coe_ne_bot _

end

variable (m : (ℓ : Loc nD τ sig) → Buf (Elt Ideal) ℓ) (ρ : Dev nD → PrngReg) (c : Dev nD)

/-- An element of the accumulator at a row's end. -/
theorem sum_at_end (b : Fin 2) (i : Fin 32) (n : Fin 8) (d : Fin 80) (r : Fin 512) :
    sumState m c b i (i.val + 1) (ix2 (row n d) r)
      = ∑ k, values (vArr m c) b (row n d) k
          * Ideal.exp2 (masked (qArr m c) (kArr m c) (qbArr m c) (kbArr m c) b (pos i r) n k - Finset.univ.sup (masked (qArr m c) (kArr m c) (qbArr m c) (kbArr m c) b (pos i r) n)) := by
  have hq : colQuery (colOf (row n d) r) = r := Fin.ext (by simp only [colQuery, colOf, row]; omega)
  have hh : colHead (colOf (row n d) r) = n := Fin.ext (by simp only [colHead, colOf, row]; omega)
  show sumOf (masked (qArr m c) (kArr m c) (qbArr m c) (kbArr m c) b (pos i (colQuery (colOf (row n d) r))) (colHead (colOf (row n d) r))) (values (vArr m c) b (row n d)) (i.val + 1) = _
  rw [hq, hh]
  refine sumOf_all _ _ _ fun k hk => ?_
  have hs : ¬ Sees (pos i r) k := by
    show ¬ k.val ≤ 512 * i.val + r.val
    omega
  unfold masked
  rw [if_neg hs]

/-- The output block at a row's end is the attention. -/
theorem block_attention (hV : ∀ (b : Fin 2) (j : Fin 32) (h : Fin 8) (x : Fin 512) (r : Fin 640), r.val = 80 * h.val + 64 → vArr m c (ix4 b j r x) = 1)
    (b : Fin 2) (i : Fin 32) (r l : Fin 512) :
    outBlock (sumState m c b i (i.val + 1)) (ix3 0 r l) = attention (qArr m c) (kArr m c) (vArr m c) (qbArr m c) (kbArr m c) (ix3 b (pos i r) l) := by
  show Ideal.div (sumState m c b i (i.val + 1) (ix2 (row (outHead l) (val80 (outVal l))) r)) (sumState m c b i (i.val + 1) (ix2 (row (outHead l) 64) r))
    = Ideal.div (numer (qArr m c) (kArr m c) (vArr m c) (qbArr m c) (kbArr m c) b (pos i r) (outHead l) (outVal l)) (denom (qArr m c) (kArr m c) (qbArr m c) (kbArr m c) b (pos i r) (outHead l))
  rw [sum_at_end, sum_at_end]
  have h1 : ∀ k, values (vArr m c) b (row (outHead l) 64) k = 1 := fun k => hV b _ (outHead l) _ _ rfl
  simp only [h1, one_mul]
  rfl

/-- The array the kernel leaves. -/
theorem output_array (hQ : ∀ i, qArr m c i ≠ ⊤ ∧ qArr m c i ≠ ⊥) (hK : ∀ i, kArr m c i ≠ ⊤ ∧ kArr m c i ≠ ⊥)
    (hq : ∀ i, qbArr m c i ≠ ⊤ ∧ qbArr m c i ≠ ⊥) (hk : ∀ i, kbArr m c i ≠ ⊤ ∧ kbArr m c i ≠ ⊥)
    (hV : ∀ (b : Fin 2) (j : Fin 32) (h : Fin 8) (x : Fin 512) (r : Fin 640), r.val = 80 * h.val + 64 → vArr m c (ix4 b j r x) = 1) :
    (dats c0 m ρ 0 c).arrAt (5 : Fin 6) (cfgA c0).N = attention (qArr m c) (kArr m c) (vArr m c) (qbArr m c) (kbArr m c) := by
  have hT : Tame m c := fun b i x k => masked_ne_top _ _ _ _ hQ hK hq hk _ _ _ _
  refine (dats c0 m ρ 0 c).arrAt_eq_of_covers (5 : Fin 6) _ covers_out fun t hf y => ?_
  have hd : ¬ P0_1 c0 t := by
    intro h1
    by_cases h0 : P0_0 c0 t
    · exact absurd ((sched0_B c0 t h0 h1).2.1.symm.trans hf) (by decide)
    · exact absurd ((sched0_D c0 t h0 h1).2.1.symm.trans hf) (by decide)
  obtain ⟨-, ho⟩ := row_output m ρ c hT t hd
  obtain ⟨z, r, l, rfl⟩ : ∃ (z : Fin 1) (r l : Fin 512), y = ix3 z r l := ⟨y 0, y 1, y 2, eq_ix3 y⟩
  obtain rfl : z = 0 := Subsingleton.elim _ _
  refine Eq.trans ?_ (congrArg (attention (qArr m c) (kArr m c) (vArr m c) (qbArr m c) (kbArr m c)) (out_emb t r l)).symm
  refine Eq.trans ?_ (block_attention m c hV (bat t) (qBlk t) r l)
  exact congrFun ho (ix3 0 r l)

end Cert.Attn.Fox

end
-- ==== Proof.FoxRefParts.lean ====
/- The forget-gate reference's mask and scores, read at an index. Its other steps are the latent branch's. -/
module

public import proofs.«01_k».proof.Proof.RefParts
public import proofs.«01_k».proof.Proof.FoxKernelValue
public import proofs.«01_k».proof.Proof.Gen.Reference2Ideal.Run

@[expose] public section

noncomputable section

namespace Cert.Attn.Fox

open Idealize.ShloMosaic hiding ix0 ix1 ix2 ix3 ix4 ix5
open Idealize.ShloMosaic.ValueIdx Cert.Reference2Ideal Cert.Reference2Ideal.Gen

/-- The keys' positions, along the last axis, and the queries', along the first. -/
def keyPositions : IVec S1x16384 32 := broadcastInDim S1x16384 ![1] bcast_S16384_S1x16384_1 (iotaInDim S16384 32 0)
def queryPositions : IVec S16384x1 32 := broadcastInDim S16384x1 ![0] bcast_S16384_S16384x1_0 (iotaInDim S16384 32 0)

theorem keyPositions_apply (k : Fin 16384) : keyPositions (ix2 0 k) = BitVec.ofNat 32 k.val := by
  unfold keyPositions
  exact broadcastInDim_apply _ _ _ _ (ix1 k) (by intro a; fin_cases a; rfl)

theorem queryPositions_apply (p : Fin 16384) : queryPositions (ix2 p 0) = BitVec.ofNat 32 p.val := by
  unfold queryPositions
  exact broadcastInDim_apply _ _ _ _ (ix1 p) (by intro a; fin_cases a; rfl)

/-- The reference masks what the kernel masks. -/
theorem mask_apply (b : Fin 2) (h : Fin 8) (p k : Fin 16384) :
    chunkMask keyPositions queryPositions (ix4 b h p k) = if Sees p k then 1#1 else 0#1 := by
  rw [chunkMask_apply, keyPositions_apply, queryPositions_apply]
  have hk : (BitVec.ofNat 32 k.val).toNat = k.val := by rw [BitVec.toNat_ofNat]; omega
  have hp : (BitVec.ofNat 32 p.val).toNat = p.val := by rw [BitVec.toNat_ofNat]; omega
  rw [sle_small _ _ (by omega) (by omega), hk, hp]

/-- The keys' biases carried to every query. -/
def spreadKeys (x : FVec Ideal S2x16384x8 .f32) : FVec Ideal S2x8x16384x16384 .f32 :=
  broadcastInDim S2x8x16384x16384 ![0, 1, 2, 3] bcast_S2x8x1x16384_S2x8x16384x16384_0_1_2_3
    (broadcastInDim S2x8x1x16384 ![0, 1, 3] bcast_S2x8x16384_S2x8x1x16384_0_1_3 (transpose S2x8x16384 [0, 2, 1] x transposes_S2x16384x8_S2x8x16384_0_2_1))

theorem spreadKeys_apply (x : FVec Ideal S2x16384x8 .f32) (b : Fin 2) (h : Fin 8) (p k : Fin 16384) :
    spreadKeys x (ix4 b h p k) = x (ix3 b k h) := by
  unfold spreadKeys
  rw [broadcastInDim_apply _ bcast_S2x8x1x16384_S2x8x16384x16384_0_1_2_3 _ (ix4 b h p k) (ix4 b h (0 : Fin 1) k) (by intro a; fin_cases a <;> rfl)]
  rw [broadcastInDim_apply _ bcast_S2x8x16384_S2x8x1x16384_0_1_3 _ (ix4 b h (0 : Fin 1) k) (ix3 b h k) (by intro a; fin_cases a <;> rfl)]
  exact transpose_apply _ _ transposes_S2x16384x8_S2x8x16384_0_2_1 (ix3 b h k) (ix3 b k h) (by intro a; fin_cases a <;> rfl)

/-- A gated and scaled entry, at an index. -/
theorem gate_apply {S : Shape} (X Y Z W : FVec Ideal S .f32) (i : S.Idx) :
    mulf (subf (addf X Y) Z) W i = ((X i : EReal) + Y i - Z i) * W i := rfl

/-- The gated scores, scaled and masked. -/
def foxScores (M : IVec S2x8x16384x16384 1) (A B : FVec Ideal S2x16384x8x128 .f32) (qb : FVec Ideal S2x8x16384 .f32) (kb : FVec Ideal S2x16384x8 .f32) :
    FVec Ideal S2x8x16384x16384 .f32 :=
  select M (mulf (subf (addf (Host.dotGeneral dot_S2x16384x8x128_S2x16384x8x128_S2x8x16384x16384_3_3_1_1_02_02 none A B) (spread qb)) (spreadKeys kb))
      (broadcastInDim S2x8x16384x16384 ![] bcast_S_S2x8x16384x16384 (Host.log (constant S_ .f32 0x40000000#32))))
    (broadcastInDim S2x8x16384x16384 ![] bcast_S_S2x8x16384x16384 (id (constant S_ .f32 0xFF800000#32)))

theorem foxScores_apply (M : IVec S2x8x16384x16384 1) (A B : FVec Ideal S2x16384x8x128 .f32) (qb : FVec Ideal S2x8x16384 .f32) (kb : FVec Ideal S2x16384x8 .f32)
    (b : Fin 2) (h : Fin 8) (p k : Fin 16384) :
    foxScores M A B qb kb (ix4 b h p k)
      = if M (ix4 b h p k) = 1#1 then
          ((∑ d : Fin 128, (A (ix4 b p h d) : EReal) * B (ix4 b k h d)) + qb (ix3 b h p) - kb (ix3 b k h)) * ((Real.log 2 : ℝ) : EReal) else ⊥ := by
  have he : foxScores M A B qb kb (ix4 b h p k) = if M (ix4 b h p k) = 1#1
      then (mulf (subf (addf (Host.dotGeneral dot_S2x16384x8x128_S2x16384x8x128_S2x8x16384x16384_3_3_1_1_02_02 none A B) (spread qb)) (spreadKeys kb))
        (broadcastInDim S2x8x16384x16384 ![] bcast_S_S2x8x16384x16384 (Host.log (constant (F := Ideal) S_ .f32 0x40000000#32))) (ix4 b h p k) : EReal)
      else broadcastInDim S2x8x16384x16384 ![] bcast_S_S2x8x16384x16384 (id (constant (F := Ideal) S_ .f32 0xFF800000#32)) (ix4 b h p k) := rfl
  have hd : Host.dotGeneral dot_S2x16384x8x128_S2x16384x8x128_S2x8x16384x16384_3_3_1_1_02_02 none A B (ix4 b h p k)
      = ∑ d : Fin 128, (A (ix4 b p h d) : EReal) * B (ix4 b k h d) := ref_dot A B b h p k
  have h1 : (Host.log (constant (F := Ideal) S_ .f32 0x40000000#32) ix0 : EReal) = ((Real.log 2 : ℝ) : EReal) := log_two
  have h2 : (id (constant (F := Ideal) S_ .f32 0xFF800000#32) ix0 : EReal) = ⊥ := by
    show Ideal.ofBits .f32 0xFF800000#32 = ⊥
    simp [Ideal.ofBits, Ideal.ieee]
  rw [he, gate_apply, hd, spread_apply, spreadKeys_apply, broadcastInDim_scalar_apply, broadcastInDim_scalar_apply, h1, h2]

end Cert.Attn.Fox

end
-- ==== Proof.FoxRefValue.lean ====
/- What the forget-gate reference computes: the same attention, its weights normalised one by one. -/
module

public import proofs.«01_k».proof.Proof.FoxRefParts

@[expose] public section

noncomputable section

namespace Cert.Attn.Fox

open Idealize.ShloMosaic hiding ix0 ix1 ix2 ix3 ix4 ix5
open Idealize.ShloMosaic.ValueIdx Idealize.ShloMosaic.TcCoe Cert.Reference2Ideal Cert.Reference2Ideal.Gen

/-- The reference, its steps named. -/
def refAttention (q k : FVec Ideal S2x16384x1024 .bf16) (v : FVec Ideal S2x32x640x512 .bf16) (qb : FVec Ideal S2x8x16384 .f32) (kb : FVec Ideal S2x16384x8 .f32) :
    FVec Ideal S2x16384x512 .f32 :=
  refOut (valuesOf v) (refWeights (expScores (foxScores (chunkMask keyPositions queryPositions) (headsOf q) (headsOf k) qb kb)))

/-- The reference's result is that. -/
theorem res_eq (m : (ℓ : Loc nD τ sig) → Buf (Elt Ideal) ℓ) (c : Dev nD) :
    Cert.Reference2Ideal.Value.res_main_v41 (F := Ideal) m c
      = refAttention (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := rfl

/-- Its masked scores are the kernel's, times the logarithm of two. -/
theorem scores_eq (q k : FVec Ideal S2x16384x1024 .bf16) (qb : FVec Ideal S2x8x16384 .f32) (kb : FVec Ideal S2x16384x8 .f32)
    (b : Fin 2) (h : Fin 8) (p n : Fin 16384) :
    foxScores (chunkMask keyPositions queryPositions) (headsOf q) (headsOf k) qb kb (ix4 b h p n)
      = masked q k qb kb b p h n * ((Real.log 2 : ℝ) : EReal) := by
  rw [foxScores_apply, mask_apply]
  have hd : (∑ d : Fin 128, (headsOf q (ix4 b p h d) : EReal) * headsOf k (ix4 b n h d)) = dotQK q k b p h n := by
    refine Finset.sum_congr rfl fun d _ => ?_
    rw [headsOf_apply, headsOf_apply]
    exact mul_comm _ _
  rw [hd]
  unfold masked
  by_cases hs : Sees p n
  · rw [if_pos hs, if_pos hs, if_pos rfl, sub_eq_add_neg, sub_eq_add_neg, add_assoc]
  · rw [if_neg hs, if_neg hs, if_neg (by decide), EReal.bot_mul_coe_of_pos (Real.log_pos (by norm_num))]

/-- The reference computes the attention. -/
theorem refAttention_eq (q k : FVec Ideal S2x16384x1024 .bf16) (v : FVec Ideal S2x32x640x512 .bf16) (qb : FVec Ideal S2x8x16384 .f32) (kb : FVec Ideal S2x16384x8 .f32)
    (hq : ∀ i, (q i : EReal) ≠ ⊤ ∧ (q i : EReal) ≠ ⊥) (hk : ∀ i, (k i : EReal) ≠ ⊤ ∧ (k i : EReal) ≠ ⊥)
    (hqb : ∀ i, (qb i : EReal) ≠ ⊤ ∧ (qb i : EReal) ≠ ⊥) (hkb : ∀ i, (kb i : EReal) ≠ ⊤ ∧ (kb i : EReal) ≠ ⊥) :
    refAttention q k v qb kb = attention q k v qb kb := by
  funext y
  obtain ⟨b, p, l, rfl⟩ : ∃ (b : Fin 2) (p : Fin 16384) (l : Fin 512), y = ix3 b p l := ⟨y 0, y 1, y 2, ValueIdx.eq_ix3 y⟩
  unfold refAttention
  rw [refOut_apply]
  have hw : ∀ n : Fin 16384, refWeights (expScores (foxScores (chunkMask keyPositions queryPositions) (headsOf q) (headsOf k) qb kb)) (ix4 b (outHead l) p n)
      = Ideal.div (Ideal.exp (masked q k qb kb b p (outHead l) n * ((Real.log 2 : ℝ) : EReal)
            - Finset.univ.sup fun n => masked q k qb kb b p (outHead l) n * ((Real.log 2 : ℝ) : EReal)))
          (∑ n, Ideal.exp (masked q k qb kb b p (outHead l) n * ((Real.log 2 : ℝ) : EReal)
            - Finset.univ.sup fun n => masked q k qb kb b p (outHead l) n * ((Real.log 2 : ℝ) : EReal))) := by
    intro n
    rw [refWeights_apply]
    simp only [expScores_apply, scores_eq]
  have hn := normalise (masked q k qb kb b p (outHead l)) (values v b (row (outHead l) (val80 (outVal l))))
    (masked_ne_top q k qb kb hq hk hqb hkb b p (outHead l)) p (masked_self q k qb kb hq hk hqb hkb b p (outHead l))
  refine Eq.trans ?_ hn.symm
  refine Finset.sum_congr rfl fun n _ => ?_
  rw [hw n, valuesOf_apply]

end Cert.Attn.Fox

end
-- ==== Proof.FoxClaims.lean ====
/- The claims of the forget-gate call: the frames of its kernel, of the ideal reading and of the reference, the
   preservation of the ideal reading, and the value claim. -/
module

public import proofs.«01_k».proof.Defs
public import proofs.«01_k».proof.Proof.Gen.Kernel2.Flash
public import proofs.«01_k».proof.Proof.Gen.Kernel2Ideal.Flash
public import proofs.«01_k».proof.Proof.Gen.Reference2Ideal.Run
public import proofs.«01_k».proof.Proof.FoxPre
public import proofs.«01_k».proof.Proof.FoxKernelValue
public import proofs.«01_k».proof.Proof.FoxRefValue
public import Idealize.ShloMosaic.Adequacy
public import Idealize.ShloMosaic.Init

@[expose] public section

noncomputable section

namespace Cert.Attn.Fox

open Idealize.ShloMosaic Idealize.SL.Sem

/-- What `attends2` says of the ideal kernel's memory, on one device. -/
theorem decoded (m : (ℓ : Loc Cert.Kernel2Ideal.nD Cert.Kernel2Ideal.τ Cert.Kernel2Ideal.sig) → Buf (Elt Ideal) ℓ)
    (h : Cert.Pre_Kernel2Ideal_attends2 m) (c : Dev Cert.Kernel2Ideal.nD) :
    (Walks (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      ∧ (∀ i, qArr m c i ≠ ⊤ ∧ qArr m c i ≠ ⊥) ∧ (∀ i, kArr m c i ≠ ⊤ ∧ kArr m c i ≠ ⊥)
      ∧ ∀ (b : Fin 2) (j : Fin 32) (h : Fin 8) (x : Fin 512) (r : Fin 640), r.val = 80 * h.val + 64 → vArr m c (ValueIdx.ix4 b j r x) = 1)
      ∧ (∀ i, qbArr m c i ≠ ⊤ ∧ qbArr m c i ≠ ⊥) ∧ ∀ i, kbArr m c i ≠ ⊤ ∧ kbArr m c i ≠ ⊥ :=
  attends2_decoded _ _ _ _ _ _ _ (h c)

/-- `attends2` pins the ideal kernel's tables. -/
theorem pinned_attends (m : (ℓ : Loc Cert.Kernel2Ideal.nD Cert.Kernel2Ideal.τ Cert.Kernel2Ideal.sig) → Buf (Elt Ideal) ℓ)
    (h : Cert.Pre_Kernel2Ideal_attends2 m) : Cert.Kernel2Ideal.Gen.Pinned c0 m :=
  ⟨fun c => ((decoded m h c).1.1.unique walks_ideal).1, fun c => ((decoded m h c).1.1.unique walks_ideal).2⟩

/-- The kernel's frame: the tables pinned, it runs, its arguments and its counters end as they began. -/
theorem frame_kernel : Cert.quiescent_Kernel2 (hKernel2 := Cert.Kernel2.Gen.facts) (hPre_tables2 := Cert.Pre_tables2.Gen.facts) :=
  fun m ρ h => Cert.Kernel2.Gen.frame 0 m ρ (pinned_kernel m h)

/-- The ideal kernel's frame. -/
theorem frame_ideal : Cert.quiescent_Kernel2Ideal (hKernel2Ideal := Cert.Kernel2Ideal.Gen.facts) (hPre_tables2 := Cert.Pre_tables2.Gen.facts) :=
  fun m ρ h => Cert.Kernel2Ideal.Gen.frame 0 m ρ (pinned_ideal m h)

/-- The ideal kernel's frame, under the value claim's precondition. -/
theorem frame_ideal_attends :
    Cert.quiescent_Kernel2Ideal_pre_attends2 (hKernel2Ideal := Cert.Kernel2Ideal.Gen.facts) (hPre_attends2 := Cert.Pre_attends2.Gen.facts) :=
  fun m ρ h => Cert.Kernel2Ideal.Gen.frame c0 m ρ (pinned_attends m h)

/-- The reference's frame: host operations alone, and no counter. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The ideal kernel differs from the kernel by its mask constant, read as −∞. -/
theorem preserved : Cert.preserves_Kernel2_Kernel2Ideal := IdealRules.named_const.statement _ _ _ _ _ rfl

/-- The value claim: both programs leave the attention of the kernel's queries, keys, values and biases. -/
theorem value : Cert.algebraic_Kernel2Ideal_Reference2Ideal_pre_attends2 (hKernel2Ideal := Cert.Kernel2Ideal.Gen.facts)
    (hReference2Ideal := Cert.Reference2Ideal.Gen.facts) (hPre_attends2 := Cert.Pre_attends2.Gen.facts) := by
  intro m ρ m' ρ' h hm
  have hp := pinned_attends m h
  refine ⟨fun c => attention (qArr m c) (kArr m c) (vArr m c) (qbArr m c) (kbArr m c), ?_, ?_⟩
  · refine (θ_run Cert.Kernel2Ideal.defs _ _).mono (fun r hr c => ?_)
      (θ_run_and (Cert.Kernel2Ideal.Gen.run_main c0 m ρ hp) (Cert.Kernel2Ideal.Gen.unchanged c0 m ρ hp))
    obtain ⟨⟨-, hQ, hK, hV⟩, hq, hk⟩ := decoded m h c
    exact ⟨((hr.1 c).1 (5 : Fin 6)).trans (output_array m ρ c hQ hK hq hk hV), hr.2 c⟩
  · refine (θ_run Cert.Reference2Ideal.defs _ _).mono (fun r hr c => ⟨?_, (hr c).2⟩) (Cert.Reference2Ideal.Value.run (F := Ideal) m' ρ')
    obtain ⟨⟨-, hQ, hK, -⟩, hq, hk⟩ := decoded m h c
    obtain ⟨-, -, h2, h3, h4, h5, h6⟩ := hm c
    refine (hr c).1.trans ((res_eq m' c).trans ?_)
    refine Eq.trans ?_ (refAttention_eq (qArr m c) (kArr m c) (vArr m c) (qbArr m c) (kbArr m c) hQ hK hq hk)
    exact congr (congr (congr (congr (congrArg refAttention h2) h3) h4) h5) h6

end Cert.Attn.Fox

end
-- ==== Proof.Norm.lean ====
/- The root-mean-square normalisation of rows of 1024 lanes over the extended reals: one definition, and the two ways the
   programs write it (a reduction along the lanes in a block of rows; host operations over the whole array) read at a
   place. -/
module

public import Idealize.ShloMosaic.Lib.Pipeline.Value
public import Idealize.ShloMosaic.Lib.Pipeline.FrameBody
public import Idealize.ShloMosaic.Lib.KernelVsHost
public import Idealize.ShloMosaic.Lib.IdealHost
public import Idealize.ShloMosaic.Lib.MatmulPlain
public import Idealize.ShloMosaic.Lib.ValueIdx
public import Idealize.ShloMosaic.PureOps.Ideal.Laws

@[expose] public section

noncomputable section

namespace Cert.Norm

open Idealize.ShloMosaic Idealize.ShloMosaic.ValueIdx Idealize.SL.Sem
open scoped BigOperators

/-- The reciprocal root of a row's mean square, the small constant added. -/
def scale (X : Fin 1024 → EReal) : EReal :=
  Ideal.rsqrt (Ideal.div (∑ j, X j * X j) (Ideal.ofBits .f32 0x44800000#32) + Ideal.ofBits .f32 0x358637BD#32)

/-- A row normalised, lane by lane times the gain. -/
def normed (X g : Fin 1024 → EReal) (k : Fin 1024) : EReal := X k * scale X * g k

/-- A row of a two-axis array. -/
def row {n k : ℕ} (x : (⟨2, ![n, k]⟩ : Shape).Idx → EReal) (r : Fin n) : Fin k → EReal := fun j => x (ix2 r j)

/-- A column of a two-axis array. -/
def col {n k : ℕ} (x : (⟨2, ![n, k]⟩ : Shape).Idx → EReal) (j : Fin k) : Fin n → EReal := fun r => x (ix2 r j)

theorem zero_const (s : Shape) (j : s.Idx) : (constant (F := Ideal) s .f32 0x00000000#32) j = (0 : EReal) := by
  show Ideal.ofBits .f32 0x00000000#32 = 0
  simp [Ideal.ofBits, Ideal.ieee]

/-- The square sum a block's reduction along its lanes leaves for a row. -/
theorem block_squares {n : ℕ} (x : FVec Ideal ⟨2, ![n, 1024]⟩ .f32) (h : (⟨2, ![n, 1024]⟩ : Shape).Reduces [1] ⟨1, ![n]⟩) (h1) (h2) (r : Fin n) :
    multiReduction (F := Ideal) .add [1] ⟨1, ![n]⟩ (mulf x x) 0x00000000#32 h h1 h2 (ix1 r) = ∑ j : Fin 1024, row x r j * row x r j := by
  refine (Ideal.multiReduction_add_single _ _ h h1 h2 (ix1 r)).trans (Finset.sum_congr rfl fun k _ => ?_)
  have e : h.lift (ix1 r) k = ix2 r k := by
    funext a; apply Fin.ext
    match a with
    | ⟨0, _⟩ => rfl
    | ⟨1, _⟩ => rfl
  exact congrArg (fun i => x i * x i) e

/-- A block of rows normalised, at a place. -/
theorem block_normed {n : ℕ} (x : FVec Ideal ⟨2, ![n, 1024]⟩ .f32) (g : FVec Ideal ⟨2, ![1, 1024]⟩ .f32)
    (h : (⟨2, ![n, 1024]⟩ : Shape).Reduces [1] ⟨1, ![n]⟩) (h1) (h2) (hc : (⟨1, ![n]⟩ : Shape).ShapeCasts ⟨2, ![n, 1]⟩)
    (hb : (⟨2, ![n, 1]⟩ : Shape).Broadcasts ⟨2, ![n, 1024]⟩) (hg : (⟨2, ![1, 1024]⟩ : Shape).Broadcasts ⟨2, ![n, 1024]⟩)
    (hn : n ≠ 1) (r : Fin n) (k : Fin 1024) :
    mulf (mulf x (broadcastTo ⟨2, ![n, 1024]⟩ (rsqrt (addf (divf (shapeCast ⟨2, ![n, 1]⟩
        (multiReduction (F := Ideal) .add [1] ⟨1, ![n]⟩ (mulf x x) 0x00000000#32 h h1 h2) hc)
        (broadcast ⟨2, ![n, 1]⟩ (Scalar.ofBits (F := Ideal) .f32 0x44800000#32))) (broadcast ⟨2, ![n, 1]⟩ (Scalar.ofBits (F := Ideal) .f32 0x358637BD#32)))) hb))
      (broadcastTo ⟨2, ![n, 1024]⟩ g hg) (ix2 r k) = normed (row x r) (row g 0) k := by
  have e1 : ∀ (y : (⟨2, ![n, 1]⟩ : Shape).Idx → EReal), broadcastTo ⟨2, ![n, 1024]⟩ y hb (ix2 r k) = y (ix2 r 0) := fun y =>
    broadcastTo_apply y hb _ _ (by
      intro a; fin_cases a
      · show r.val = if n = 1 then 0 else r.val
        rw [if_neg hn]
      · rfl)
  have e2 : broadcastTo ⟨2, ![n, 1024]⟩ g hg (ix2 r k) = g (ix2 0 k) :=
    broadcastTo_apply g hg _ _ (by intro a; fin_cases a <;> rfl)
  have e3 : ∀ (y : (⟨1, ![n]⟩ : Shape).Idx → EReal), shapeCast ⟨2, ![n, 1]⟩ y hc (ix2 r (0 : Fin 1)) = y (ix1 r) := fun y =>
    shapeCast_apply y hc _ _ (by
      rw [Shape.rowMajor_val_two, Shape.rowMajor_val_one]
      show r.val = r.val * 1 + 0
      omega)
  show (x (ix2 r k) * broadcastTo ⟨2, ![n, 1024]⟩ _ hb (ix2 r k)) * broadcastTo ⟨2, ![n, 1024]⟩ g hg (ix2 r k) = _
  rw [e1, e2]
  show (x (ix2 r k) * Ideal.rsqrt (Ideal.div (shapeCast ⟨2, ![n, 1]⟩ _ hc (ix2 r (0 : Fin 1))) (Ideal.ofBits .f32 0x44800000#32) + Ideal.ofBits .f32 0x358637BD#32)) * g (ix2 0 k) = _
  rw [e3, block_squares]
  rfl

theorem mul_mul_apply {S : Shape} (X Y Z : FVec Ideal S .f32) (i : S.Idx) : mulf (mulf X Y) Z i = (X i : EReal) * Y i * Z i := rfl

theorem host_scale_apply {S : Shape} (A B C : FVec Ideal S .f32) (i : S.Idx) :
    Host.rsqrt (addf (Host.divf A B) C) i = Ideal.rsqrt (Ideal.div (A i) (B i) + C i) := rfl

/-- The whole array normalised by host operations, at a place. -/
theorem host_normed {n : ℕ} (x : FVec Ideal ⟨2, ![n, 1024]⟩ .f32) (g : FVec Ideal ⟨2, ![1, 1024]⟩ .f32)
    (h : (⟨2, ![n, 1024]⟩ : Shape).ReducesTo [1] ⟨1, ![n]⟩) (h0 : 0 < (⟨0, ![]⟩ : Shape).numel) (hr : (⟨2, ![n, 1024]⟩ : Shape).Reduces [1] ⟨1, ![n]⟩)
    (hb1 : (⟨1, ![n]⟩ : Shape).BroadcastsInDim ⟨2, ![n, 1]⟩ ![0]) (hs1 hs2 : (⟨0, ![]⟩ : Shape).BroadcastsInDim ⟨2, ![n, 1]⟩ ![])
    (hb : (⟨2, ![n, 1]⟩ : Shape).BroadcastsInDim ⟨2, ![n, 1024]⟩ ![0, 1]) (hg : (⟨2, ![1, 1024]⟩ : Shape).BroadcastsInDim ⟨2, ![n, 1024]⟩ ![0, 1])
    (hn : n ≠ 1) (r : Fin n) (k : Fin 1024) :
    mulf (mulf x (broadcastInDim ⟨2, ![n, 1024]⟩ ![0, 1] hb (Host.rsqrt (addf (Host.divf (broadcastInDim ⟨2, ![n, 1]⟩ ![0] hb1
        (Host.reduceAdd (F := Ideal) (mulf x x) (constant ⟨0, ![]⟩ .f32 0x00000000#32) h h0))
        (broadcastInDim ⟨2, ![n, 1]⟩ ![] hs1 (constant ⟨0, ![]⟩ .f32 0x44800000#32))) (broadcastInDim ⟨2, ![n, 1]⟩ ![] hs2 (constant ⟨0, ![]⟩ .f32 0x358637BD#32))))))
      (broadcastInDim ⟨2, ![n, 1024]⟩ ![0, 1] hg g) (ix2 r k) = normed (row x r) (row g 0) k := by
  have e1 : ∀ (y : (⟨2, ![n, 1]⟩ : Shape).Idx → EReal), broadcastInDim ⟨2, ![n, 1024]⟩ ![0, 1] hb y (ix2 r k) = y (ix2 r 0) := fun y =>
    broadcastInDim_apply _ hb y _ _ (by
      intro a; fin_cases a
      · show r.val = if n = 1 then 0 else r.val
        rw [if_neg hn]
      · rfl)
  have e2 : broadcastInDim ⟨2, ![n, 1024]⟩ ![0, 1] hg g (ix2 r k) = g (ix2 0 k) :=
    broadcastInDim_apply _ hg g _ _ (by intro a; fin_cases a <;> rfl)
  have e3 : ∀ (y : (⟨1, ![n]⟩ : Shape).Idx → EReal), broadcastInDim ⟨2, ![n, 1]⟩ ![0] hb1 y (ix2 r (0 : Fin 1)) = y (ix1 r) := fun y =>
    broadcastInDim_apply _ hb1 y _ _ (by
      intro a; fin_cases a
      show r.val = if n = 1 then 0 else r.val
      rw [if_neg hn])
  have e4 : Host.reduceAdd (F := Ideal) (mulf x x) (constant ⟨0, ![]⟩ .f32 0x00000000#32) h h0 (ix1 r) = ∑ j : Fin 1024, row x r j * row x r j := by
    rw [hostReduceAdd_apply, Ideal.hostReduceAdd_single h hr]
    refine (congrArg (· + _) (zero_const ⟨0, ![]⟩ _)).trans ((zero_add _).trans (Finset.sum_congr rfl fun j _ => ?_))
    have e : hr.lift (ix1 r) j = ix2 r j := by
      funext a; apply Fin.ext
      match a with
      | ⟨0, _⟩ => rfl
      | ⟨1, _⟩ => rfl
    exact congrArg (fun i => x i * x i) e
  rw [mul_mul_apply, e1, e2, host_scale_apply, e3, e4, broadcastInDim_scalar_apply, broadcastInDim_scalar_apply]
  rfl

end Cert.Norm

end
-- ==== Proof.FfnSteps.lean ====
/- The feed-forward call: what one grid point leaves in the two scratch arrays (normalised rows, running sum) and in its
   block of results, as values of the blocks it loads. -/
module

public import proofs.«01_k».proof.Proof.Gen.Kernel3Ideal.Value
public import proofs.«01_k».proof.Proof.Norm

@[expose] public section

set_option maxRecDepth 16384

noncomputable section

namespace Cert.Ffn

open Idealize.ShloMosaic Idealize.ShloMosaic.TcCoe Idealize.ShloMosaic.ValueIdx Idealize.ShloMosaic.Tactic Idealize.SL.Sem Cert.Kernel3Ideal Cert.Kernel3Ideal.Gen

theorem origin : (![0, 0] : Fin 2 → Nat) = fun _ => 0 := funext fun a => by fin_cases a <;> rfl

variable (c : Dev nD) (i : grid0.Coords) (a2 : Memref sig .tc .vmem S512x1024 .f32) (h2 : a2.IsWhole) (a3 : Memref sig .tc .vmem S1x1024 .f32) (h3 : a3.IsWhole)
  (a4 : Memref sig .tc .vmem S1024x1408 .bf16) (h4 : a4.IsWhole) (a5 : Memref sig .tc .vmem S1024x1408 .bf16) (h5 : a5.IsWhole)
  (a6 : Memref sig .tc .vmem S1408x1024 .bf16) (h6 : a6.IsWhole) (a7 : Memref sig .tc .vmem S512x1024 .f32) (h7 : a7.IsWhole)
  (a8 : Memref sig .tc .vmem S512x1024 .bf16) (h8 : a8.IsWhole) (a9 : Memref sig .tc .vmem S512x1024 .f32) (h9 : a9.IsWhole)
  (x : Vec Ideal S512x1024 .f32) (g : Vec Ideal S1x1024 .f32) (wg wu : Vec Ideal S1024x1408 .bf16) (wd : Vec Ideal S1408x1024 .bf16)

/-- At a row block's first point one scratch takes the normalised rows. -/
theorem rows_first (hc0 : cond0_0 i) (hc1 : ¬cond0_1 i) :
    sout0_A_0 c i a2 h2 a3 h3 a4 h4 a5 h5 a6 h6 a7 h7 a8 h8 a9 h9 hc0 hc1 x g wg wu wd = k0_pay1 (F := Ideal) x g := by
  unfold sout0_A_0
  rw [View.read_writes_eq_canon _ _ _ (scover0_A_0 c i a2 h2 a3 h3 a4 h4 a5 h5 a6 h6 a7 h7 a8 h8 a9 h9 hc0 hc1 x g wg wu wd)]
  unfold kernelRun0_A
  dsimp only
  sl_unfold_words
  rw [View.canon_cons_unit_zero (S := S512x1024) origin]
  simp only [View.readAt_eq_ld, h2.read_unread, h3.read_unread, View.ld_unit_zero (S := S512x1024) origin, View.ld_unit_zero (S := S1x1024) origin]

/-- … and the other the first half's share, from zero. -/
theorem sum_first (hc0 : cond0_0 i) (hc1 : ¬cond0_1 i) :
    sout0_A_1 c i a2 h2 a3 h3 a4 h4 a5 h5 a6 h6 a7 h7 a8 h8 a9 h9 hc0 hc1 x g wg wu wd
      = k0_pay3 (F := Ideal) (k0_pay1 (F := Ideal) x g) wg wu (k0_pay2 (F := Ideal)) wd := by
  unfold sout0_A_1
  rw [View.read_writes_eq_canon _ _ _ (scover0_A_1 c i a2 h2 a3 h3 a4 h4 a5 h5 a6 h6 a7 h7 a8 h8 a9 h9 hc0 hc1 x g wg wu wd)]
  unfold kernelRun0_A
  dsimp only
  sl_unfold_words
  rw [View.canon_cons_unit_zero (S := S512x1024) origin]
  simp only [View.readCov_unit_zero (S := S512x1024) _ origin, View.canon_cons_unit_zero (S := S512x1024) origin, View.readAt_eq_ld, h2.read_unread, h3.read_unread, h4.read_unread,
    h5.read_unread, h6.read_unread, View.ld_unit_zero (S := S512x1024) origin,
    View.ld_unit_zero (S := S1x1024) origin, View.ld_unit_zero (S := S1024x1408) origin, View.ld_unit_zero (S := S1408x1024) origin]

/-- At its second point the results are the rows themselves plus the sum with the second half's share. -/
theorem result_second (hc0 : ¬cond0_0 i) (hc1 : cond0_1 i) (n : Vec Ideal S512x1024 .bf16) (s : Vec Ideal S512x1024 .f32) :
    out0_B_5 c i a2 h2 a3 h3 a4 h4 a5 h5 a6 h6 a7 h7 a8 h8 a9 h9 hc0 hc1 x g wg wu wd n s
      = k0_pay4 (F := Ideal) x (k0_pay3 (F := Ideal) n wg wu s wd) := by
  unfold out0_B_5
  rw [View.read_writes_eq_canon _ _ _ (cover0_B_5 c i a2 h2 a3 h3 a4 h4 a5 h5 a6 h6 a7 h7 a8 h8 a9 h9 hc0 hc1 x g wg wu wd n s)]
  unfold kernelRun0_B
  dsimp only
  sl_unfold_words
  rw [View.canon_cons_unit_zero (S := S512x1024) origin]
  simp only [View.readCov_unit_zero (S := S512x1024) _ origin, View.canon_cons_unit_zero (S := S512x1024) origin, View.readAt_eq_ld, h2.read_unread, h4.read_unread, h5.read_unread,
    h6.read_unread, h8.read_unread, h9.read_unread, View.ld_unit_zero (S := S512x1024) origin,
    View.ld_unit_zero (S := S1024x1408) origin, View.ld_unit_zero (S := S1408x1024) origin]

end Cert.Ffn

end
-- ==== Proof.FfnValue.lean ====
/- The feed-forward call: the array its run leaves is the input plus the gated products of the normalised rows, summed over
   all 2816 units, place by place. The kernel adds two halves of the units in turn; the sum over all of them is theirs. -/
module

public import proofs.«01_k».proof.Proof.FfnSteps

@[expose] public section

set_option maxRecDepth 16384

noncomputable section

namespace Cert.Ffn

open Idealize.ShloMosaic Idealize.ShloMosaic.TcCoe Idealize.ShloMosaic.ValueIdx Idealize.SL.Sem Cert.Kernel3Ideal Cert.Kernel3Ideal.Gen Cert.Kernel3Ideal.Value Cert.Norm
open scoped BigOperators

/-- One unit of the hidden layer: the gate's product through `z ↦ z / (1 + e^(-z))`, times the other product. -/
def gated (N G U : Fin 1024 → EReal) : EReal :=
  (∑ k, N k * G k) * Ideal.logistic (∑ k, N k * G k) * ∑ k, N k * U k

/-- The feed-forward layer at a place: the input plus the sum over the units. -/
def feed (x : S32768x1024.Idx → EReal) (g : S1x1024.Idx → EReal) (wg wu : S1024x2816.Idx → EReal) (wd : S2816x1024.Idx → EReal)
    (r : Fin 32768) (l : Fin 1024) : EReal :=
  x (ix2 r l) + ∑ q : Fin 2816, gated (normed (row x r) (row g 0)) (col wg q) (col wu q) * wd (ix2 q l)

theorem gate_product (s : Vec Ideal S512x1024 .bf16) (w : Vec Ideal S1024x1408 .bf16) (r : Fin 512) (q : Fin 1408) :
    matmul (F := Ideal) (φ₁ := .bf16) (φ₂ := .bf16) dot_S512x1024_S1024x1408_S512x1408_1_0_0_1_n_n none s w (constant S512x1408 .f32 0x00000000#32) (ix2 r q)
      = ∑ k : Fin 1024, row s r k * col w q k := by
  refine (Ideal.matmul_plain_apply (M := 512) (K := 1024) (N := 1408) (φ₁ := .bf16) (φ₂ := .bf16) none s w _ r q).trans ?_
  rw [zero_const, zero_add]
  rfl

theorem down_product (s : Vec Ideal S512x1408 .bf16) (w : Vec Ideal S1408x1024 .bf16) (r : Fin 512) (l : Fin 1024) :
    matmul (F := Ideal) (φ₁ := .bf16) (φ₂ := .bf16) dot_S512x1408_S1408x1024_S512x1024_1_0_0_1_n_n none s w (constant S512x1024 .f32 0x00000000#32) (ix2 r l)
      = ∑ q : Fin 1408, (s (ix2 r q) : EReal) * w (ix2 q l) := by
  refine (Ideal.matmul_plain_apply (M := 512) (K := 1408) (N := 1024) (φ₁ := .bf16) (φ₂ := .bf16) none s w _ r l).trans ?_
  rw [zero_const, zero_add]

theorem gating {S : Shape} (A U : FVec Ideal S .f32) (i : S.Idx) (h : FTy.bf16.bits < FTy.f32.bits) :
    (truncf .bf16 (mulf (mulf A (logistic A)) U) h i : EReal) = (A i : EReal) * Ideal.logistic (A i) * U i := rfl

/-- The running sum of a block of rows, at a place: what it held plus the share of the units at hand. -/
theorem share_apply (n : Vec Ideal S512x1024 .bf16) (wg wu : Vec Ideal S1024x1408 .bf16) (s : Vec Ideal S512x1024 .f32) (wd : Vec Ideal S1408x1024 .bf16)
    (r : Fin 512) (l : Fin 1024) :
    k0_pay3 (F := Ideal) n wg wu s wd (ix2 r l) = (s (ix2 r l) : EReal) + ∑ q : Fin 1408, gated (row n r) (col wg q) (col wu q) * wd (ix2 q l) := by
  unfold k0_pay3
  rw [shapeCast_self]
  refine congrArg ((s (ix2 r l) : EReal) + ·) ((down_product _ _ r l).trans (Finset.sum_congr rfl fun q _ => ?_))
  rw [gating, gate_product, gate_product]
  rfl

/-- The running sum starts from zero. -/
theorem start_apply (i : S512x1024.Idx) : k0_pay2 (F := Ideal) i = (0 : EReal) := by
  unfold k0_pay2
  rw [shapeCast_self]
  exact zero_const S512x1024 i

theorem sum_apply (x s : Vec Ideal S512x1024 .f32) (i : S512x1024.Idx) : k0_pay4 (F := Ideal) x s i = (x i : EReal) + s i := rfl

/-- A block of rows normalised, at a place. -/
theorem rows_apply (x : Vec Ideal S512x1024 .f32) (g : Vec Ideal S1x1024 .f32) (r : Fin 512) (k : Fin 1024) :
    k0_pay1 (F := Ideal) x g (ix2 r k) = normed (row x r) (row g 0) k := by
  unfold k0_pay1
  dsimp only
  rw [shapeCast_self]
  exact block_normed (n := 512) x g reduces_S512x1024_S512 _ _ shapeCasts_S512_S512x1 broadcasts_S512x1_S512x1024 broadcasts_S1x1024_S512x1024 (by decide) r k

variable (m : (ℓ : Loc nD τ sig) → Buf (Elt Ideal) ℓ) (ρ : Dev nD → PrngReg) (c : Dev nD)

/-- The arrays of activations, gains, and the three arrays of weights. -/
def xArr : S32768x1024.Idx → EReal := m ((c : Thread nD τ).loc main_arg0)
def gArr : S1x1024.Idx → EReal := m ((c : Thread nD τ).loc main_arg1)
def gateArr : S1024x2816.Idx → EReal := m ((c : Thread nD τ).loc main_arg2)
def upArr : S1024x2816.Idx → EReal := m ((c : Thread nD τ).loc main_arg3)
def downArr : S2816x1024.Idx → EReal := m ((c : Thread nD τ).loc main_arg4)

/-- Which block of each array a grid point works on. -/
theorem blocks_at : ∀ t : Fin cfg0.N, (win0_0.index t (0 : Fin 2) = t.val / 2 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 2)
    ∧ (win0_3.index t (0 : Fin 2) = 0 ∧ win0_3.index t (1 : Fin 2) = t.val % 2)
    ∧ win0_4.index t (0 : Fin 2) = t.val % 2 ∧ win0_4.index t (1 : Fin 2) = 0 :=
  (by decide +kernel : ∀ t : Fin grid0.N, _)

theorem points (t : Fin cfg0.N) : t.val < 128 := lt_of_lt_of_eq t.isLt (show cfg0.N = 128 from N_0)

/-- Row `r` of the block of rows of a point, and unit `q` of its half of the units. -/
def rowAt (t : Fin cfg0.N) (r : Fin 512) : Fin 32768 := ⟨t.val / 2 * 512 + r.val, by have := points t; omega⟩
def unitAt (t : Fin cfg0.N) (q : Fin 1408) : Fin 2816 := ⟨t.val % 2 * 1408 + q.val, by omega⟩

theorem x_block (t : Fin cfg0.N) (r : Fin 512) (k : Fin 1024) : iblk m c 0 t (ix2 r k) = xArr m c (ix2 (rowAt t r) k) := by
  obtain ⟨⟨e0, e1⟩, -⟩ := blocks_at t
  show V m c (Pipeline.arrRef spec0 0) ((((cfg0.win 0).blk t).view.emb (ix2 r k))) = _
  refine (congrFun (V_main_arg0 m c) _).trans (congrArg (m ((c : Thread nD τ).loc main_arg0)) (funext fun a => Fin.ext ?_))
  match a with
  | ⟨0, _⟩ => show win0_0.index t (0 : Fin 2) * 512 + 1 * r.val = t.val / 2 * 512 + r.val; rw [e0]; omega
  | ⟨1, _⟩ => show win0_0.index t (1 : Fin 2) * 1024 + 1 * k.val = k.val; rw [e1]; omega

theorem g_block (t : Fin cfg0.N) (k : Fin 1024) : iblk m c 1 t (ix2 (0 : Fin 1) k) = gArr m c (ix2 (0 : Fin 1) k) := by
  obtain ⟨-, ⟨e0, e1⟩, -⟩ := blocks_at t
  show V m c (Pipeline.arrRef spec0 1) ((((cfg0.win 1).blk t).view.emb (ix2 (0 : Fin 1) k))) = _
  refine (congrFun (V_main_arg1 m c) _).trans (congrArg (m ((c : Thread nD τ).loc main_arg1)) (funext fun a => Fin.ext ?_))
  match a with
  | ⟨0, _⟩ => show win0_1.index t (0 : Fin 2) * 1 + 1 * 0 = 0; rw [e0]
  | ⟨1, _⟩ => show win0_1.index t (1 : Fin 2) * 1024 + 1 * k.val = k.val; rw [e1]; omega

theorem gate_block (t : Fin cfg0.N) (k : Fin 1024) (q : Fin 1408) : iblk m c 2 t (ix2 k q) = gateArr m c (ix2 k (unitAt t q)) := by
  obtain ⟨-, -, ⟨e0, e1⟩, -⟩ := blocks_at t
  show V m c (Pipeline.arrRef spec0 2) ((((cfg0.win 2).blk t).view.emb (ix2 k q))) = _
  refine (congrFun (V_main_arg2 m c) _).trans (congrArg (m ((c : Thread nD τ).loc main_arg2)) (funext fun a => Fin.ext ?_))
  match a with
  | ⟨0, _⟩ => show win0_2.index t (0 : Fin 2) * 1024 + 1 * k.val = k.val; rw [e0]; omega
  | ⟨1, _⟩ => show win0_2.index t (1 : Fin 2) * 1408 + 1 * q.val = t.val % 2 * 1408 + q.val; rw [e1]; omega

theorem up_block (t : Fin cfg0.N) (k : Fin 1024) (q : Fin 1408) : iblk m c 3 t (ix2 k q) = upArr m c (ix2 k (unitAt t q)) := by
  obtain ⟨-, -, -, ⟨e0, e1⟩, -⟩ := blocks_at t
  show V m c (Pipeline.arrRef spec0 3) ((((cfg0.win 3).blk t).view.emb (ix2 k q))) = _
  refine (congrFun (V_main_arg3 m c) _).trans (congrArg (m ((c : Thread nD τ).loc main_arg3)) (funext fun a => Fin.ext ?_))
  match a with
  | ⟨0, _⟩ => show win0_3.index t (0 : Fin 2) * 1024 + 1 * k.val = k.val; rw [e0]; omega
  | ⟨1, _⟩ => show win0_3.index t (1 : Fin 2) * 1408 + 1 * q.val = t.val % 2 * 1408 + q.val; rw [e1]; omega

theorem down_block (t : Fin cfg0.N) (q : Fin 1408) (l : Fin 1024) : iblk m c 4 t (ix2 q l) = downArr m c (ix2 (unitAt t q) l) := by
  obtain ⟨-, -, -, -, e0, e1⟩ := blocks_at t
  show V m c (Pipeline.arrRef spec0 4) ((((cfg0.win 4).blk t).view.emb (ix2 q l))) = _
  refine (congrFun (V_main_arg4 m c) _).trans (congrArg (m ((c : Thread nD τ).loc main_arg4)) (funext fun a => Fin.ext ?_))
  match a with
  | ⟨0, _⟩ => show win0_4.index t (0 : Fin 2) * 1408 + 1 * q.val = t.val % 2 * 1408 + q.val; rw [e0]; omega
  | ⟨1, _⟩ => show win0_4.index t (1 : Fin 2) * 1024 + 1 * l.val = l.val; rw [e1]; omega

/-- The rows of the whole array a point normalises, and the sum of its half of the units. -/
def rowsAt (t : Fin cfg0.N) (r : Fin 512) : Fin 1024 → EReal := normed (row (xArr m c) (rowAt t r)) (row (gArr m c) 0)
def halfAt (t : Fin cfg0.N) (N : Fin 1024 → EReal) (l : Fin 1024) : EReal :=
  ∑ q : Fin 1408, gated N (col (gateArr m c) (unitAt t q)) (col (upArr m c) (unitAt t q)) * downArr m c (ix2 (unitAt t q) l)

theorem rows_at (t : Fin cfg0.N) (r : Fin 512) : row (k0_pay1 (F := Ideal) (iblk m c 0 t) (iblk m c 1 t)) r = rowsAt m c t r := by
  funext k
  refine (rows_apply _ _ r k).trans ?_
  have ex : row (iblk m c 0 t) r = row (xArr m c) (rowAt t r) := funext fun j => x_block m c t r j
  have eg : row (iblk m c 1 t) 0 = row (gArr m c) 0 := funext fun j => g_block m c t j
  rw [ex, eg]
  rfl

theorem share_at (t : Fin cfg0.N) (n : Vec Ideal S512x1024 .bf16) (s : Vec Ideal S512x1024 .f32) (r : Fin 512) (l : Fin 1024) :
    k0_pay3 (F := Ideal) n (iblk m c 2 t) (iblk m c 3 t) s (iblk m c 4 t) (ix2 r l) = (s (ix2 r l) : EReal) + halfAt m c t (row n r) l := by
  refine (share_apply _ _ _ _ _ r l).trans (congrArg ((s (ix2 r l) : EReal) + ·) (Finset.sum_congr rfl fun q _ => ?_))
  have eg : col (iblk m c 2 t) q = col (gateArr m c) (unitAt t q) := funext fun k => gate_block m c t k q
  have eu : col (iblk m c 3 t) q = col (upArr m c) (unitAt t q) := funext fun k => up_block m c t k q
  rw [eg, eu, down_block m c t q l]

/-- What a row block's first point leaves in the scratch, and what its second point leaves in the results. -/
theorem state_first (t : Fin cfg0.N) (h0 : t.val % 2 = 0) (h1 : ¬t.val % 2 = 1) :
    (outsAt0 m c t.val t.isLt).2 = (k0_pay1 (F := Ideal) (iblk m c 0 t) (iblk m c 1 t),
      k0_pay3 (F := Ideal) (k0_pay1 (F := Ideal) (iblk m c 0 t) (iblk m c 1 t)) (iblk m c 2 t) (iblk m c 3 t) (k0_pay2 (F := Ideal)) (iblk m c 4 t)) := by
  rw [outsAt0_A m c t h0 h1, rows_first, sum_first]

theorem state_second (t : Fin cfg0.N) (h0 : ¬t.val % 2 = 0) (h1 : t.val % 2 = 1) :
    (outsAt0 m c t.val t.isLt).1 = k0_pay4 (F := Ideal) (iblk m c 0 t)
      (k0_pay3 (F := Ideal) (outsAt0 m c (t.val - 1) (Nat.lt_of_le_of_lt (Nat.sub_le _ _) t.isLt)).2.1 (iblk m c 2 t) (iblk m c 3 t)
        (outsAt0 m c (t.val - 1) (Nat.lt_of_le_of_lt (Nat.sub_le _ _) t.isLt)).2.2 (iblk m c 4 t)) := by
  rw [outsAt0_B m c t h0 h1, result_second]

/-- The sum over all units is that of the two halves. -/
theorem halves (f : Fin 2816 → EReal) (t t' : Fin cfg0.N) (h : t.val % 2 = 0) (h' : t'.val % 2 = 1) :
    ∑ q : Fin 2816, f q = (∑ q : Fin 1408, f (unitAt t q)) + ∑ q : Fin 1408, f (unitAt t' q) := by
  refine (Fin.sum_univ_add (a := 1408) (b := 1408) f).trans (congrArg₂ (· + ·) ?_ ?_)
  · refine Finset.sum_congr rfl fun q _ => congrArg f (Fin.ext ?_)
    show q.val = t.val % 2 * 1408 + q.val
    omega
  · refine Finset.sum_congr rfl fun q _ => congrArg f (Fin.ext ?_)
    show 1408 + q.val = t'.val % 2 * 1408 + q.val
    omega

/-- After a row block's second point the block of results is the layer's. -/
theorem result_at (t : Fin cfg0.N) (h1 : t.val % 2 = 1) (r : Fin 512) (l : Fin 1024) :
    (outsAt0 m c t.val t.isLt).1 (ix2 r l) = feed (xArr m c) (gArr m c) (gateArr m c) (upArr m c) (downArr m c) (rowAt t r) l := by
  have hlt : t.val - 1 < cfg0.N := Nat.lt_of_le_of_lt (Nat.sub_le _ _) t.isLt
  have er : rowAt ⟨t.val - 1, hlt⟩ r = rowAt t r := Fin.ext (by show (t.val - 1) / 2 * 512 + r.val = t.val / 2 * 512 + r.val; omega)
  have hp : (t.val - 1) % 2 = 0 := by omega
  have hs := state_first m c ⟨t.val - 1, hlt⟩ hp (by show ¬(t.val - 1) % 2 = 1; omega)
  rw [state_second m c t (by omega) h1, hs]
  rw [sum_apply, share_at]
  dsimp only
  rw [share_at, start_apply, zero_add, rows_at, x_block]
  unfold feed
  refine congrArg (xArr m c (ix2 (rowAt t r) l) + ·) ?_
  rw [halves _ ⟨t.val - 1, hlt⟩ t hp h1]
  unfold halfAt rowsAt
  rw [er]

/-- The array the run leaves is the layer's. -/
theorem array_eq : G5 m c = fun i => feed (xArr m c) (gArr m c) (gateArr m c) (upArr m c) (downArr m c) (i 0) (i 1) := by
  funext i
  have h0 : (i 0).val < 32768 := (i 0).isLt
  have h1 : (i 1).val < 1024 := (i 1).isLt
  have hN : cfg0.N = 128 := N_0
  have hp : pt5Of i < cfg0.N := by
    rw [hN]
    show 2 * (1 * ((i 0).val / 512 - 0) + 1 * ((i 1).val / 1024 - 0)) + 1 < 128
    omega
  have hl : loc5Of i = ix2 (⟨(i 0).val % 512, Nat.mod_lt _ (by decide)⟩ : Fin 512) (⟨(i 1).val % 1024, Nat.mod_lt _ (by decide)⟩ : Fin 1024) := by
    funext a
    match a with
    | ⟨0, _⟩ => rfl
    | ⟨1, _⟩ => rfl
  unfold G5
  rw [dif_pos hp, ← outsAt0_sweep m c (pt5Of i) hp, hl]
  refine (result_at m c ⟨pt5Of i, hp⟩ (by show (2 * run5Of i + 1) % 2 = 1; omega) _ _).trans ?_
  have er : rowAt ⟨pt5Of i, hp⟩ ⟨(i 0).val % 512, Nat.mod_lt _ (by decide)⟩ = i 0 := Fin.ext (by
    show (2 * (1 * ((i 0).val / 512 - 0) + 1 * ((i 1).val / 1024 - 0)) + 1) / 2 * 512 + (i 0).val % 512 = (i 0).val
    omega)
  have ec : (⟨(i 1).val % 1024, Nat.mod_lt _ (by decide)⟩ : Fin 1024) = i 1 := Fin.ext (by
    show (i 1).val % 1024 = (i 1).val
    omega)
  rw [er, ec]

end Cert.Ffn

end
-- ==== Proof.FfnRef.lean ====
/- The feed-forward call's reference, place by place: the rows normalised, the two products, the gate, the last product and
   the input added. -/
module

public import proofs.«01_k».proof.Proof.Gen.Reference3Ideal.Run
public import proofs.«01_k».proof.Proof.FfnValue

@[expose] public section

noncomputable section

namespace Cert.Ffn

open Idealize.ShloMosaic Idealize.ShloMosaic.TcCoe Idealize.ShloMosaic.ValueIdx Idealize.SL.Sem Cert.Reference3Ideal Cert.Reference3Ideal.Gen Cert.Norm
open scoped BigOperators

/-- The products by host operations, at a place. -/
theorem host_in (A : FVec Ideal S32768x1024 .f32) (W : FVec Ideal S1024x2816 .f32) (r : Fin 32768) (q : Fin 2816) :
    Host.dotGeneral (F := Ideal) dot_S32768x1024_S1024x2816_S32768x2816_1_0_0_1_n_n none A W (ix2 r q) = ∑ k : Fin 1024, (A (ix2 r k) : EReal) * W (ix2 k q) :=
  (Ideal.matmul_plain_apply (M := 32768) (K := 1024) (N := 2816) (φ₁ := .f32) (φ₂ := .f32) none A W (fun _ => 0) r q).trans (zero_add _)

theorem host_out (A : FVec Ideal S32768x2816 .f32) (W : FVec Ideal S2816x1024 .f32) (r : Fin 32768) (l : Fin 1024) :
    Host.dotGeneral (F := Ideal) dot_S32768x2816_S2816x1024_S32768x1024_1_0_0_1_n_n none A W (ix2 r l) = ∑ q : Fin 2816, (A (ix2 r q) : EReal) * W (ix2 q l) :=
  (Ideal.matmul_plain_apply (M := 32768) (K := 2816) (N := 1024) (φ₁ := .f32) (φ₂ := .f32) none A W (fun _ => 0) r l).trans (zero_add _)

theorem reduces_rows : S32768x1024.Reduces [1] S32768 := by decide

/-- The gate's expansion, at a place. -/
theorem host_gating {S : Shape} (A O O' U : FVec Ideal S .f32) (i : S.Idx) (h : O i = (1 : EReal)) (h' : O' i = (1 : EReal)) :
    mulf (mulf A (Host.divf O (addf O' (Host.exp (Host.negf A))))) U i = (A i : EReal) * Ideal.logistic (A i) * U i := by
  show (A i : EReal) * Ideal.div (O i) (O' i + Ideal.exp (-(A i : EReal))) * U i = _
  rw [h, h']
  rfl

theorem ones (i : S32768x2816.Idx) : broadcastInDim S32768x2816 ![] bcast_S_S32768x2816 (constant (F := Ideal) S_ .f32 0x3F800000#32) i = (1 : EReal) :=
  (broadcastInDim_scalar_apply bcast_S_S32768x2816 _ i).trans Ideal.ofBits_one_f32

/-- The reference's normalised rows. -/
abbrev normedArr (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

/-- A product of the normalised rows, at a place. -/
theorem in_apply (x : FVec Ideal S32768x1024 .f32) (g : FVec Ideal S1x1024 .f32) (w : FVec Ideal S1024x2816 .bf16) (r : Fin 32768) (q : Fin 2816) :
    Host.dotGeneral (F := Ideal) dot_S32768x1024_S1024x2816_S32768x2816_1_0_0_1_n_n none (normedArr x g) (extf .f32 w bitsLt_bf16_f32) (ix2 r q)
      = ∑ k : Fin 1024, normed (row x r) (row g 0) k * col w q k := by
  refine (host_in _ _ r q).trans (Finset.sum_congr rfl fun k _ => ?_)
  exact congrArg (· * (w (ix2 k q) : EReal)) (host_normed (n := 32768) x g reducesTo_S32768x1024_S32768_d1 h_S_ reduces_rows
    bcast_S32768_S32768x1_0 bcast_S_S32768x1 bcast_S_S32768x1 bcast_S32768x1_S32768x1024_0_1 bcast_S1x1024_S32768x1024_0_1 (by decide) r k)

/-- The reference's result is the layer of its arguments. -/
theorem reference_apply (x : FVec Ideal S32768x1024 .f32) (g : FVec Ideal S1x1024 .f32) (wg wu : FVec Ideal S1024x2816 .bf16) (wd : FVec Ideal S2816x1024 .bf16)
    (r : Fin 32768) (l : Fin 1024) :
    addf x (Host.dotGeneral (F := Ideal) dot_S32768x2816_S2816x1024_S32768x1024_1_0_0_1_n_n none
        (mulf (mulf (Host.dotGeneral dot_S32768x1024_S1024x2816_S32768x2816_1_0_0_1_n_n none (normedArr x g) (extf .f32 wg bitsLt_bf16_f32))
          (Host.divf (broadcastInDim S32768x2816 ![] bcast_S_S32768x2816 (constant S_ .f32 0x3F800000#32)) (addf (broadcastInDim S32768x2816 ![] bcast_S_S32768x2816 (constant S_ .f32 0x3F800000#32))
            (Host.exp (Host.negf (Host.dotGeneral dot_S32768x1024_S1024x2816_S32768x2816_1_0_0_1_n_n none (normedArr x g) (extf .f32 wg bitsLt_bf16_f32)))))))
          (Host.dotGeneral dot_S32768x1024_S1024x2816_S32768x2816_1_0_0_1_n_n none (normedArr x g) (extf .f32 wu bitsLt_bf16_f32)))
        (extf .f32 wd bitsLt_bf16_f32)) (ix2 r l)
      = feed x g wg wu wd r l := by
  refine congrArg ((x (ix2 r l) : EReal) + ·) ((host_out _ _ r l).trans (Finset.sum_congr rfl fun q _ => congrArg (· * (wd (ix2 q l) : EReal)) ?_))
  rw [host_gating _ _ _ _ _ (ones _) (ones _), in_apply, in_apply]
  rfl

end Cert.Ffn

end
-- ==== Proof.FfnClaims.lean ====
/- The claims of the feed-forward call: the frames of its kernel, of the ideal reading and of the reference, and the value
   claim, none of which asks anything of the arguments. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.FfnValue
public import proofs.«01_k».proof.Proof.FfnRef
public import Idealize.ShloMosaic.Adequacy
public import Idealize.ShloMosaic.Init

@[expose] public section

noncomputable section

namespace Cert.Ffn

open Idealize.ShloMosaic Idealize.ShloMosaic.ValueIdx Idealize.SL.Sem Cert.Norm

/-- The kernel's frame: it runs, its arguments and its counters end as they began. -/
theorem frame_kernel : Cert.quiescent_Kernel3 (hKernel3 := Cert.Kernel3.Gen.facts) := fun m ρ _ => Cert.Kernel3.Gen.frame m ρ

/-- The ideal kernel's frame. -/
theorem frame_ideal : Cert.quiescent_Kernel3Ideal (hKernel3Ideal := Cert.Kernel3Ideal.Gen.facts) := fun m ρ _ => Cert.Kernel3Ideal.Gen.frame m ρ

/-- The reference's frame: host operations alone, and no counter. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The ideal kernel is the kernel's own text read over the extended reals: no operation is rewritten. -/
theorem preserved : Cert.preserves_Kernel3_Kernel3Ideal := trivial

/-- The value claim: both programs leave the feed-forward layer of the kernel's arguments. -/
theorem value : Cert.algebraic_Kernel3Ideal_Reference3Ideal (hKernel3Ideal := Cert.Kernel3Ideal.Gen.facts) (hReference3Ideal := Cert.Reference3Ideal.Gen.facts) := by
  intro m ρ m' ρ' _ hm
  refine ⟨fun c i => feed (xArr m c) (gArr m c) (gateArr m c) (upArr m c) (downArr m c) (i 0) (i 1), ?_, ?_⟩
  · exact (θ_run Cert.Kernel3Ideal.defs _ _).mono (fun r hr c => ⟨(hr c).1.trans (array_eq m c), (hr c).2⟩) (Cert.Kernel3Ideal.Value.run (F := Ideal) m ρ)
  · refine (θ_run Cert.Reference3Ideal.defs _ _).mono (fun r hr c => ⟨?_, (hr c).2⟩) (Cert.Reference3Ideal.Value.run (F := Ideal) m' ρ')
    obtain ⟨h0, h1, h2, h3, h4⟩ := hm c
    refine (hr c).1.trans ?_
    rw [h0, h1, h2, h3, h4]
    funext i
    have e : i = ix2 (i 0) (i 1) := funext fun a => by
      match a with
      | ⟨0, _⟩ => rfl
      | ⟨1, _⟩ => rfl
    rw [e]
    exact reference_apply (xArr m c) (gArr m c) (gateArr m c) (upArr m c) (downArr m c) (i 0) (i 1)

end Cert.Ffn

end
-- ==== Proof.ProjSteps.lean ====
/- The input projection: what one grid point leaves in its block of results and in the scratch that carries the
   normalised rows, as values of the blocks it loads. -/
module

public import proofs.«01_k».proof.Proof.Gen.Kernel4Ideal.Value
public import proofs.«01_k».proof.Proof.Norm

@[expose] public section

set_option maxRecDepth 16384

noncomputable section

namespace Cert.Proj

open Idealize.ShloMosaic Idealize.ShloMosaic.TcCoe Idealize.ShloMosaic.ValueIdx Idealize.ShloMosaic.Tactic Idealize.SL.Sem Cert.Kernel4Ideal Cert.Kernel4Ideal.Gen

theorem origin : (![0, 0] : Fin 2 → Nat) = fun _ => 0 := funext fun a => by fin_cases a <;> rfl

variable (c : Dev nD) (i : grid0.Coords) (a2 : Memref sig .tc .vmem S1024x1024 .f32) (h2 : a2.IsWhole) (a3 : Memref sig .tc .vmem S1x1024 .f32) (h3 : a3.IsWhole)
  (a4 : Memref sig .tc .vmem S1024x1280 .bf16) (h4 : a4.IsWhole) (a5 : Memref sig .tc .vmem S1024x1280 .f32) (h5 : a5.IsWhole)
  (a6 : Memref sig .tc .vmem S1024x1024 .bf16) (h6 : a6.IsWhole)

/-- At a row block's first point the scratch takes the normalised rows. -/
theorem scratch_first (hc : cond0_0 i) (x : Vec Ideal S1024x1024 .f32) (g : Vec Ideal S1x1024 .f32) (w : Vec Ideal S1024x1280 .bf16) :
    sout0_A_0 c i a2 h2 a3 h3 a4 h4 a5 h5 a6 h6 hc x g w = k0_pay1 (F := Ideal) x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_cons_unit_zero (S := S1024x1024) origin]
  simp only [View.readAt_eq_ld, h2.read_unread, h3.read_unread, View.ld_unit_zero (S := S1024x1024) origin, View.ld_unit_zero (S := S1x1024) origin]

/-- … and the results take their product with the weights. -/
theorem result_first (hc : cond0_0 i) (x : Vec Ideal S1024x1024 .f32) (g : Vec Ideal S1x1024 .f32) (w : Vec Ideal S1024x1280 .bf16) :
    out0_A_3 c i a2 h2 a3 h3 a4 h4 a5 h5 a6 h6 hc x g w = k0_pay2 (F := Ideal) (k0_pay1 (F := Ideal) x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_cons_unit_zero (S := S1024x1280) origin, View.readCov_unit_zero (S := S1024x1024) _ origin]
  simp only [View.readAt_eq_ld, h2.read_unread, h3.read_unread, h4.read_unread, View.ld_unit_zero (S := S1024x1024) origin, View.ld_unit_zero (S := S1x1024) origin, View.ld_unit_zero (S := S1024x1280) origin]

/-- At the later points the results are the scratch's product with the weights. -/
theorem result_later (hc : ¬cond0_0 i) (x : Vec Ideal S1024x1024 .f32) (g : Vec Ideal S1x1024 .f32) (w : Vec Ideal S1024x1280 .bf16) (s : Vec Ideal S1024x1024 .bf16) :
    out0_B_3 c i a2 h2 a3 h3 a4 h4 a5 h5 a6 h6 hc x g w s = k0_pay2 (F := Ideal) s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_cons_unit_zero (S := S1024x1280) origin]
  simp only [View.readAt_eq_ld, h4.read_unread, h6.read_unread, View.ld_unit_zero (S := S1024x1024) origin, View.ld_unit_zero (S := S1024x1280) origin]

end Cert.Proj

end
-- ==== Proof.ProjValue.lean ====
/- The input projection: the array its run leaves is the normalised rows times the weights, place by place. -/
module

public import proofs.«01_k».proof.Proof.ProjSteps

@[expose] public section

set_option maxRecDepth 16384

noncomputable section

namespace Cert.Proj

open Idealize.ShloMosaic Idealize.ShloMosaic.TcCoe Idealize.ShloMosaic.ValueIdx Idealize.SL.Sem Cert.Kernel4Ideal Cert.Kernel4Ideal.Gen Cert.Kernel4Ideal.Value Cert.Norm
open scoped BigOperators

/-- Rows normalised, times a matrix of weights. -/
def projection (x : S32768x1024.Idx → EReal) (g : S1x1024.Idx → EReal) (w : S1024x8960.Idx → EReal) (r : Fin 32768) (j : Fin 8960) : EReal :=
  ∑ k : Fin 1024, normed (row x r) (row g 0) k * w (ix2 k j)

/-- A block's product with a block of weights, at a place. -/
theorem product_apply (s : Vec Ideal S1024x1024 .bf16) (w : Vec Ideal S1024x1280 .bf16) (r : Fin 1024) (j : Fin 1280) :
    k0_pay2 (F := Ideal) s w (ix2 r j) = ∑ k : Fin 1024, (s (ix2 r k) : EReal) * w (ix2 k j) := by
  refine (Ideal.matmul_plain_apply (M := 1024) (K := 1024) (N := 1280) (φ₁ := .bf16) (φ₂ := .bf16) none s w _ r j).trans ?_
  rw [zero_const, zero_add]

/-- A block of rows normalised, at a place. -/
theorem rows_apply (x : Vec Ideal S1024x1024 .f32) (g : Vec Ideal S1x1024 .f32) (r k : Fin 1024) :
    k0_pay1 (F := Ideal) x g (ix2 r k) = normed (row x r) (row g 0) k := by
  unfold k0_pay1
  dsimp only
  rw [shapeCast_self]
  exact block_normed (n := 1024) x g reduces_S1024x1024_S1024 _ _ shapeCasts_S1024_S1024x1 broadcasts_S1024x1_S1024x1024 broadcasts_S1x1024_S1024x1024 (by decide) r k

variable (m : (ℓ : Loc nD τ sig) → Buf (Elt Ideal) ℓ) (ρ : Dev nD → PrngReg) (c : Dev nD)

/-- The arrays of activations, gains and weights. -/
def xArr : S32768x1024.Idx → EReal := m ((c : Thread nD τ).loc main_arg0)
def gArr : S1x1024.Idx → EReal := m ((c : Thread nD τ).loc main_arg1)
def wArr : S1024x8960.Idx → EReal := m ((c : Thread nD τ).loc main_arg2)

/-- Which block of each array a grid point works on. -/
theorem blocks_at : ∀ t : Fin cfg0.N, (win0_0.index t (0 : Fin 2) = t.val / 7 ∧ win0_0.index t (1 : Fin 2) = 0)
    ∧ (win0_1.index t (0 : Fin 2) = 0 ∧ win0_1.index t (1 : Fin 2) = 0) ∧ win0_2.index t (0 : Fin 2) = 0 ∧ win0_2.index t (1 : Fin 2) = t.val % 7 :=
  (by decide +kernel : ∀ t : Fin grid0.N, _)

theorem points (t : Fin cfg0.N) : t.val < 224 := lt_of_lt_of_eq t.isLt (show cfg0.N = 224 from N_0)

/-- Row `r` of the block of rows of point `n`, and column `j` of its block of columns. -/
def rowAt (n : ℕ) (hn : n < cfg0.N) (r : Fin 1024) : Fin 32768 := ⟨n / 7 * 1024 + r.val, by have := points ⟨n, hn⟩; dsimp only at this; omega⟩
def colAt (n : ℕ) (j : Fin 1280) : Fin 8960 := ⟨n % 7 * 1280 + j.val, by omega⟩

theorem x_block (t : Fin cfg0.N) (r k : Fin 1024) : iblk m c 0 t (ix2 r k) = xArr m c (ix2 (rowAt t.val t.isLt r) k) := by
  obtain ⟨⟨e0, e1⟩, -⟩ := blocks_at t
  show V m c (Pipeline.arrRef spec0 0) ((((cfg0.win 0).blk t).view.emb (ix2 r k))) = _
  refine (congrFun (V_main_arg0 m c) _).trans (congrArg (m ((c : Thread nD τ).loc main_arg0)) (funext fun a => Fin.ext ?_))
  match a with
  | ⟨0, _⟩ => show win0_0.index t (0 : Fin 2) * 1024 + 1 * r.val = t.val / 7 * 1024 + r.val; rw [e0]; omega
  | ⟨1, _⟩ => show win0_0.index t (1 : Fin 2) * 1024 + 1 * k.val = k.val; rw [e1]; omega

theorem g_block (t : Fin cfg0.N) (k : Fin 1024) : iblk m c 1 t (ix2 (0 : Fin 1) k) = gArr m c (ix2 (0 : Fin 1) k) := by
  obtain ⟨-, ⟨e0, e1⟩, -⟩ := blocks_at t
  show V m c (Pipeline.arrRef spec0 1) ((((cfg0.win 1).blk t).view.emb (ix2 (0 : Fin 1) k))) = _
  refine (congrFun (V_main_arg1 m c) _).trans (congrArg (m ((c : Thread nD τ).loc main_arg1)) (funext fun a => Fin.ext ?_))
  match a with
  | ⟨0, _⟩ => show win0_1.index t (0 : Fin 2) * 1 + 1 * 0 = 0; rw [e0]
  | ⟨1, _⟩ => show win0_1.index t (1 : Fin 2) * 1024 + 1 * k.val = k.val; rw [e1]; omega

theorem w_block (t : Fin cfg0.N) (k : Fin 1024) (j : Fin 1280) : iblk m c 2 t (ix2 k j) = wArr m c (ix2 k (colAt t.val j)) := by
  obtain ⟨-, -, e0, e1⟩ := blocks_at t
  show V m c (Pipeline.arrRef spec0 2) ((((cfg0.win 2).blk t).view.emb (ix2 k j))) = _
  refine (congrFun (V_main_arg2 m c) _).trans (congrArg (m ((c : Thread nD τ).loc main_arg2)) (funext fun a => Fin.ext ?_))
  match a with
  | ⟨0, _⟩ => show win0_2.index t (0 : Fin 2) * 1024 + 1 * k.val = k.val; rw [e0]; omega
  | ⟨1, _⟩ => show win0_2.index t (1 : Fin 2) * 1280 + 1 * j.val = t.val % 7 * 1280 + j.val; rw [e1]; omega

/-- A point's rows normalised are those of the whole array. -/
theorem rows_at (t : Fin cfg0.N) (r k : Fin 1024) :
    k0_pay1 (F := Ideal) (iblk m c 0 t) (iblk m c 1 t) (ix2 r k) = normed (row (xArr m c) (rowAt t.val t.isLt r)) (row (gArr m c) 0) k := by
  refine (rows_apply _ _ r k).trans ?_
  have ex : row (iblk m c 0 t) r = row (xArr m c) (rowAt t.val t.isLt r) := funext fun j => x_block m c t r j
  have eg : row (iblk m c 1 t) 0 = row (gArr m c) 0 := funext fun j => g_block m c t j
  rw [ex, eg]

/-- What a row block's first point leaves, and what its later points leave over the point before. -/
theorem state_first (t : Fin cfg0.N) (h : t.val % 7 = 0) :
    outsAt0 m c t.val t.isLt = (k0_pay2 (F := Ideal) (k0_pay1 (F := Ideal) (iblk m c 0 t) (iblk m c 1 t)) (iblk m c 2 t), k0_pay1 (F := Ideal) (iblk m c 0 t) (iblk m c 1 t)) := by
  rw [outsAt0_A m c t h, result_first, scratch_first]

theorem state_later (t : Fin cfg0.N) (h : ¬t.val % 7 = 0) :
    outsAt0 m c t.val t.isLt = (k0_pay2 (F := Ideal) (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h, result_later]
  unfold sout0_B_0
  rfl

/-- After every point the scratch holds the normalised rows of the point's block of rows: the first point of a row block
    stores them and the later ones keep them. -/
theorem scratch_at : ∀ (n : ℕ) (hn : n < cfg0.N) (r k : Fin 1024),
    (outsAt0 m c n hn).2 (ix2 r k) = normed (row (xArr m c) (rowAt n hn r)) (row (gArr m c) 0) k := by
  intro n
  induction n with
  | zero =>
    intro hn r k
    rw [state_first m c ⟨0, hn⟩ (Nat.zero_mod 7)]
    exact rows_at m c ⟨0, hn⟩ r k
  | succ n ih =>
    intro hn r k
    by_cases h : (n + 1) % 7 = 0
    · rw [state_first m c ⟨n + 1, hn⟩ h]
      exact rows_at m c ⟨n + 1, hn⟩ r k
    · rw [state_later m c ⟨n + 1, hn⟩ h]
      refine (ih (Nat.lt_of_succ_lt hn) r k).trans ?_
      have e : rowAt n (Nat.lt_of_succ_lt hn) r = rowAt (n + 1) hn r := Fin.ext (by show n / 7 * 1024 + r.val = (n + 1) / 7 * 1024 + r.val; omega)
      rw [e]

/-- After every point the block of results is the projection's. -/
theorem result_at (t : Fin cfg0.N) (r : Fin 1024) (j : Fin 1280) :
    (outsAt0 m c t.val t.isLt).1 (ix2 r j) = projection (xArr m c) (gArr m c) (wArr m c) (rowAt t.val t.isLt r) (colAt t.val j) := by
  by_cases h : t.val % 7 = 0
  · rw [state_first m c t h]
    refine (product_apply _ _ r j).trans (Finset.sum_congr rfl fun k _ => ?_)
    rw [rows_at m c t r k, w_block m c t k j]
  · rw [state_later m c t h]
    refine (product_apply _ _ r j).trans (Finset.sum_congr rfl fun k _ => ?_)
    have h0 : 0 < t.val := Nat.pos_of_ne_zero fun e => h (by rw [e])
    have e : rowAt (t.val - 1) (Nat.lt_of_le_of_lt (Nat.sub_le _ _) t.isLt) r = rowAt t.val t.isLt r :=
      Fin.ext (by show (t.val - 1) / 7 * 1024 + r.val = t.val / 7 * 1024 + r.val; omega)
    rw [scratch_at m c (t.val - 1) _ r k, w_block m c t k j, e]

/-- The array the run leaves is the projection. -/
theorem array_eq : G3 m c = fun i => projection (xArr m c) (gArr m c) (wArr m c) (i 0) (i 1) := by
  funext i
  have h0 : (i 0).val < 32768 := (i 0).isLt
  have h1 : (i 1).val < 8960 := (i 1).isLt
  have hN : cfg0.N = 224 := N_0
  have hp : pt3Of i < cfg0.N := by
    rw [hN]
    show 7 * ((i 0).val / 1024 - 0) + 1 * ((i 1).val / 1280 - 0) < 224
    omega
  have hl : loc3Of i = ix2 (⟨(i 0).val % 1024, Nat.mod_lt _ (by decide)⟩ : Fin 1024) (⟨(i 1).val % 1280, Nat.mod_lt _ (by decide)⟩ : Fin 1280) := by
    funext a
    match a with
    | ⟨0, _⟩ => rfl
    | ⟨1, _⟩ => rfl
  unfold G3
  rw [dif_pos hp, ← outsAt0_sweep m c (pt3Of i) hp, hl]
  refine (result_at m c ⟨pt3Of i, hp⟩ _ _).trans ?_
  have er : rowAt (pt3Of i) hp ⟨(i 0).val % 1024, Nat.mod_lt _ (by decide)⟩ = i 0 := Fin.ext (by
    show (7 * ((i 0).val / 1024 - 0) + 1 * ((i 1).val / 1280 - 0)) / 7 * 1024 + (i 0).val % 1024 = (i 0).val
    omega)
  have ec : colAt (pt3Of i) ⟨(i 1).val % 1280, Nat.mod_lt _ (by decide)⟩ = i 1 := Fin.ext (by
    show (7 * ((i 0).val / 1024 - 0) + 1 * ((i 1).val / 1280 - 0)) % 7 * 1280 + (i 1).val % 1280 = (i 1).val
    omega)
  show projection _ _ _ (rowAt (pt3Of i) hp _) (colAt (pt3Of i) _) = _
  rw [er, ec]

end Cert.Proj

end
-- ==== Proof.ProjRef.lean ====
/- The input projection's reference, place by place: the rows normalised, then the product with the weights. -/
module

public import proofs.«01_k».proof.Proof.Gen.Reference4Ideal.Run
public import proofs.«01_k».proof.Proof.Norm

@[expose] public section

noncomputable section

namespace Cert.Proj

open Idealize.ShloMosaic Idealize.ShloMosaic.TcCoe Idealize.ShloMosaic.ValueIdx Idealize.SL.Sem Cert.Reference4Ideal Cert.Reference4Ideal.Gen Cert.Norm
open scoped BigOperators

/-- A product of rows and weights by host operations, at a place. -/
theorem host_product (A : FVec Ideal S32768x1024 .f32) (W : FVec Ideal S1024x8960 .f32) (r : Fin 32768) (j : Fin 8960) :
    Host.dotGeneral (F := Ideal) dot_S32768x1024_S1024x8960_S32768x8960_1_0_0_1_n_n none A W (ix2 r j) = ∑ k : Fin 1024, (A (ix2 r k) : EReal) * W (ix2 k j) := by
  refine (Ideal.matmul_plain_apply (M := 32768) (K := 1024) (N := 8960) (φ₁ := .f32) (φ₂ := .f32) none A W (fun _ => 0) r j).trans (zero_add _)

theorem reduces_rows : S32768x1024.Reduces [1] S32768 := by decide

/-- The reference's result on a memory is the projection of its arguments. -/
theorem reference_apply (x : FVec Ideal S32768x1024 .f32) (g : FVec Ideal S1x1024 .f32) (w : FVec Ideal S1024x8960 .bf16) (r : Fin 32768) (j : Fin 8960) :
    Host.dotGeneral (F := Ideal) dot_S32768x1024_S1024x8960_S32768x8960_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)) (extf .f32 w bitsLt_bf16_f32) (ix2 r j)
      = ∑ k : Fin 1024, normed (row x r) (row g 0) k * w (ix2 k j) := by
  refine (host_product _ _ r j).trans (Finset.sum_congr rfl fun k _ => ?_)
  exact congrArg (· * (w (ix2 k j) : EReal)) (host_normed (n := 32768) x g reducesTo_S32768x1024_S32768_d1 h_S_ reduces_rows
    bcast_S32768_S32768x1_0 bcast_S_S32768x1 bcast_S_S32768x1 bcast_S32768x1_S32768x1024_0_1 bcast_S1x1024_S32768x1024_0_1 (by decide) r k)

end Cert.Proj

end
-- ==== Proof.ProjClaims.lean ====
/- The claims of the input projection call: the frames of its kernel, of the ideal reading and of the reference, and the value
   claim, none of which asks anything of the arguments. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.ProjValue
public import proofs.«01_k».proof.Proof.ProjRef
public import Idealize.ShloMosaic.Adequacy
public import Idealize.ShloMosaic.Init

@[expose] public section

noncomputable section

namespace Cert.Proj

open Idealize.ShloMosaic Idealize.ShloMosaic.ValueIdx Idealize.SL.Sem Cert.Norm

/-- The kernel's frame: it runs, its arguments and its counters end as they began. -/
theorem frame_kernel : Cert.quiescent_Kernel4 (hKernel4 := Cert.Kernel4.Gen.facts) := fun m ρ _ => Cert.Kernel4.Gen.frame m ρ

/-- The ideal kernel's frame. -/
theorem frame_ideal : Cert.quiescent_Kernel4Ideal (hKernel4Ideal := Cert.Kernel4Ideal.Gen.facts) := fun m ρ _ => Cert.Kernel4Ideal.Gen.frame m ρ

/-- The reference's frame: host operations alone, and no counter. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The ideal kernel is the kernel's own text read over the extended reals: no operation is rewritten. -/
theorem preserved : Cert.preserves_Kernel4_Kernel4Ideal := trivial

/-- The value claim: both programs leave the projection of the kernel's arguments. -/
theorem value : Cert.algebraic_Kernel4Ideal_Reference4Ideal (hKernel4Ideal := Cert.Kernel4Ideal.Gen.facts) (hReference4Ideal := Cert.Reference4Ideal.Gen.facts) := by
  intro m ρ m' ρ' _ hm
  refine ⟨fun c i => projection (xArr m c) (gArr m c) (wArr m c) (i 0) (i 1), ?_, ?_⟩
  · exact (θ_run Cert.Kernel4Ideal.defs _ _).mono (fun r hr c => ⟨(hr c).1.trans (array_eq m c), (hr c).2⟩) (Cert.Kernel4Ideal.Value.run (F := Ideal) m ρ)
  · refine (θ_run Cert.Reference4Ideal.defs _ _).mono (fun r hr c => ⟨?_, (hr c).2⟩) (Cert.Reference4Ideal.Value.run (F := Ideal) m' ρ')
    obtain ⟨h0, h1, h2⟩ := hm c
    refine (hr c).1.trans ?_
    rw [h0, h1, h2]
    funext i
    have e : i = ix2 (i 0) (i 1) := funext fun a => by
      match a with
      | ⟨0, _⟩ => rfl
      | ⟨1, _⟩ => rfl
    rw [e]
    exact reference_apply (xArr m c) (gArr m c) (wArr m c) (i 0) (i 1)

end Cert.Proj

end
-- ==== Proof.MergeSteps.lean ====
/- The merge of the branches: what one grid point leaves in its block of results, as a value of the blocks it loads. -/
module

public import proofs.«01_k».proof.Proof.Gen.Kernel5Ideal.Value
public import proofs.«01_k».proof.Proof.Norm

@[expose] public section

set_option maxRecDepth 16384

noncomputable section

namespace Cert.Merge

open Idealize.ShloMosaic Idealize.ShloMosaic.TcCoe Idealize.ShloMosaic.ValueIdx Idealize.ShloMosaic.Tactic Idealize.SL.Sem Cert.Kernel5Ideal Cert.Kernel5Ideal.Gen

theorem origin : (![0, 0] : Fin 2 → Nat) = fun _ => 0 := funext fun a => by fin_cases a <;> rfl

/-- Gate `n` of a block of rows: its 1024 of the 3072 columns. -/
def gateBlock (z : Vec Ideal S512x3072 .f32) (n : Fin 3) : Vec Ideal S512x1024 .f32 :=
  fun y => z (ix2 (y 0) (⟨1024 * n.val + (y 1).val, by have := (y 1).isLt; simp only [Matrix.cons_val_one, Matrix.cons_val_zero] at this; omega⟩ : Fin 3072))

theorem load_gate (z : Vec Ideal S512x3072 .f32) (n : Fin 3) (o : ℕ) (ho : o = 1024 * n.val) (inb) :
    View.ld (Val := Elt Ideal) (e' := .f32) z (Rect.unit (s := S512x3072) ![0, o] S512x1024.size inb) = gateBlock z n := by
  funext y
  refine congrArg z (funext fun a => Fin.ext ?_)
  match a with
  | ⟨0, _⟩ => show 0 + 1 * (y 0).val = (y 0).val; omega
  | ⟨1, _⟩ => show o + 1 * (y 1).val = 1024 * n.val + (y 1).val; omega

variable (c : Dev nD) (i : grid0.Coords) (a1 : Memref sig .tc .vmem S512x1024 .f32) (h1 : a1.IsWhole) (a2 : Memref sig .tc .vmem S512x512 .f32) (h2 : a2.IsWhole)
  (a3 : Memref sig .tc .vmem S512x512 .f32) (h3 : a3.IsWhole) (a4 : Memref sig .tc .vmem S512x512 .f32) (h4 : a4.IsWhole)
  (a5 : Memref sig .tc .vmem S512x3072 .f32) (h5 : a5.IsWhole) (a6 : Memref sig .tc .vmem S512x1024 .bf16) (h6 : a6.IsWhole)
  (a7 : Memref sig .tc .vmem S512x1024 .bf16) (h7 : a7.IsWhole) (a8 : Memref sig .tc .vmem S512x1024 .bf16) (h8 : a8.IsWhole)
  (a9 : Memref sig .tc .vmem S1024x1024 .bf16) (h9 : a9.IsWhole) (a10 : Memref sig .tc .vmem S512x1024 .f32) (h10 : a10.IsWhole)

/-- What a point leaves is the body's arithmetic on the blocks of rows, branches, gates and weights. -/
theorem result (x : Vec Ideal S512x1024 .f32) (oa ob oc : Vec Ideal S512x512 .f32) (z : Vec Ideal S512x3072 .f32)
    (wa wb wc : Vec Ideal S512x1024 .bf16) (wo : Vec Ideal S1024x1024 .bf16) :
    out0_A_9 c i a1 h1 a2 h2 a3 h3 a4 h4 a5 h5 a6 h6 a7 h7 a8 h8 a9 h9 a10 h10 x oa ob oc z wa wb wc wo
      = k0_pay1 (F := Ideal) (gateBlock z 0) oa wa (gateBlock z 1) ob wb (gateBlock z 2) oc wc x wo := by
  unfold out0_A_9
  rw [View.read_writes_eq_canon _ _ _ (cover0_A_9 c i a1 h1 a2 h2 a3 h3 a4 h4 a5 h5 a6 h6 a7 h7 a8 h8 a9 h9 a10 h10 x oa ob oc z wa wb wc wo)]
  unfold kernelRun0_A
  dsimp only
  sl_unfold_words
  rw [View.canon_cons_unit_zero (S := S512x1024) origin]
  simp only [View.readAt_eq_ld, h1.read_unread, h2.read_unread, h3.read_unread, h4.read_unread, h5.read_unread, h6.read_unread, h7.read_unread, h8.read_unread, h9.read_unread,
    View.ld_unit_zero (S := S512x1024) origin, View.ld_unit_zero (S := S512x512) origin, View.ld_unit_zero (S := S1024x1024) origin,
    load_gate z 0 0 rfl, load_gate z 1 1024 rfl, load_gate z 2 2048 rfl]

end Cert.Merge

end
-- ==== Proof.MergeValue.lean ====
/- The merge of the branches: the array its run leaves, place by place. -/
module

public import proofs.«01_k».proof.Proof.MergeSteps
public import Idealize.ShloMosaic.Lib.Pipeline.ValueKit.Geometry

@[expose] public section

set_option maxRecDepth 16384

noncomputable section

namespace Cert.Merge

open Idealize.ShloMosaic Idealize.ShloMosaic.TcCoe Idealize.ShloMosaic.ValueIdx Idealize.SL.Sem Cert.Kernel5Ideal Cert.Kernel5Ideal.Gen Cert.Kernel5Ideal.Value Cert.Norm
open scoped BigOperators

/-- Column `q` of gate `n` among the projection's columns: the gates come first. -/
def gateCol (n : Fin 3) (q : Fin 1024) : Fin 8960 := ⟨1024 * n.val + q.val, by omega⟩

/-- One branch's share of a merged column: its gate, through `z ↦ 1 / (1 + e^(-z))`, times its output's product. -/
def branch (z : EReal) (O W : Fin 512 → EReal) : EReal := Ideal.logistic z * ∑ k, O k * W k

/-- The rows plus the merged branches' product with the output weights, at a place. -/
def joined (x : S32768x1024.Idx → EReal) (oa ob oc : S32768x512.Idx → EReal) (z : S32768x8960.Idx → EReal) (wa wb wc : S512x1024.Idx → EReal)
    (wo : S1024x1024.Idx → EReal) (r : Fin 32768) (l : Fin 1024) : EReal :=
  x (ix2 r l) + ∑ q : Fin 1024, (branch (z (ix2 r (gateCol 0 q))) (row oa r) (col wa q) + branch (z (ix2 r (gateCol 1 q))) (row ob r) (col wb q)
    + branch (z (ix2 r (gateCol 2 q))) (row oc r) (col wc q)) * wo (ix2 q l)

theorem branch_product (s : Vec Ideal S512x512 .bf16) (w : Vec Ideal S512x1024 .bf16) (r : Fin 512) (q : Fin 1024) :
    matmul (F := Ideal) (φ₁ := .bf16) (φ₂ := .bf16) dot_S512x512_S512x1024_S512x1024_1_0_0_1_n_n none s w (constant S512x1024 .f32 0x00000000#32) (ix2 r q)
      = ∑ k : Fin 512, row s r k * col w q k := by
  refine (Ideal.matmul_plain_apply (M := 512) (K := 512) (N := 1024) (φ₁ := .bf16) (φ₂ := .bf16) none s w _ r q).trans ?_
  rw [zero_const, zero_add]
  rfl

theorem out_product (s : Vec Ideal S512x1024 .bf16) (w : Vec Ideal S1024x1024 .bf16) (r : Fin 512) (l : Fin 1024) :
    matmul (F := Ideal) (φ₁ := .bf16) (φ₂ := .bf16) dot_S512x1024_S1024x1024_S512x1024_1_0_0_1_n_n none s w (constant S512x1024 .f32 0x00000000#32) (ix2 r l)
      = ∑ q : Fin 1024, (s (ix2 r q) : EReal) * w (ix2 q l) := by
  refine (Ideal.matmul_plain_apply (M := 512) (K := 1024) (N := 1024) (φ₁ := .bf16) (φ₂ := .bf16) none s w _ r l).trans ?_
  rw [zero_const, zero_add]

/-- The three gated products summed from zero, at a place. -/
theorem gating {S : Shape} (Z0 M0 Z1 M1 Z2 M2 : FVec Ideal S .f32) (i : S.Idx) (h : FTy.bf16.bits < FTy.f32.bits) :
    (truncf .bf16 (addf (addf (addf (broadcast S (Scalar.ofBits (F := Ideal) .f32 0x00000000#32)) (mulf (logistic Z0) M0)) (mulf (logistic Z1) M1)) (mulf (logistic Z2) M2)) h i : EReal)
      = Ideal.logistic (Z0 i) * M0 i + Ideal.logistic (Z1 i) * M1 i + Ideal.logistic (Z2 i) * M2 i := by
  show (Ideal.ofBits .f32 0x00000000#32 + Ideal.logistic (Z0 i) * M0 i) + Ideal.logistic (Z1 i) * M1 i + Ideal.logistic (Z2 i) * M2 i = _
  have e : Ideal.ofBits .f32 0x00000000#32 = (0 : EReal) := zero_const S i
  rw [e, zero_add]

/-- A block of results, at a place. -/
theorem block_apply (x : Vec Ideal S512x1024 .f32) (oa ob oc : Vec Ideal S512x512 .f32) (z0 z1 z2 : Vec Ideal S512x1024 .f32)
    (wa wb wc : Vec Ideal S512x1024 .bf16) (wo : Vec Ideal S1024x1024 .bf16) (r : Fin 512) (l : Fin 1024) :
    k0_pay1 (F := Ideal) z0 oa wa z1 ob wb z2 oc wc x wo (ix2 r l)
      = (x (ix2 r l) : EReal) + ∑ q : Fin 1024, (branch (z0 (ix2 r q)) (row oa r) (col wa q) + branch (z1 (ix2 r q)) (row ob r) (col wb q)
          + branch (z2 (ix2 r q)) (row oc r) (col wc q)) * wo (ix2 q l) := by
  unfold k0_pay1
  refine congrArg ((x (ix2 r l) : EReal) + ·) ((out_product _ _ r l).trans (Finset.sum_congr rfl fun q _ => congrArg (· * (wo (ix2 q l) : EReal)) ?_))
  rw [gating, branch_product, branch_product, branch_product]
  rfl

variable (m : (ℓ : Loc nD τ sig) → Buf (Elt Ideal) ℓ) (ρ : Dev nD → PrngReg) (c : Dev nD)

/-- The arrays of rows, branch outputs, projections and weights. -/
def xArr : S32768x1024.Idx → EReal := m ((c : Thread nD τ).loc main_arg0)
def aArr : S32768x512.Idx → EReal := m ((c : Thread nD τ).loc main_arg1)
def bArr : S32768x512.Idx → EReal := m ((c : Thread nD τ).loc main_arg2)
def dArr : S32768x512.Idx → EReal := m ((c : Thread nD τ).loc main_arg3)
def zArr : S32768x8960.Idx → EReal := m ((c : Thread nD τ).loc main_arg4)
def waArr : S512x1024.Idx → EReal := m ((c : Thread nD τ).loc main_arg5)
def wbArr : S512x1024.Idx → EReal := m ((c : Thread nD τ).loc main_arg6)
def wdArr : S512x1024.Idx → EReal := m ((c : Thread nD τ).loc main_arg7)
def woArr : S1024x1024.Idx → EReal := m ((c : Thread nD τ).loc main_arg8)

/-- Which block of each array a grid point works on. -/
theorem rows_of : ∀ t : Fin cfg0.N, (win0_0.index t = ![t.val, 0] ∧ win0_1.index t = ![t.val, 0] ∧ win0_2.index t = ![t.val, 0])
    ∧ win0_3.index t = ![t.val, 0] ∧ win0_4.index t = ![t.val, 0] ∧ win0_9.index t = ![t.val, 0] :=
  (by decide +kernel : ∀ t : Fin grid0.N, _)

theorem weights_of : ∀ t : Fin cfg0.N, (win0_5.index t = ![0, 0] ∧ win0_6.index t = ![0, 0]) ∧ win0_7.index t = ![0, 0] ∧ win0_8.index t = ![0, 0] :=
  (by decide +kernel : ∀ t : Fin grid0.N, _)

theorem points (t : Fin cfg0.N) : t.val < 64 := lt_of_lt_of_eq t.isLt (show cfg0.N = 64 from N_0)

/-- Row `r` of point `t`'s block of rows. -/
def rowAt (t : Fin cfg0.N) (r : Fin 512) : Fin 32768 := ⟨t.val * 512 + r.val, by have := points t; omega⟩

theorem x_block (t : Fin cfg0.N) (r : Fin 512) (k : Fin 1024) : iblk m c 0 t (ix2 r k) = xArr m c (ix2 (rowAt t r) k) := by
  have e := (rows_of t).1.1
  show V m c (Pipeline.arrRef spec0 0) ((((cfg0.win 0).blk t).view.emb (ix2 r k))) = _
  refine (congrFun (V_main_arg0 m c) _).trans (congrArg (m ((c : Thread nD τ).loc main_arg0)) (funext fun a => Fin.ext ?_))
  match a with
  | ⟨0, _⟩ => show win0_0.index t (0 : Fin 2) * 512 + 1 * r.val = t.val * 512 + r.val; rw [e]; show t.val * 512 + 1 * r.val = _; omega
  | ⟨1, _⟩ => show win0_0.index t (1 : Fin 2) * 1024 + 1 * k.val = k.val; rw [e]; show 0 * 1024 + 1 * k.val = _; omega

theorem a_block (t : Fin cfg0.N) (r k : Fin 512) : iblk m c 1 t (ix2 r k) = aArr m c (ix2 (rowAt t r) k) := by
  have e := (rows_of t).1.2.1
  show V m c (Pipeline.arrRef spec0 1) ((((cfg0.win 1).blk t).view.emb (ix2 r k))) = _
  refine (congrFun (V_main_arg1 m c) _).trans (congrArg (m ((c : Thread nD τ).loc main_arg1)) (funext fun a => Fin.ext ?_))
  match a with
  | ⟨0, _⟩ => show win0_1.index t (0 : Fin 2) * 512 + 1 * r.val = t.val * 512 + r.val; rw [e]; show t.val * 512 + 1 * r.val = _; omega
  | ⟨1, _⟩ => show win0_1.index t (1 : Fin 2) * 512 + 1 * k.val = k.val; rw [e]; show 0 * 512 + 1 * k.val = _; omega

theorem b_block (t : Fin cfg0.N) (r k : Fin 512) : iblk m c 2 t (ix2 r k) = bArr m c (ix2 (rowAt t r) k) := by
  have e := (rows_of t).1.2.2
  show V m c (Pipeline.arrRef spec0 2) ((((cfg0.win 2).blk t).view.emb (ix2 r k))) = _
  refine (congrFun (V_main_arg2 m c) _).trans (congrArg (m ((c : Thread nD τ).loc main_arg2)) (funext fun a => Fin.ext ?_))
  match a with
  | ⟨0, _⟩ => show win0_2.index t (0 : Fin 2) * 512 + 1 * r.val = t.val * 512 + r.val; rw [e]; show t.val * 512 + 1 * r.val = _; omega
  | ⟨1, _⟩ => show win0_2.index t (1 : Fin 2) * 512 + 1 * k.val = k.val; rw [e]; show 0 * 512 + 1 * k.val = _; omega

theorem d_block (t : Fin cfg0.N) (r k : Fin 512) : iblk m c 3 t (ix2 r k) = dArr m c (ix2 (rowAt t r) k) := by
  have e := (rows_of t).2.1
  show V m c (Pipeline.arrRef spec0 3) ((((cfg0.win 3).blk t).view.emb (ix2 r k))) = _
  refine (congrFun (V_main_arg3 m c) _).trans (congrArg (m ((c : Thread nD τ).loc main_arg3)) (funext fun a => Fin.ext ?_))
  match a with
  | ⟨0, _⟩ => show win0_3.index t (0 : Fin 2) * 512 + 1 * r.val = t.val * 512 + r.val; rw [e]; show t.val * 512 + 1 * r.val = _; omega
  | ⟨1, _⟩ => show win0_3.index t (1 : Fin 2) * 512 + 1 * k.val = k.val; rw [e]; show 0 * 512 + 1 * k.val = _; omega

/-- The gates' block lies inside the projection's columns, so all of it is loaded. -/
theorem gate_at (t : Fin cfg0.N) (n : Fin 3) (r : Fin 512) (q : Fin 1024) : gateBlock (X0_4 m c t) n (ix2 r q) = zArr m c (ix2 (rowAt t r) (gateCol n q)) := by
  have e := (rows_of t).2.2.1
  unfold gateBlock X0_4 Pipeline.Window.fill
  rw [dif_pos (moved0_4 t _)]
  show V m c (Pipeline.arrRef spec0 4) (((cfg0.win 4).blk t).view.emb _) = _
  refine (congrFun (V_main_arg4 m c) _).trans (congrArg (m ((c : Thread nD τ).loc main_arg4)) (funext fun a => Fin.ext ?_))
  match a with
  | ⟨0, _⟩ => show win0_4.index t (0 : Fin 2) * 512 + 1 * r.val = t.val * 512 + r.val; rw [e]; show t.val * 512 + 1 * r.val = _; omega
  | ⟨1, _⟩ => show win0_4.index t (1 : Fin 2) * 3072 + 1 * (1024 * n.val + q.val) = 1024 * n.val + q.val; rw [e]; show 0 * 3072 + 1 * (1024 * n.val + q.val) = _; omega

theorem wa_block (t : Fin cfg0.N) (k : Fin 512) (q : Fin 1024) : iblk m c 5 t (ix2 k q) = waArr m c (ix2 k q) := by
  have e := (weights_of t).1.1
  show V m c (Pipeline.arrRef spec0 5) ((((cfg0.win 5).blk t).view.emb (ix2 k q))) = _
  refine (congrFun (V_main_arg5 m c) _).trans (congrArg (m ((c : Thread nD τ).loc main_arg5)) (funext fun a => Fin.ext ?_))
  match a with
  | ⟨0, _⟩ => show win0_5.index t (0 : Fin 2) * 512 + 1 * k.val = k.val; rw [e]; show 0 * 512 + 1 * k.val = _; omega
  | ⟨1, _⟩ => show win0_5.index t (1 : Fin 2) * 1024 + 1 * q.val = q.val; rw [e]; show 0 * 1024 + 1 * q.val = _; omega

theorem wb_block (t : Fin cfg0.N) (k : Fin 512) (q : Fin 1024) : iblk m c 6 t (ix2 k q) = wbArr m c (ix2 k q) := by
  have e := (weights_of t).1.2
  show V m c (Pipeline.arrRef spec0 6) ((((cfg0.win 6).blk t).view.emb (ix2 k q))) = _
  refine (congrFun (V_main_arg6 m c) _).trans (congrArg (m ((c : Thread nD τ).loc main_arg6)) (funext fun a => Fin.ext ?_))
  match a with
  | ⟨0, _⟩ => show win0_6.index t (0 : Fin 2) * 512 + 1 * k.val = k.val; rw [e]; show 0 * 512 + 1 * k.val = _; omega
  | ⟨1, _⟩ => show win0_6.index t (1 : Fin 2) * 1024 + 1 * q.val = q.val; rw [e]; show 0 * 1024 + 1 * q.val = _; omega

theorem wd_block (t : Fin cfg0.N) (k : Fin 512) (q : Fin 1024) : iblk m c 7 t (ix2 k q) = wdArr m c (ix2 k q) := by
  have e := (weights_of t).2.1
  show V m c (Pipeline.arrRef spec0 7) ((((cfg0.win 7).blk t).view.emb (ix2 k q))) = _
  refine (congrFun (V_main_arg7 m c) _).trans (congrArg (m ((c : Thread nD τ).loc main_arg7)) (funext fun a => Fin.ext ?_))
  match a with
  | ⟨0, _⟩ => show win0_7.index t (0 : Fin 2) * 512 + 1 * k.val = k.val; rw [e]; show 0 * 512 + 1 * k.val = _; omega
  | ⟨1, _⟩ => show win0_7.index t (1 : Fin 2) * 1024 + 1 * q.val = q.val; rw [e]; show 0 * 1024 + 1 * q.val = _; omega

theorem wo_block (t : Fin cfg0.N) (q l : Fin 1024) : iblk m c 8 t (ix2 q l) = woArr m c (ix2 q l) := by
  have e := (weights_of t).2.2
  show V m c (Pipeline.arrRef spec0 8) ((((cfg0.win 8).blk t).view.emb (ix2 q l))) = _
  refine (congrFun (V_main_arg8 m c) _).trans (congrArg (m ((c : Thread nD τ).loc main_arg8)) (funext fun a => Fin.ext ?_))
  match a with
  | ⟨0, _⟩ => show win0_8.index t (0 : Fin 2) * 1024 + 1 * q.val = q.val; rw [e]; show 0 * 1024 + 1 * q.val = _; omega
  | ⟨1, _⟩ => show win0_8.index t (1 : Fin 2) * 1024 + 1 * l.val = l.val; rw [e]; show 0 * 1024 + 1 * l.val = _; omega

/-- After every point the block of results is the merge's. -/
theorem result_at (t : Fin cfg0.N) (r : Fin 512) (l : Fin 1024) :
    outsAt0 m c t (ix2 r l) = joined (xArr m c) (aArr m c) (bArr m c) (dArr m c) (zArr m c) (waArr m c) (wbArr m c) (wdArr m c) (woArr m c) (rowAt t r) l := by
  have ea : row (iblk m c 1 t) r = row (aArr m c) (rowAt t r) := funext fun k => a_block m c t r k
  have eb : row (iblk m c 2 t) r = row (bArr m c) (rowAt t r) := funext fun k => b_block m c t r k
  have ed : row (iblk m c 3 t) r = row (dArr m c) (rowAt t r) := funext fun k => d_block m c t r k
  unfold outsAt0
  rw [result, block_apply, x_block]
  unfold joined
  refine congrArg (xArr m c (ix2 (rowAt t r) l) + ·) (Finset.sum_congr rfl fun q _ => ?_)
  have fa : col (iblk m c 5 t) q = col (waArr m c) q := funext fun k => wa_block m c t k q
  have fb : col (iblk m c 6 t) q = col (wbArr m c) q := funext fun k => wb_block m c t k q
  have fd : col (iblk m c 7 t) q = col (wdArr m c) q := funext fun k => wd_block m c t k q
  rw [ea, eb, ed, fa, fb, fd, gate_at, gate_at, gate_at, wo_block]

/-- A place of a block of results, in the whole array. -/
theorem out_place (t : Fin cfg0.N) (r : Fin 512) (l : Fin 1024) : ((cfg0.win 9).blk t).view.emb (ix2 r l) = ix2 (rowAt t r) l := by
  have e := (rows_of t).2.2.2
  funext a
  apply Fin.ext
  match a with
  | ⟨0, _⟩ => show win0_9.index t (0 : Fin 2) * 512 + 1 * r.val = t.val * 512 + r.val; rw [e]; show t.val * 512 + 1 * r.val = _; omega
  | ⟨1, _⟩ => show win0_9.index t (1 : Fin 2) * 1024 + 1 * l.val = l.val; rw [e]; show 0 * 1024 + 1 * l.val = _; omega

theorem covers : (cfg0.win 9).Covers := by decide +kernel

/-- The merge of the kernel's arguments, as an array. -/
def whole : S32768x1024.Idx → EReal := fun i =>
  joined (xArr m c) (aArr m c) (bArr m c) (dArr m c) (zArr m c) (waArr m c) (wbArr m c) (wdArr m c) (woArr m c) (i 0) (i 1)

/-- The array the run leaves is the merge. -/
theorem array_eq : (dats m 0 c).arrAt 9 cfg0.N = whole m c := by
  refine (dats m 0 c).arrAt_eq_of_covers 9 _ covers fun t _ y => ?_
  obtain ⟨r, l, rfl⟩ : ∃ (r : Fin 512) (l : Fin 1024), y = ix2 r l := ⟨y 0, y 1, eq_ix2 y⟩
  refine Eq.trans ?_ (congrArg (whole m c) (out_place t r l)).symm
  refine Eq.trans ?_ (result_at m c t r l)
  exact congrFun (after0_9 m c t) (ix2 r l)

end Cert.Merge

end
-- ==== Proof.MergeRef.lean ====
/- The merge's reference, place by place: the gates, the three products, their sum, the output product and the rows added. -/
module

public import proofs.«01_k».proof.Proof.Gen.Reference5Ideal.Run
public import proofs.«01_k».proof.Proof.MergeValue

@[expose] public section

noncomputable section

namespace Cert.Merge

open Idealize.ShloMosaic Idealize.ShloMosaic.TcCoe Idealize.ShloMosaic.ValueIdx Idealize.SL.Sem Cert.Reference5Ideal Cert.Reference5Ideal.Gen Cert.Norm
open scoped BigOperators

/-- The products by host operations, at a place. -/
theorem host_branch (A : FVec Ideal S32768x512 .f32) (W : FVec Ideal S512x1024 .bf16) (r : Fin 32768) (q : Fin 1024) :
    Host.dotGeneral (F := Ideal) dot_S32768x512_S512x1024_S32768x1024_1_0_0_1_n_n none A (extf .f32 W bitsLt_bf16_f32) (ix2 r q) = ∑ k : Fin 512, row A r k * col W q k :=
  (Ideal.matmul_plain_apply (M := 32768) (K := 512) (N := 1024) (φ₁ := .f32) (φ₂ := .f32) none A (extf .f32 W bitsLt_bf16_f32) (fun _ => 0) r q).trans (zero_add _)

theorem host_merged (A : FVec Ideal S32768x1024 .f32) (W : FVec Ideal S1024x1024 .bf16) (r : Fin 32768) (l : Fin 1024) :
    Host.dotGeneral (F := Ideal) dot_S32768x1024_S1024x1024_S32768x1024_1_0_0_1_n_n none A (extf .f32 W bitsLt_bf16_f32) (ix2 r l) = ∑ q : Fin 1024, (A (ix2 r q) : EReal) * W (ix2 q l) :=
  (Ideal.matmul_plain_apply (M := 32768) (K := 1024) (N := 1024) (φ₁ := .f32) (φ₂ := .f32) none A (extf .f32 W bitsLt_bf16_f32) (fun _ => 0) r l).trans (zero_add _)

/-- The gates' logistic, written out, at a place. -/
theorem host_logistic {S : Shape} (O O' A : FVec Ideal S .f32) (i : S.Idx) (h : O i = (1 : EReal)) (h' : O' i = (1 : EReal)) :
    Host.divf O (addf O' (Host.exp (Host.negf A))) i = Ideal.logistic (A i) := by
  show Ideal.div (O i) (O' i + Ideal.exp (-(A i : EReal))) = _
  rw [h, h']
  rfl

theorem ones (i : S32768x3072.Idx) : broadcastInDim S32768x3072 ![] bcast_S_S32768x3072 (constant (F := Ideal) S_ .f32 0x3F800000#32) i = (1 : EReal) :=
  (broadcastInDim_scalar_apply bcast_S_S32768x3072 _ i).trans Ideal.ofBits_one_f32

/-- The reference's gates, side by side. -/
abbrev gatesArr (z : FVec Ideal S32768x8960 .f32) : FVec Ideal S32768x3072 .f32 :=
  Host.divf (broadcastInDim S32768x3072 ![] bcast_S_S32768x3072 (constant S_ .f32 0x3F800000#32)) (addf (broadcastInDim S32768x3072 ![] bcast_S_S32768x3072 (constant S_ .f32 0x3F800000#32)) (Host.exp (Host.negf (extractStridedSlice S32768x3072 ![0, 0] z slices_S32768x8960_S32768x3072_0_0))))

/-- One of them, at a place. -/
theorem gate_apply (z : FVec Ideal S32768x8960 .f32) (n : Fin 3) (o : ℕ) (ho : o = n.val) (hs) (r : Fin 32768) (q : Fin 1024) :
    shapeCast S32768x1024 (extractStridedSlice S32768x1x1024 ![0, o, 0] (shapeCast S32768x3x1024 (gatesArr z) shapeCasts_S32768x3072_S32768x3x1024) hs) shapeCasts_S32768x1x1024_S32768x1024 (ix2 r q)
      = Ideal.logistic (z (ix2 r (gateCol n q))) := by
  subst ho
  rw [shapeCast_apply _ shapeCasts_S32768x1x1024_S32768x1024 _ (ix3 r (0 : Fin 1) q) (by
    rw [Shape.rowMajor_val_three, Shape.rowMajor_val_two]
    show (r.val * 1 + 0) * 1024 + q.val = r.val * 1024 + q.val
    omega)]
  rw [extractStridedSlice_apply ![0, n.val, 0] _ hs _ (ix3 r n q) (by
    intro a
    match a with
    | ⟨0, _⟩ => exact (Nat.zero_add _).symm
    | ⟨1, _⟩ => rfl
    | ⟨2, _⟩ => exact (Nat.zero_add _).symm)]
  rw [shapeCast_apply _ shapeCasts_S32768x3072_S32768x3x1024 _ (ix2 r (⟨1024 * n.val + q.val, by omega⟩ : Fin 3072)) (by
    rw [Shape.rowMajor_val_three, Shape.rowMajor_val_two]
    show r.val * 3072 + (1024 * n.val + q.val) = (r.val * 3 + n.val) * 1024 + q.val
    omega)]
  refine (host_logistic _ _ _ _ (ones _) (ones _)).trans (congrArg Ideal.logistic (extractStridedSlice_apply ![0, 0] z slices_S32768x8960_S32768x3072_0_0 _ (ix2 r (gateCol n q)) ?_))
  intro a
  match a with
  | ⟨0, _⟩ => exact (Nat.zero_add _).symm
  | ⟨1, _⟩ => exact (Nat.zero_add _).symm

theorem three_apply {S : Shape} (A B C D E G : FVec Ideal S .f32) (i : S.Idx) :
    addf (addf (mulf A B) (mulf C D)) (mulf E G) i = (A i : EReal) * B i + C i * D i + E i * G i := rfl

/-- The reference's result is the merge of its arguments. -/
theorem reference_apply (x : FVec Ideal S32768x1024 .f32) (oa ob oc : FVec Ideal S32768x512 .f32) (z : FVec Ideal S32768x8960 .f32)
    (wa wb wc : FVec Ideal S512x1024 .bf16) (wo : FVec Ideal S1024x1024 .bf16) (r : Fin 32768) (l : Fin 1024) :
    addf x (Host.dotGeneral (F := Ideal) dot_S32768x1024_S1024x1024_S32768x1024_1_0_0_1_n_n none
      (addf (addf
        (mulf (shapeCast S32768x1024 (extractStridedSlice S32768x1x1024 ![0, 0, 0] (shapeCast S32768x3x1024 (gatesArr z) shapeCasts_S32768x3072_S32768x3x1024) slices_S32768x3x1024_S32768x1x1024_0_0_0) shapeCasts_S32768x1x1024_S32768x1024)
          (Host.dotGeneral dot_S32768x512_S512x1024_S32768x1024_1_0_0_1_n_n none oa (extf .f32 wa bitsLt_bf16_f32)))
        (mulf (shapeCast S32768x1024 (extractStridedSlice S32768x1x1024 ![0, 1, 0] (shapeCast S32768x3x1024 (gatesArr z) shapeCasts_S32768x3072_S32768x3x1024) slices_S32768x3x1024_S32768x1x1024_0_1_0) shapeCasts_S32768x1x1024_S32768x1024)
          (Host.dotGeneral dot_S32768x512_S512x1024_S32768x1024_1_0_0_1_n_n none ob (extf .f32 wb bitsLt_bf16_f32))))
        (mulf (shapeCast S32768x1024 (extractStridedSlice S32768x1x1024 ![0, 2, 0] (shapeCast S32768x3x1024 (gatesArr z) shapeCasts_S32768x3072_S32768x3x1024) slices_S32768x3x1024_S32768x1x1024_0_2_0) shapeCasts_S32768x1x1024_S32768x1024)
          (Host.dotGeneral dot_S32768x512_S512x1024_S32768x1024_1_0_0_1_n_n none oc (extf .f32 wc bitsLt_bf16_f32))))
      (extf .f32 wo bitsLt_bf16_f32)) (ix2 r l)
      = joined x oa ob oc z wa wb wc wo r l := by
  refine congrArg ((x (ix2 r l) : EReal) + ·) ((host_merged _ _ r l).trans (Finset.sum_congr rfl fun q _ => congrArg (· * (wo (ix2 q l) : EReal)) ?_))
  rw [three_apply, gate_apply z 0 0 rfl, gate_apply z 1 1 rfl, gate_apply z 2 2 rfl, host_branch, host_branch, host_branch]
  rfl

end Cert.Merge

end
-- ==== Proof.MergeClaims.lean ====
/- The claims of the merge call: the frames of its kernel, of the ideal reading and of the reference, and the value
   claim, none of which asks anything of the arguments. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.MergeValue
public import proofs.«01_k».proof.Proof.MergeRef
public import Idealize.ShloMosaic.Adequacy
public import Idealize.ShloMosaic.Init

@[expose] public section

noncomputable section

namespace Cert.Merge

open Idealize.ShloMosaic Idealize.ShloMosaic.ValueIdx Idealize.SL.Sem Cert.Norm

/-- The kernel's frame: it runs, its arguments and its counters end as they began. -/
theorem frame_kernel : Cert.quiescent_Kernel5 (hKernel5 := Cert.Kernel5.Gen.facts) := fun m ρ _ => Cert.Kernel5.Gen.frame m ρ

/-- The ideal kernel's frame. -/
theorem frame_ideal : Cert.quiescent_Kernel5Ideal (hKernel5Ideal := Cert.Kernel5Ideal.Gen.facts) := fun m ρ _ => Cert.Kernel5Ideal.Gen.frame m ρ

/-- The reference's frame: host operations alone, and no counter. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The ideal kernel is the kernel's own text read over the extended reals: no operation is rewritten. -/
theorem preserved : Cert.preserves_Kernel5_Kernel5Ideal := trivial

/-- The value claim: both programs leave the merge of the kernel's arguments. -/
theorem value : Cert.algebraic_Kernel5Ideal_Reference5Ideal (hKernel5Ideal := Cert.Kernel5Ideal.Gen.facts) (hReference5Ideal := Cert.Reference5Ideal.Gen.facts) := by
  intro m ρ m' ρ' _ hm
  refine ⟨fun c => whole m c, ?_, ?_⟩
  · exact (θ_run Cert.Kernel5Ideal.defs _ _).mono (fun r hr c => ⟨(hr c).1.trans (array_eq m c), (hr c).2⟩) (Cert.Kernel5Ideal.Value.run_blocks (F := Ideal) m ρ)
  · refine (θ_run Cert.Reference5Ideal.defs _ _).mono (fun r hr c => ⟨?_, (hr c).2⟩) (Cert.Reference5Ideal.Value.run (F := Ideal) m' ρ')
    obtain ⟨h0, h1, h2, h3, h4, h5, h6, h7, h8⟩ := hm c
    refine (hr c).1.trans ?_
    rw [h0, h1, h2, h3, h4, h5, h6, h7, h8]
    funext i
    have e : i = ix2 (i 0) (i 1) := funext fun a => by
      match a with
      | ⟨0, _⟩ => rfl
      | ⟨1, _⟩ => rfl
    rw [e]
    exact reference_apply (xArr m c) (aArr m c) (bArr m c) (dArr m c) (zArr m c) (waArr m c) (wbArr m c) (wdArr m c) (woArr m c) (i 0) (i 1)

end Cert.Merge

end
-- ==== Proof.lean ====
/- The proof of the claims of `Cert.Claim`. Of each of the five calls: the frames of the kernel and of its ideal
   reading, the frame of the reference, the preservation of the ideal reading, and the value claim. The latent branch's
   attention is here; the forget-gate branch's is in `Proof.FoxClaims`, the feed-forward part in `Proof.FfnClaims`, the
   input projection in `Proof.ProjClaims`, the merge of the branches in `Proof.MergeClaims`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_tables
public import proofs.«01_k».proof.Proof.Gen.Pre_attends
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Reference2Ideal.Run
public import proofs.«01_k».proof.Proof.Gen.Pre_tables2
public import proofs.«01_k».proof.Proof.Gen.Pre_attends2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Pinned
public import proofs.«01_k».proof.Proof.Attends
public import proofs.«01_k».proof.Proof.KernelValue
public import proofs.«01_k».proof.Proof.RefValue
public import proofs.«01_k».proof.Proof.FoxClaims
public import proofs.«01_k».proof.Proof.FfnClaims
public import proofs.«01_k».proof.Proof.ProjClaims
public import proofs.«01_k».proof.Proof.MergeClaims
public import Idealize.ShloMosaic.Adequacy
public import Idealize.ShloMosaic.Init

@[expose] public section

noncomputable section

namespace Cert.Proof

open Idealize.ShloMosaic Idealize.SL.Sem Cert.Attn

/-- What `attends` says of the ideal kernel's memory, on one device. -/
theorem decoded (m : (ℓ : Loc Cert.KernelIdeal.nD Cert.KernelIdeal.τ Cert.KernelIdeal.sig) → Buf (Elt Ideal) ℓ)
    (h : Cert.Pre_KernelIdeal_attends m) (c : Dev Cert.KernelIdeal.nD) :
    Walks (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ (∀ i, qArr m c i ≠ ⊤ ∧ qArr m c i ≠ ⊥) ∧ (∀ i, kArr m c i ≠ ⊤ ∧ kArr m c i ≠ ⊥)
      ∧ ∀ (b : Fin 2) (j : Fin 32) (h : Fin 8) (x : Fin 512) (r : Fin 640), r.val = 80 * h.val + 64 → vArr m c (ValueIdx.ix4 b j r x) = 1 :=
  attends_decoded _ _ _ _ _ (h c)

/-- `attends` pins the ideal kernel's tables. -/
theorem pinned_attends (m : (ℓ : Loc Cert.KernelIdeal.nD Cert.KernelIdeal.τ Cert.KernelIdeal.sig) → Buf (Elt Ideal) ℓ)
    (h : Cert.Pre_KernelIdeal_attends m) : Cert.KernelIdeal.Gen.Pinned c0 m :=
  ⟨fun c => ((decoded m h c).1.unique walks_ideal).1, fun c => ((decoded m h c).1.unique walks_ideal).2⟩

/-- The kernel's frame: the tables pinned, it runs, its arguments and its counters end as they began. -/
theorem frame_kernel : Cert.quiescent_Kernel (hKernel := Cert.Kernel.Gen.facts) (hPre_tables := Cert.Pre_tables.Gen.facts) :=
  fun m ρ h => Cert.Kernel.Gen.frame 0 m ρ (pinned_kernel m h)

/-- The ideal kernel's frame. -/
theorem frame_ideal : Cert.quiescent_KernelIdeal (hKernelIdeal := Cert.KernelIdeal.Gen.facts) (hPre_tables := Cert.Pre_tables.Gen.facts) :=
  fun m ρ h => Cert.KernelIdeal.Gen.frame 0 m ρ (pinned_ideal m h)

/-- The ideal kernel's frame, under the value claim's precondition. -/
theorem frame_ideal_attends :
    Cert.quiescent_KernelIdeal_pre_attends (hKernelIdeal := Cert.KernelIdeal.Gen.facts) (hPre_attends := Cert.Pre_attends.Gen.facts) :=
  fun m ρ h => Cert.KernelIdeal.Gen.frame c0 m ρ (pinned_attends m h)

/-- The reference's frame: host operations alone, and no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel differs from the kernel by its mask constant, read as −∞. -/
theorem preserved : Cert.preserves_Kernel_KernelIdeal := IdealRules.named_const.statement _ _ _ _ _ rfl

/-- The value claim: both programs leave the attention of the kernel's queries, keys and values. -/
theorem value : Cert.algebraic_KernelIdeal_ReferenceIdeal_pre_attends (hKernelIdeal := Cert.KernelIdeal.Gen.facts)
    (hReferenceIdeal := Cert.ReferenceIdeal.Gen.facts) (hPre_attends := Cert.Pre_attends.Gen.facts) := by
  intro m ρ m' ρ' h hm
  have hp := pinned_attends m h
  refine ⟨fun c => attention (qArr m c) (kArr m c) (vArr m c), ?_, ?_⟩
  · refine (θ_run Cert.KernelIdeal.defs _ _).mono (fun r hr c => ?_)
      (θ_run_and (Cert.KernelIdeal.Gen.run_main c0 m ρ hp) (Cert.KernelIdeal.Gen.unchanged c0 m ρ hp))
    obtain ⟨-, hQ, hK, hV⟩ := decoded m h c
    exact ⟨((hr.1 c).1 (3 : Fin 4)).trans (output_array m ρ c hQ hK hV), hr.2 c⟩
  · refine (θ_run Cert.ReferenceIdeal.defs _ _).mono (fun r hr c => ⟨?_, (hr c).2⟩) (Cert.ReferenceIdeal.Value.run (F := Ideal) m' ρ')
    obtain ⟨-, hQ, hK, -⟩ := decoded m h c
    obtain ⟨-, -, h2, h3, h4⟩ := hm c
    refine (hr c).1.trans ((res_eq m' c).trans ?_)
    refine Eq.trans ?_ (refAttention_eq (qArr m c) (kArr m c) (vArr m c) hQ hK)
    exact congr (congr (congrArg refAttention h2) h3) h4

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_tables.Gen.facts, Cert.Pre_attends.Gen.facts, Cert.Pre_tables2.Gen.facts, Cert.Pre_attends2.Gen.facts,
  frame_kernel, frame_ideal, frame_ideal_attends, frame_reference, fun m ρ _ => frame_reference m ρ trivial,
  Fox.frame_kernel, Fox.frame_ideal, Fox.frame_ideal_attends, Fox.frame_reference, fun m ρ _ => Fox.frame_reference m ρ trivial,
  Cert.Ffn.frame_kernel, Cert.Ffn.frame_ideal, Cert.Ffn.frame_reference,
  Cert.Proj.frame_kernel, Cert.Proj.frame_ideal, Cert.Proj.frame_reference,
  Cert.Merge.frame_kernel, Cert.Merge.frame_ideal, Cert.Merge.frame_reference,
  preserved, value, Fox.preserved, Fox.value, Cert.Ffn.preserved, Cert.Ffn.value, Cert.Proj.preserved, Cert.Proj.value,
  Cert.Merge.preserved, Cert.Merge.value⟩

end Cert.Proof

end
